-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v89) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v49_0)) (v1 : (c : Dev Cert.Kernel4Ideal.nD) → Buf (Elt Ideal) ((c.tc : Thread Cert.Kernel4Ideal.nD Cert.Kernel4Ideal.τ).loc Cert.Kernel4Ideal.main_v49_1)) (v2 : (c : Dev Cert.Kernel4Ideal.nD) → Buf (Elt Ideal) ((c.tc : Thread Cert.Kernel4Ideal.nD Cert.Kernel4Ideal.τ).loc Cert.Kernel4Ideal.main_v49_2)) (v3 : (c : Dev Cert.Kernel4Ideal.nD) → Buf (Elt Ideal) ((c.tc : Thread Cert.Kernel4Ideal.nD Cert.Kernel4Ideal.τ).loc Cert.Kernel4Ideal.main_v49_3)) (v4 : (c : Dev Cert.Kernel4Ideal.nD) → Buf (Elt Ideal) ((c.tc : Thread Cert.Kernel4Ideal.nD Cert.Kernel4Ideal.τ).loc Cert.Kernel4Ideal.main_v49_4)) (v5 : (c : Dev Cert.Kernel4Ideal.nD) → Buf (Elt Ideal) ((c.tc : Thread Cert.Kernel4Ideal.nD Cert.Kernel4Ideal.τ).loc Cert.Kernel4Ideal.main_v49_5)) (v6 : (c : Dev Cert.Kernel4Ideal.nD) → Buf (Elt Ideal) ((c.tc : Thread Cert.Kernel4Ideal.nD Cert.Kernel4Ideal.τ).loc Cert.Kernel4Ideal.main_v49_6)) (v7 : (c : Dev Cert.Kernel4Ideal.nD) → Buf (Elt Ideal) ((c.tc : Thread Cert.Kernel4Ideal.nD Cert.Kernel4Ideal.τ).loc Cert.Kernel4Ideal.main_v49_8)) (v8 : (c : Dev Cert.Kernel4Ideal.nD) → Buf (Elt Ideal) ((c.tc : Thread Cert.Kernel4Ideal.nD Cert.Kernel4Ideal.τ).loc Cert.Kernel4Ideal.main_v49_9)) (v9 : (c : Dev Cert.Kernel4Ideal.nD) → Buf (Elt Ideal) ((c.tc : Thread Cert.Kernel4Ideal.nD Cert.Kernel4Ideal.τ).loc Cert.Kernel4Ideal.main_v49_10)) (v10 : (c : Dev Cert.Kernel4Ideal.nD) → Buf (Elt Ideal) ((c.tc : Thread Cert.Kernel4Ideal.nD Cert.Kernel4Ideal.τ).loc Cert.Kernel4Ideal.main_v49_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v49_0) = v0 c
          ∧ r.2.mem ((c.tc : Thread Cert.Kernel4Ideal.nD Cert.Kernel4Ideal.τ).loc Cert.Kernel4Ideal.main_v49_1) = v1 c
          ∧ r.2.mem ((c.tc : Thread Cert.Kernel4Ideal.nD Cert.Kernel4Ideal.τ).loc Cert.Kernel4Ideal.main_v49_2) = v2 c
          ∧ r.2.mem ((c.tc : Thread Cert.Kernel4Ideal.nD Cert.Kernel4Ideal.τ).loc Cert.Kernel4Ideal.main_v49_3) = v3 c
          ∧ r.2.mem ((c.tc : Thread Cert.Kernel4Ideal.nD Cert.Kernel4Ideal.τ).loc Cert.Kernel4Ideal.main_v49_4) = v4 c
          ∧ r.2.mem ((c.tc : Thread Cert.Kernel4Ideal.nD Cert.Kernel4Ideal.τ).loc Cert.Kernel4Ideal.main_v49_5) = v5 c
          ∧ r.2.mem ((c.tc : Thread Cert.Kernel4Ideal.nD Cert.Kernel4Ideal.τ).loc Cert.Kernel4Ideal.main_v49_6) = v6 c
          ∧ r.2.mem ((c.tc : Thread Cert.Kernel4Ideal.nD Cert.Kernel4Ideal.τ).loc Cert.Kernel4Ideal.main_v49_8) = v7 c
          ∧ r.2.mem ((c.tc : Thread Cert.Kernel4Ideal.nD Cert.Kernel4Ideal.τ).loc Cert.Kernel4Ideal.main_v49_9) = v8 c
          ∧ r.2.mem ((c.tc : Thread Cert.Kernel4Ideal.nD Cert.Kernel4Ideal.τ).loc Cert.Kernel4Ideal.main_v49_10) = v9 c
          ∧ r.2.mem ((c.tc : Thread Cert.Kernel4Ideal.nD Cert.Kernel4Ideal.τ).loc Cert.Kernel4Ideal.main_v49_11) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v80) = v0 c
          ∧ r.2.mem ((c.tc : Thread Cert.Reference4Ideal.nD Cert.Reference4Ideal.τ).loc Cert.Reference4Ideal.main_v81) = v1 c
          ∧ r.2.mem ((c.tc : Thread Cert.Reference4Ideal.nD Cert.Reference4Ideal.τ).loc Cert.Reference4Ideal.main_v83) = v2 c
          ∧ r.2.mem ((c.tc : Thread Cert.Reference4Ideal.nD Cert.Reference4Ideal.τ).loc Cert.Reference4Ideal.main_v85) = v3 c
          ∧ r.2.mem ((c.tc : Thread Cert.Reference4Ideal.nD Cert.Reference4Ideal.τ).loc Cert.Reference4Ideal.main_v95) = v4 c
          ∧ r.2.mem ((c.tc : Thread Cert.Reference4Ideal.nD Cert.Reference4Ideal.τ).loc Cert.Reference4Ideal.main_v62) = v5 c
          ∧ r.2.mem ((c.tc : Thread Cert.Reference4Ideal.nD Cert.Reference4Ideal.τ).loc Cert.Reference4Ideal.main_v79) = v6 c
          ∧ r.2.mem ((c.tc : Thread Cert.Reference4Ideal.nD Cert.Reference4Ideal.τ).loc Cert.Reference4Ideal.main_v87) = v7 c
          ∧ r.2.mem ((c.tc : Thread Cert.Reference4Ideal.nD Cert.Reference4Ideal.τ).loc Cert.Reference4Ideal.main_v88) = v8 c
          ∧ r.2.mem ((c.tc : Thread Cert.Reference4Ideal.nD Cert.Reference4Ideal.τ).loc Cert.Reference4Ideal.main_v89) = v9 c
          ∧ r.2.mem ((c.tc : Thread Cert.Reference4Ideal.nD Cert.Reference4Ideal.τ).loc Cert.Reference4Ideal.main_v90) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def preserves_Kernel7_Kernel7Ideal : Prop :=
  True

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hKernel7 : Cert.Kernel7.Facts) (hKernel7Ideal : Cert.Kernel7Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel7 (hKernel7 := hKernel7)
    ∧ quiescent_Kernel7Ideal (hKernel7Ideal := hKernel7Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ preserves_Kernel7_Kernel7Ideal
-- ==== Kernel.lean ====
abbrev S128x8x128x128 : Shape := ⟨4, ![128, 8, 128, 128]⟩
abbrev S128x8x128x256 : Shape := ⟨4, ![128, 8, 128, 256]⟩
abbrev S8x16384 : Shape := ⟨2, ![8, 16384]⟩
abbrev S16384x128 : Shape := ⟨2, ![16384, 128]⟩
abbrev S16384x256 : Shape := ⟨2, ![16384, 256]⟩
abbrev S64x272x256 : Shape := ⟨3, ![64, 272, 256]⟩
abbrev S8x640x128 : Shape := ⟨3, ![8, 640, 128]⟩
abbrev S1x1024 : Shape := ⟨2, ![1, 1024]⟩
abbrev S8x64x256 : Shape := ⟨3, ![8, 64, 256]⟩
abbrev S64x256x128 : Shape := ⟨3, ![64, 256, 128]⟩
abbrev S64x256x256 : Shape := ⟨3, ![64, 256, 256]⟩
abbrev S16384x512 : Shape := ⟨2, ![16384, 512]⟩
abbrev S1x8x128x128 : Shape := ⟨4, ![1, 8, 128, 128]⟩
abbrev S1x8x128x256 : Shape := ⟨4, ![1, 8, 128, 256]⟩
abbrev S8x128 : Shape := ⟨2, ![8, 128]⟩
abbrev S32x256x128 : Shape := ⟨3, ![32, 256, 128]⟩
abbrev S32x256x256 : Shape := ⟨3, ![32, 256, 256]⟩
abbrev S32x272x256 : Shape := ⟨3, ![32, 272, 256]⟩
abbrev S128x512 : Shape := ⟨2, ![128, 512]⟩
abbrev S2x32x256x128 : Shape := ⟨4, ![2, 32, 256, 128]⟩
abbrev S32x33x8x128 : Shape := ⟨4, ![32, 33, 8, 128]⟩
abbrev S33x8x128 : Shape := ⟨3, ![33, 8, 128]⟩
abbrev S2x1x128 : Shape := ⟨3, ![2, 1, 128]⟩
abbrev S4x272x256 : Shape := ⟨3, ![4, 272, 256]⟩
abbrev S256x1152 : Shape := ⟨2, ![256, 1152]⟩
abbrev S1x1 : Shape := ⟨2, ![1, 1]⟩
abbrev S4x128x256 : Shape := ⟨3, ![4, 128, 256]⟩
abbrev S4x256x256 : Shape := ⟨3, ![4, 256, 256]⟩
abbrev S256x128 : Shape := ⟨2, ![256, 128]⟩
abbrev S8x256 : Shape := ⟨2, ![8, 256]⟩
abbrev S1x1x256x128 : Shape := ⟨4, ![1, 1, 256, 128]⟩
abbrev S1x128 : Shape := ⟨2, ![1, 128]⟩
abbrev S1x1x128 : Shape := ⟨3, ![1, 1, 128]⟩
abbrev S1x256 : Shape := ⟨2, ![1, 256]⟩
abbrev S1x256x256 : Shape := ⟨3, ![1, 256, 256]⟩
abbrev S256x256 : Shape := ⟨2, ![256, 256]⟩
abbrev S1 : Shape := ⟨1, ![1]⟩
abbrev S1x2x128x128 : Shape := ⟨4, ![1, 2, 128, 128]⟩
abbrev S2x128x128 : Shape := ⟨3, ![2, 128, 128]⟩
abbrev S128x256 : Shape := ⟨2, ![128, 256]⟩
abbrev S1x128x256 : Shape := ⟨3, ![1, 128, 256]⟩
abbrev S1x2x128x256 : Shape := ⟨4, ![1, 2, 128, 256]⟩
abbrev S2x128x256 : Shape := ⟨3, ![2, 128, 256]⟩
abbrev S1x272x256 : Shape := ⟨3, ![1, 272, 256]⟩
abbrev S272x256 : Shape := ⟨2, ![272, 256]⟩
abbrev S1x256x128 : Shape := ⟨3, ![1, 256, 128]⟩
abbrev S1x1x8x128 : Shape := ⟨4, ![1, 1, 8, 128]⟩
abbrev S8x8x128 : Shape := ⟨3, ![8, 8, 128]⟩
abbrev S1x8x8x128 : Shape := ⟨4, ![1, 8, 8, 128]⟩
abbrev S128 : Shape := ⟨1, ![128]⟩
abbrev S16x8x128 : Shape := ⟨3, ![16, 8, 128]⟩
abbrev S1x16x8x128 : Shape := ⟨4, ![1, 16, 8, 128]⟩
abbrev S24x8x128 : Shape := ⟨3, ![24, 8, 128]⟩
abbrev S1x24x8x128 : Shape := ⟨4, ![1, 24, 8, 128]⟩
abbrev S1x33x8x128 : Shape := ⟨4, ![1, 33, 8, 128]⟩
abbrev S1x1x1 : Shape := ⟨3, ![1, 1, 1]⟩
abbrev S32x8x128 : Shape := ⟨3, ![32, 8, 128]⟩
abbrev S1x1x256 : Shape := ⟨3, ![1, 1, 256]⟩
abbrev S1x1x1024 : Shape := ⟨3, ![1, 1, 1024]⟩
abbrev S1x272x128 : Shape := ⟨3, ![1, 272, 128]⟩
abbrev S272x128 : Shape := ⟨2, ![272, 128]⟩
abbrev S1x64x256 : Shape := ⟨3, ![1, 64, 256]⟩
abbrev S64x256 : Shape := ⟨2, ![64, 256]⟩
abbrev S64x128 : Shape := ⟨2, ![64, 128]⟩
abbrev S512x128 : Shape := ⟨2, ![512, 128]⟩

abbrev nBuf : Space → Nat
  | .hbm => 12
  | .vmem => 24
  | .smem => 0
  | _ => 0

abbrev bufTy : (tb : Table) → Fin (tcTables nBuf tb) → BufTy
  | .hbm, ⟨0, _⟩ => ⟨S128x8x128x128, .bf16⟩
  | .hbm, ⟨1, _⟩ => ⟨S128x8x128x256, .bf16⟩
  | .hbm, ⟨2, _⟩ => ⟨S8x16384, .f32⟩
  | .hbm, ⟨3, _⟩ => ⟨S16384x128, .bf16⟩
  | .hbm, ⟨4, _⟩ => ⟨S16384x256, .bf16⟩
  | .hbm, ⟨5, _⟩ => ⟨S64x272x256, .bf16⟩
  | .hbm, ⟨6, _⟩ => ⟨S8x640x128, .f32⟩
  | .hbm, ⟨7, _⟩ => ⟨S1x1024, .f32⟩
  | .hbm, ⟨8, _⟩ => ⟨S8x64x256, .bf16⟩
  | .hbm, ⟨9, _⟩ => ⟨S64x256x128, .bf16⟩
  | .hbm, ⟨10, _⟩ => ⟨S64x256x256, .bf16⟩
  | .hbm, ⟨11, _⟩ => ⟨S16384x512, .bf16⟩
  | .local _ .vmem, ⟨0, _⟩ => ⟨S1x8x128x128, .bf16⟩
  | .local _ .vmem, ⟨1, _⟩ => ⟨S1x8x128x128, .bf16⟩
  | .local _ .vmem, ⟨2, _⟩ => ⟨S1x8x128x256, .bf16⟩
  | .local _ .vmem, ⟨3, _⟩ => ⟨S1x8x128x256, .bf16⟩
  | .local _ .vmem, ⟨4, _⟩ => ⟨S8x128, .f32⟩
  | .local _ .vmem, ⟨5, _⟩ => ⟨S8x128, .f32⟩
  | .local _ .vmem, ⟨6, _⟩ => ⟨S32x256x128, .bf16⟩
  | .local _ .vmem, ⟨7, _⟩ => ⟨S32x256x256, .bf16⟩
  | .local _ .vmem, ⟨8, _⟩ => ⟨S32x272x256, .bf16⟩
  | .local _ .vmem, ⟨9, _⟩ => ⟨S8x640x128, .f32⟩
  | .local _ .vmem, ⟨10, _⟩ => ⟨S1x1024, .f32⟩
  | .local _ .vmem, ⟨11, _⟩ => ⟨S8x64x256, .bf16⟩
  | .local _ .vmem, ⟨12, _⟩ => ⟨S128x512, .bf16⟩
  | .local _ .vmem, ⟨13, _⟩ => ⟨S128x512, .bf16⟩
  | .local _ .vmem, ⟨14, _⟩ => ⟨S2x32x256x128, .i32⟩
  | .local _ .vmem, ⟨15, _⟩ => ⟨S32x33x8x128, .i32⟩
  | .local _ .vmem, ⟨16, _⟩ => ⟨S33x8x128, .i32⟩
  | .local _ .vmem, ⟨17, _⟩ => ⟨S2x1x128, .i32⟩
  | .local _ .vmem, ⟨18, _⟩ => ⟨S4x272x256, .f32⟩
  | .local _ .vmem, ⟨19, _⟩ => ⟨S1x1024, .f32⟩
  | .local _ .vmem, ⟨20, _⟩ => ⟨S256x1152, .f32⟩
  | .local _ .vmem, ⟨21, _⟩ => ⟨S1x1, .f32⟩
  | .local _ .vmem, ⟨22, _⟩ => ⟨S4x128x256, .bf16⟩
  | .local _ .vmem, ⟨23, _⟩ => ⟨S4x256x256, .bf16⟩
  | _, _ => ⟨S128x8x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [BitOps F]

abbrev grid0 : Pipeline.Grid := ⟨2, ![2, 65], ![false, false]⟩

def k0_cond1 (i : grid0.Coords) : BitVec 1 :=
  let arg1 : BitVec 32 := BitVec.ofNat 32 (i 1).val
  let c0_i32_19 : BitVec 32 := 0#32
  let v47 : BitVec 1 := Scalar.cmpi .eq arg1 c0_i32_19
  let v48 : BitVec 32 := Scalar.extui v47
  let c0_i32_20 : BitVec 32 := 0#32
  let v49 : BitVec 1 := Scalar.cmpi .ne v48 c0_i32_20
  v49

@[reducible] def k0_t1_loop : Scf.Loop 32 :=
  let c0_i32_222 : BitVec 32 := 0#32
  let c32_i32 : BitVec 32 := 32#32
  let v319 : BitVec 32 := Scalar.addi c0_i32_222 c32_i32
  let c1_i32_223 : BitVec 32 := 1#32
  ⟨c0_i32_222, v319, c1_i32_223⟩
def k0_off1 (k0_t1 : Fin k0_t1_loop.trips) : Fin 3 → Nat :=
  let c0_i32_222 : BitVec 32 := 0#32
  let c1_i32_223 : BitVec 32 := 1#32
  let arg22 : BitVec 32 := Scf.iv c0_i32_222 c1_i32_223 k0_t1
  let v326 : Index := Scalar.indexCast arg22
  let c0_228 : Index := 0#32
  let c0_229 : Index := 0#32
  ![v326.toNat, 0, 0]
def k0_off2 (i : grid0.Coords) : Fin 3 → Nat :=
  let c1_i32_2 : BitVec 32 := 1#32
  let arg1 : BitVec 32 := BitVec.ofNat 32 (i 1).val
  let c1_i32_1 : BitVec 32 := 1#32
  let v4 : BitVec 32 := Scalar.andi arg1 c1_i32_1
  let v5 : BitVec 32 := Scalar.subi c1_i32_2 v4
  let v165 : Index := Scalar.indexCast v5
  let c0_97 : Index := 0#32
  let c0_98 : Index := 0#32
  ![v165.toNat, 0, 0]
@[reducible] def k0_t2_loop (i : grid0.Coords) : Scf.Loop 32 :=
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_171 : BitVec 32 := 1#32
  ⟨c0_i32_169, v246, c1_i32_171⟩
def k0_off3 (i : grid0.Coords) (k0_t2 : Fin (k0_t2_loop i).trips) (c0_i32_208 : BitVec 32) : Fin 4 → Nat :=
  let c1_i32_2 : BitVec 32 := 1#32
  let arg1 : BitVec 32 := BitVec.ofNat 32 (i 1).val
  let c1_i32_1 : BitVec 32 := 1#32
  let v4 : BitVec 32 := Scalar.andi arg1 c1_i32_1
  let v5 : BitVec 32 := Scalar.subi c1_i32_2 v4
  let v315 : Index := Scalar.indexCast v5
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let v316 : Index := Scalar.indexCast v307
  let c0_212 : Index := 0#32
  let c0_213 : Index := 0#32
  ![v315.toNat, v316.toNat, 0, 0]
def k0_off4 (i : grid0.Coords) (k0_t2 : Fin (k0_t2_loop i).trips) (c0_i32_208 : BitVec 32) : Fin 3 → Nat :=
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let v321 : Index := Scalar.indexCast v307
  let c0_214 : Index := 0#32
  let c0_215 : Index := 0#32
  ![v321.toNat, 0, 0]
def k0_mult1 (i : grid0.Coords) (k0_t2 : Fin (k0_t2_loop i).trips) : BitVec 32 :=
  let c384_i32_217 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let c0_i32_208 : BitVec 32 := 0#32
  let v307 : BitVec 32 := Scalar.addi v306 c0_i32_208
  let c256_i32_216 : BitVec 32 := 256#32
  let v324 : BitVec 32 := Scalar.muli v307 c256_i32_216
  let v325 : BitVec 32 := Scalar.subi v43 v324
  let c384_i32 : BitVec 32 := 384#32
  let v326 : BitVec 32 := Scalar.minsi v325 c384_i32
  let v327 : BitVec 32 := Scalar.subi c384_i32_217 v326
  v327
def k0_off5 (i : grid0.Coords) (k0_t2 : Fin (k0_t2_loop i).trips) (c0_i32_208 : BitVec 32) : Fin 3 → Nat :=
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let v330 : Index := Scalar.indexCast v307
  let c0_219 : Index := 0#32
  let c0_220 : Index := 0#32
  ![v330.toNat, 0, 0]
def k0_off6 (i : grid0.Coords) (k0_t2 : Fin (k0_t2_loop i).trips) (c0_i32_208 : BitVec 32) : Fin 3 → Nat :=
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_209 : BitVec 32 := 1#32
  let v308 : BitVec 32 := Scalar.addi v307 c1_i32_209
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_210 : BitVec 32 := 1#32
  let v309 : BitVec 32 := Scalar.subi v41 c1_i32_210
  let v310 : BitVec 32 := Scalar.minsi v308 v309
  let v425 : Index := Scalar.indexCast v310
  let c0_255 : Index := 0#32
  let c0_256 : Index := 0#32
  ![v425.toNat, 0, 0]
def k0_off7 (i : grid0.Coords) (k0_t2 : Fin (k0_t2_loop i).trips) (c0_i32_208 : BitVec 32) : Fin 4 → Nat :=
  let arg1 : BitVec 32 := BitVec.ofNat 32 (i 1).val
  let c1_i32_1 : BitVec 32 := 1#32
  let v4 : BitVec 32 := Scalar.andi arg1 c1_i32_1
  let v560 : Index := Scalar.indexCast v4
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let v561 : Index := Scalar.indexCast v307
  let c0_333 : Index := 0#32
  let c0_334 : Index := 0#32
  ![v560.toNat, v561.toNat, 0, 0]
def k0_off8 (i : grid0.Coords) (k0_t2 : Fin (k0_t2_loop i).trips) (c0_i32_208 : BitVec 32) : Fin 4 → Nat :=
  let c0_572 : Index := 0#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_570 : BitVec 32 := 1#32
  let v1319 : BitVec 32 := Scalar.muli v307 c1_i32_570
  let c0_i32_571 : BitVec 32 := 0#32
  let v1320 : BitVec 32 := Scalar.addi v1319 c0_i32_571
  let v1321 : Index := Scalar.indexCast v1320
  let c0_573 : Index := 0#32
  let c0_574 : Index := 0#32
  ![0, v1321.toNat, 0, 0]
def k0_off9 (i : grid0.Coords) (k0_t2 : Fin (k0_t2_loop i).trips) (c0_i32_208 : BitVec 32) : Fin 4 → Nat :=
  let c1_577 : Index := 1#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_575 : BitVec 32 := 1#32
  let v1325 : BitVec 32 := Scalar.muli v307 c1_i32_575
  let c0_i32_576 : BitVec 32 := 0#32
  let v1326 : BitVec 32 := Scalar.addi v1325 c0_i32_576
  let v1327 : Index := Scalar.indexCast v1326
  let c0_578 : Index := 0#32
  let c0_579 : Index := 0#32
  ![1, v1327.toNat, 0, 0]
def k0_off10 (i : grid0.Coords) (k0_t2 : Fin (k0_t2_loop i).trips) (c0_i32_208 : BitVec 32) : Fin 4 → Nat :=
  let c2_582 : Index := 2#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_580 : BitVec 32 := 1#32
  let v1331 : BitVec 32 := Scalar.muli v307 c1_i32_580
  let c0_i32_581 : BitVec 32 := 0#32
  let v1332 : BitVec 32 := Scalar.addi v1331 c0_i32_581
  let v1333 : Index := Scalar.indexCast v1332
  let c0_583 : Index := 0#32
  let c0_584 : Index := 0#32
  ![2, v1333.toNat, 0, 0]
def k0_off11 (i : grid0.Coords) (k0_t2 : Fin (k0_t2_loop i).trips) (c0_i32_208 : BitVec 32) : Fin 4 → Nat :=
  let c3_587 : Index := 3#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_585 : BitVec 32 := 1#32
  let v1337 : BitVec 32 := Scalar.muli v307 c1_i32_585
  let c0_i32_586 : BitVec 32 := 0#32
  let v1338 : BitVec 32 := Scalar.addi v1337 c0_i32_586
  let v1339 : Index := Scalar.indexCast v1338
  let c0_588 : Index := 0#32
  let c0_589 : Index := 0#32
  ![3, v1339.toNat, 0, 0]
def k0_off12 (i : grid0.Coords) (k0_t2 : Fin (k0_t2_loop i).trips) (c0_i32_208 : BitVec 32) : Fin 4 → Nat :=
  let c4_592 : Index := 4#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_590 : BitVec 32 := 1#32
  let v1343 : BitVec 32 := Scalar.muli v307 c1_i32_590
  let c0_i32_591 : BitVec 32 := 0#32
  let v1344 : BitVec 32 := Scalar.addi v1343 c0_i32_591
  let v1345 : Index := Scalar.indexCast v1344
  let c0_593 : Index := 0#32
  let c0_594 : Index := 0#32
  ![4, v1345.toNat, 0, 0]
def k0_off13 (i : grid0.Coords) (k0_t2 : Fin (k0_t2_loop i).trips) (c0_i32_208 : BitVec 32) : Fin 4 → Nat :=
  let c5_597 : Index := 5#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_595 : BitVec 32 := 1#32
  let v1349 : BitVec 32 := Scalar.muli v307 c1_i32_595
  let c0_i32_596 : BitVec 32 := 0#32
  let v1350 : BitVec 32 := Scalar.addi v1349 c0_i32_596
  let v1351 : Index := Scalar.indexCast v1350
  let c0_598 : Index := 0#32
  let c0_599 : Index := 0#32
  ![5, v1351.toNat, 0, 0]
def k0_off14 (i : grid0.Coords) (k0_t2 : Fin (k0_t2_loop i).trips) (c0_i32_208 : BitVec 32) : Fin 4 → Nat :=
  let c6_602 : Index := 6#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_600 : BitVec 32 := 1#32
  let v1355 : BitVec 32 := Scalar.muli v307 c1_i32_600
  let c0_i32_601 : BitVec 32 := 0#32
  let v1356 : BitVec 32 := Scalar.addi v1355 c0_i32_601
  let v1357 : Index := Scalar.indexCast v1356
  let c0_603 : Index := 0#32
  let c0_604 : Index := 0#32
  ![6, v1357.toNat, 0, 0]
def k0_off15 (i : grid0.Coords) (k0_t2 : Fin (k0_t2_loop i).trips) (c0_i32_208 : BitVec 32) : Fin 4 → Nat :=
  let c7_607 : Index := 7#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_605 : BitVec 32 := 1#32
  let v1361 : BitVec 32 := Scalar.muli v307 c1_i32_605
  let c0_i32_606 : BitVec 32 := 0#32
  let v1362 : BitVec 32 := Scalar.addi v1361 c0_i32_606
  let v1363 : Index := Scalar.indexCast v1362
  let c0_608 : Index := 0#32
  let c0_609 : Index := 0#32
  ![7, v1363.toNat, 0, 0]
def k0_off16 (i : grid0.Coords) (k0_t2 : Fin (k0_t2_loop i).trips) (c0_i32_208 : BitVec 32) : Fin 4 → Nat :=
  let c8 : Index := 8#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_610 : BitVec 32 := 1#32
  let v1367 : BitVec 32 := Scalar.muli v307 c1_i32_610
  let c0_i32_611 : BitVec 32 := 0#32
  let v1368 : BitVec 32 := Scalar.addi v1367 c0_i32_611
  let v1369 : Index := Scalar.indexCast v1368
  let c0_612 : Index := 0#32
  let c0_613 : Index := 0#32
  ![8, v1369.toNat, 0, 0]
def k0_off17 (i : grid0.Coords) (k0_t2 : Fin (k0_t2_loop i).trips) (c0_i32_208 : BitVec 32) : Fin 4 → Nat :=
  let c9 : Index := 9#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_614 : BitVec 32 := 1#32
  let v1373 : BitVec 32 := Scalar.muli v307 c1_i32_614
  let c0_i32_615 : BitVec 32 := 0#32
  let v1374 : BitVec 32 := Scalar.addi v1373 c0_i32_615
  let v1375 : Index := Scalar.indexCast v1374
  let c0_616 : Index := 0#32
  let c0_617 : Index := 0#32
  ![9, v1375.toNat, 0, 0]
def k0_off18 (i : grid0.Coords) (k0_t2 : Fin (k0_t2_loop i).trips) (c0_i32_208 : BitVec 32) : Fin 4 → Nat :=
  let c10 : Index := 10#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_618 : BitVec 32 := 1#32
  let v1379 : BitVec 32 := Scalar.muli v307 c1_i32_618
  let c0_i32_619 : BitVec 32 := 0#32
  let v1380 : BitVec 32 := Scalar.addi v1379 c0_i32_619
  let v1381 : Index := Scalar.indexCast v1380
  let c0_620 : Index := 0#32
  let c0_621 : Index := 0#32
  ![10, v1381.toNat, 0, 0]
def k0_off19 (i : grid0.Coords) (k0_t2 : Fin (k0_t2_loop i).trips) (c0_i32_208 : BitVec 32) : Fin 4 → Nat :=
  let c11 : Index := 11#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_622 : BitVec 32 := 1#32
  let v1385 : BitVec 32 := Scalar.muli v307 c1_i32_622
  let c0_i32_623 : BitVec 32 := 0#32
  let v1386 : BitVec 32 := Scalar.addi v1385 c0_i32_623
  let v1387 : Index := Scalar.indexCast v1386
  let c0_624 : Index := 0#32
  let c0_625 : Index := 0#32
  ![11, v1387.toNat, 0, 0]
def k0_off20 (i : grid0.Coords) (k0_t2 : Fin (k0_t2_loop i).trips) (c0_i32_208 : BitVec 32) : Fin 4 → Nat :=
  let c12 : Index := 12#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_626 : BitVec 32 := 1#32
  let v1391 : BitVec 32 := Scalar.muli v307 c1_i32_626
  let c0_i32_627 : BitVec 32 := 0#32
  let v1392 : BitVec 32 := Scalar.addi v1391 c0_i32_627
  let v1393 : Index := Scalar.indexCast v1392
  let c0_628 : Index := 0#32
  let c0_629 : Index := 0#32
  ![12, v1393.toNat, 0, 0]
def k0_off21 (i : grid0.Coords) (k0_t2 : Fin (k0_t2_loop i).trips) (c0_i32_208 : BitVec 32) : Fin 4 → Nat :=
  let c13 : Index := 13#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_630 : BitVec 32 := 1#32
  let v1397 : BitVec 32 := Scalar.muli v307 c1_i32_630
  let c0_i32_631 : BitVec 32 := 0#32
  let v1398 : BitVec 32 := Scalar.addi v1397 c0_i32_631
  let v1399 : Index := Scalar.indexCast v1398
  let c0_632 : Index := 0#32
  let c0_633 : Index := 0#32
  ![13, v1399.toNat, 0, 0]
def k0_off22 (i : grid0.Coords) (k0_t2 : Fin (k0_t2_loop i).trips) (c0_i32_208 : BitVec 32) : Fin 4 → Nat :=
  let c14 : Index := 14#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_634 : BitVec 32 := 1#32
  let v1403 : BitVec 32 := Scalar.muli v307 c1_i32_634
  let c0_i32_635 : BitVec 32 := 0#32
  let v1404 : BitVec 32 := Scalar.addi v1403 c0_i32_635
  let v1405 : Index := Scalar.indexCast v1404
  let c0_636 : Index := 0#32
  let c0_637 : Index := 0#32
  ![14, v1405.toNat, 0, 0]
def k0_off23 (i : grid0.Coords) (k0_t2 : Fin (k0_t2_loop i).trips) (c0_i32_208 : BitVec 32) : Fin 4 → Nat :=
  let c15 : Index := 15#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_638 : BitVec 32 := 1#32
  let v1409 : BitVec 32 := Scalar.muli v307 c1_i32_638
  let c0_i32_639 : BitVec 32 := 0#32
  let v1410 : BitVec 32 := Scalar.addi v1409 c0_i32_639
  let v1411 : Index := Scalar.indexCast v1410
  let c0_640 : Index := 0#32
  let c0_641 : Index := 0#32
  ![15, v1411.toNat, 0, 0]
def k0_off24 (i : grid0.Coords) (k0_t2 : Fin (k0_t2_loop i).trips) (c0_i32_208 : BitVec 32) : Fin 4 → Nat :=
  let c16 : Index := 16#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_642 : BitVec 32 := 1#32
  let v1415 : BitVec 32 := Scalar.muli v307 c1_i32_642
  let c0_i32_643 : BitVec 32 := 0#32
  let v1416 : BitVec 32 := Scalar.addi v1415 c0_i32_643
  let v1417 : Index := Scalar.indexCast v1416
  let c0_644 : Index := 0#32
  let c0_645 : Index := 0#32
  ![16, v1417.toNat, 0, 0]
def k0_off25 (i : grid0.Coords) (k0_t2 : Fin (k0_t2_loop i).trips) (c0_i32_208 : BitVec 32) : Fin 4 → Nat :=
  let c17 : Index := 17#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_646 : BitVec 32 := 1#32
  let v1421 : BitVec 32 := Scalar.muli v307 c1_i32_646
  let c0_i32_647 : BitVec 32 := 0#32
  let v1422 : BitVec 32 := Scalar.addi v1421 c0_i32_647
  let v1423 : Index := Scalar.indexCast v1422
  let c0_648 : Index := 0#32
  let c0_649 : Index := 0#32
  ![17, v1423.toNat, 0, 0]
def k0_off26 (i : grid0.Coords) (k0_t2 : Fin (k0_t2_loop i).trips) (c0_i32_208 : BitVec 32) : Fin 4 → Nat :=
  let c18 : Index := 18#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_650 : BitVec 32 := 1#32
  let v1427 : BitVec 32 := Scalar.muli v307 c1_i32_650
  let c0_i32_651 : BitVec 32 := 0#32
  let v1428 : BitVec 32 := Scalar.addi v1427 c0_i32_651
  let v1429 : Index := Scalar.indexCast v1428
  let c0_652 : Index := 0#32
  let c0_653 : Index := 0#32
  ![18, v1429.toNat, 0, 0]
def k0_off27 (i : grid0.Coords) (k0_t2 : Fin (k0_t2_loop i).trips) (c0_i32_208 : BitVec 32) : Fin 4 → Nat :=
  let c19 : Index := 19#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_654 : BitVec 32 := 1#32
  let v1433 : BitVec 32 := Scalar.muli v307 c1_i32_654
  let c0_i32_655 : BitVec 32 := 0#32
  let v1434 : BitVec 32 := Scalar.addi v1433 c0_i32_655
  let v1435 : Index := Scalar.indexCast v1434
  let c0_656 : Index := 0#32
  let c0_657 : Index := 0#32
  ![19, v1435.toNat, 0, 0]
def k0_off28 (i : grid0.Coords) (k0_t2 : Fin (k0_t2_loop i).trips) (c0_i32_208 : BitVec 32) : Fin 4 → Nat :=
  let c20 : Index := 20#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_658 : BitVec 32 := 1#32
  let v1439 : BitVec 32 := Scalar.muli v307 c1_i32_658
  let c0_i32_659 : BitVec 32 := 0#32
  let v1440 : BitVec 32 := Scalar.addi v1439 c0_i32_659
  let v1441 : Index := Scalar.indexCast v1440
  let c0_660 : Index := 0#32
  let c0_661 : Index := 0#32
  ![20, v1441.toNat, 0, 0]
def k0_off29 (i : grid0.Coords) (k0_t2 : Fin (k0_t2_loop i).trips) (c0_i32_208 : BitVec 32) : Fin 4 → Nat :=
  let c21 : Index := 21#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_662 : BitVec 32 := 1#32
  let v1445 : BitVec 32 := Scalar.muli v307 c1_i32_662
  let c0_i32_663 : BitVec 32 := 0#32
  let v1446 : BitVec 32 := Scalar.addi v1445 c0_i32_663
  let v1447 : Index := Scalar.indexCast v1446
  let c0_664 : Index := 0#32
  let c0_665 : Index := 0#32
  ![21, v1447.toNat, 0, 0]
def k0_off30 (i : grid0.Coords) (k0_t2 : Fin (k0_t2_loop i).trips) (c0_i32_208 : BitVec 32) : Fin 4 → Nat :=
  let c22 : Index := 22#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_666 : BitVec 32 := 1#32
  let v1451 : BitVec 32 := Scalar.muli v307 c1_i32_666
  let c0_i32_667 : BitVec 32 := 0#32
  let v1452 : BitVec 32 := Scalar.addi v1451 c0_i32_667
  let v1453 : Index := Scalar.indexCast v1452
  let c0_668 : Index := 0#32
  let c0_669 : Index := 0#32
  ![22, v1453.toNat, 0, 0]
def k0_off31 (i : grid0.Coords) (k0_t2 : Fin (k0_t2_loop i).trips) (c0_i32_208 : BitVec 32) : Fin 4 → Nat :=
  let c23 : Index := 23#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_670 : BitVec 32 := 1#32
  let v1457 : BitVec 32 := Scalar.muli v307 c1_i32_670
  let c0_i32_671 : BitVec 32 := 0#32
  let v1458 : BitVec 32 := Scalar.addi v1457 c0_i32_671
  let v1459 : Index := Scalar.indexCast v1458
  let c0_672 : Index := 0#32
  let c0_673 : Index := 0#32
  ![23, v1459.toNat, 0, 0]
def k0_off32 (i : grid0.Coords) (k0_t2 : Fin (k0_t2_loop i).trips) (c0_i32_208 : BitVec 32) : Fin 4 → Nat :=
  let c24 : Index := 24#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_674 : BitVec 32 := 1#32
  let v1463 : BitVec 32 := Scalar.muli v307 c1_i32_674
  let c0_i32_675 : BitVec 32 := 0#32
  let v1464 : BitVec 32 := Scalar.addi v1463 c0_i32_675
  let v1465 : Index := Scalar.indexCast v1464
  let c0_676 : Index := 0#32
  let c0_677 : Index := 0#32
  ![24, v1465.toNat, 0, 0]
def k0_off33 (i : grid0.Coords) (k0_t2 : Fin (k0_t2_loop i).trips) (c0_i32_208 : BitVec 32) : Fin 4 → Nat :=
  let c25 : Index := 25#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_678 : BitVec 32 := 1#32
  let v1469 : BitVec 32 := Scalar.muli v307 c1_i32_678
  let c0_i32_679 : BitVec 32 := 0#32
  let v1470 : BitVec 32 := Scalar.addi v1469 c0_i32_679
  let v1471 : Index := Scalar.indexCast v1470
  let c0_680 : Index := 0#32
  let c0_681 : Index := 0#32
  ![25, v1471.toNat, 0, 0]
def k0_off34 (i : grid0.Coords) (k0_t2 : Fin (k0_t2_loop i).trips) (c0_i32_208 : BitVec 32) : Fin 4 → Nat :=
  let c26 : Index := 26#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_682 : BitVec 32 := 1#32
  let v1475 : BitVec 32 := Scalar.muli v307 c1_i32_682
  let c0_i32_683 : BitVec 32 := 0#32
  let v1476 : BitVec 32 := Scalar.addi v1475 c0_i32_683
  let v1477 : Index := Scalar.indexCast v1476
  let c0_684 : Index := 0#32
  let c0_685 : Index := 0#32
  ![26, v1477.toNat, 0, 0]
def k0_off35 (i : grid0.Coords) (k0_t2 : Fin (k0_t2_loop i).trips) (c0_i32_208 : BitVec 32) : Fin 4 → Nat :=
  let c27 : Index := 27#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_686 : BitVec 32 := 1#32
  let v1481 : BitVec 32 := Scalar.muli v307 c1_i32_686
  let c0_i32_687 : BitVec 32 := 0#32
  let v1482 : BitVec 32 := Scalar.addi v1481 c0_i32_687
  let v1483 : Index := Scalar.indexCast v1482
  let c0_688 : Index := 0#32
  let c0_689 : Index := 0#32
  ![27, v1483.toNat, 0, 0]
def k0_off36 (i : grid0.Coords) (k0_t2 : Fin (k0_t2_loop i).trips) (c0_i32_208 : BitVec 32) : Fin 4 → Nat :=
  let c28 : Index := 28#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_690 : BitVec 32 := 1#32
  let v1487 : BitVec 32 := Scalar.muli v307 c1_i32_690
  let c0_i32_691 : BitVec 32 := 0#32
  let v1488 : BitVec 32 := Scalar.addi v1487 c0_i32_691
  let v1489 : Index := Scalar.indexCast v1488
  let c0_692 : Index := 0#32
  let c0_693 : Index := 0#32
  ![28, v1489.toNat, 0, 0]
def k0_off37 (i : grid0.Coords) (k0_t2 : Fin (k0_t2_loop i).trips) (c0_i32_208 : BitVec 32) : Fin 4 → Nat :=
  let c29 : Index := 29#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_694 : BitVec 32 := 1#32
  let v1493 : BitVec 32 := Scalar.muli v307 c1_i32_694
  let c0_i32_695 : BitVec 32 := 0#32
  let v1494 : BitVec 32 := Scalar.addi v1493 c0_i32_695
  let v1495 : Index := Scalar.indexCast v1494
  let c0_696 : Index := 0#32
  let c0_697 : Index := 0#32
  ![29, v1495.toNat, 0, 0]
def k0_off38 (i : grid0.Coords) (k0_t2 : Fin (k0_t2_loop i).trips) (c0_i32_208 : BitVec 32) : Fin 4 → Nat :=
  let c30 : Index := 30#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_698 : BitVec 32 := 1#32
  let v1499 : BitVec 32 := Scalar.muli v307 c1_i32_698
  let c0_i32_699 : BitVec 32 := 0#32
  let v1500 : BitVec 32 := Scalar.addi v1499 c0_i32_699
  let v1501 : Index := Scalar.indexCast v1500
  let c0_700 : Index := 0#32
  let c0_701 : Index := 0#32
  ![30, v1501.toNat, 0, 0]
def k0_off39 (i : grid0.Coords) (k0_t2 : Fin (k0_t2_loop i).trips) (c0_i32_208 : BitVec 32) : Fin 4 → Nat :=
  let c31 : Index := 31#32
  let c0_i32_169 : BitVec 32 := 0#32
  let c1_i32_171 : BitVec 32 := 1#32
  let arg22 : BitVec 32 := Scf.iv c0_i32_169 c1_i32_171 k0_t2
  let c6_i32_207 : BitVec 32 := 6#32
  let v306 : BitVec 32 := Scalar.muli arg22 c6_i32_207
  let v307 : BitVec 32 := Scalar.addi v306 c0_i32_208
  let c1_i32_702 : BitVec 32 := 1#32
  let v1505 : BitVec 32 := Scalar.muli v307 c1_i32_702
  let c0_i32_703 : BitVec 32 := 0#32
  let v1506 : BitVec 32 := Scalar.addi v1505 c0_i32_703
  let v1507 : Index := Scalar.indexCast v1506
  let c0_704 : Index := 0#32
  let c0_705 : Index := 0#32
  ![31, v1507.toNat, 0, 0]
def k0_mult2 (i : grid0.Coords) (k0_t2 : Fin (k0_t2_loop i).trips) : BitVec 32 :=
  let c384_i32_718 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c1_i32_171 : BitVec 32 := 1#32
  let arg22 : BitVec 32 := Scf.iv c0_i32_169 c1_i32_171 k0_t2
  let c6_i32_706 : BitVec 32 := 6#32
  let v1511 : BitVec 32 := Scalar.muli arg22 c6_i32_706
  let c1_i32_707 : BitVec 32 := 1#32
  let v1512 : BitVec 32 := Scalar.addi v1511 c1_i32_707
  let c256_i32_716 : BitVec 32 := 256#32
  let v1529 : BitVec 32 := Scalar.muli v1512 c256_i32_716
  let v1530 : BitVec 32 := Scalar.subi v43 v1529
  let c384_i32_717 : BitVec 32 := 384#32
  let v1531 : BitVec 32 := Scalar.minsi v1530 c384_i32_717
  let v1532 : BitVec 32 := Scalar.subi c384_i32_718 v1531
  v1532
def k0_mult3 (i : grid0.Coords) (k0_t2 : Fin (k0_t2_loop i).trips) : BitVec 32 :=
  let c384_i32_1249 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c1_i32_171 : BitVec 32 := 1#32
  let arg22 : BitVec 32 := Scf.iv c0_i32_169 c1_i32_171 k0_t2
  let c6_i32_1237 : BitVec 32 := 6#32
  let v2716 : BitVec 32 := Scalar.muli arg22 c6_i32_1237
  let c2_i32_1238 : BitVec 32 := 2#32
  let v2717 : BitVec 32 := Scalar.addi v2716 c2_i32_1238
  let c256_i32_1247 : BitVec 32 := 256#32
  let v2734 : BitVec 32 := Scalar.muli v2717 c256_i32_1247
  let v2735 : BitVec 32 := Scalar.subi v43 v2734
  let c384_i32_1248 : BitVec 32 := 384#32
  let v2736 : BitVec 32 := Scalar.minsi v2735 c384_i32_1248
  let v2737 : BitVec 32 := Scalar.subi c384_i32_1249 v2736
  v2737
def k0_mult4 (i : grid0.Coords) (k0_t2 : Fin (k0_t2_loop i).trips) : BitVec 32 :=
  let c384_i32_1779 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c1_i32_171 : BitVec 32 := 1#32
  let arg22 : BitVec 32 := Scf.iv c0_i32_169 c1_i32_171 k0_t2
  let c6_i32_1768 : BitVec 32 := 6#32
  let v3921 : BitVec 32 := Scalar.muli arg22 c6_i32_1768
  let c3_i32 : BitVec 32 := 3#32
  let v3922 : BitVec 32 := Scalar.addi v3921 c3_i32
  let c256_i32_1777 : BitVec 32 := 256#32
  let v3939 : BitVec 32 := Scalar.muli v3922 c256_i32_1777
  let v3940 : BitVec 32 := Scalar.subi v43 v3939
  let c384_i32_1778 : BitVec 32 := 384#32
  let v3941 : BitVec 32 := Scalar.minsi v3940 c384_i32_1778
  let v3942 : BitVec 32 := Scalar.subi c384_i32_1779 v3941
  v3942
def k0_mult5 (i : grid0.Coords) (k0_t2 : Fin (k0_t2_loop i).trips) : BitVec 32 :=
  let c384_i32_2310 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c1_i32_171 : BitVec 32 := 1#32
  let arg22 : BitVec 32 := Scf.iv c0_i32_169 c1_i32_171 k0_t2
  let c6_i32_2298 : BitVec 32 := 6#32
  let v5126 : BitVec 32 := Scalar.muli arg22 c6_i32_2298
  let c4_i32_2299 : BitVec 32 := 4#32
  let v5127 : BitVec 32 := Scalar.addi v5126 c4_i32_2299
  let c256_i32_2308 : BitVec 32 := 256#32
  let v5144 : BitVec 32 := Scalar.muli v5127 c256_i32_2308
  let v5145 : BitVec 32 := Scalar.subi v43 v5144
  let c384_i32_2309 : BitVec 32 := 384#32
  let v5146 : BitVec 32 := Scalar.minsi v5145 c384_i32_2309
  let v5147 : BitVec 32 := Scalar.subi c384_i32_2310 v5146
  v5147
def k0_mult6 (i : grid0.Coords) (k0_t2 : Fin (k0_t2_loop i).trips) : BitVec 32 :=
  let c384_i32_2840 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c1_i32_171 : BitVec 32 := 1#32
  let arg22 : BitVec 32 := Scf.iv c0_i32_169 c1_i32_171 k0_t2
  let c6_i32_2829 : BitVec 32 := 6#32
  let v6331 : BitVec 32 := Scalar.muli arg22 c6_i32_2829
  let c5_i32 : BitVec 32 := 5#32
  let v6332 : BitVec 32 := Scalar.addi v6331 c5_i32
  let c256_i32_2838 : BitVec 32 := 256#32
  let v6349 : BitVec 32 := Scalar.muli v6332 c256_i32_2838
  let v6350 : BitVec 32 := Scalar.subi v43 v6349
  let c384_i32_2839 : BitVec 32 := 384#32
  let v6351 : BitVec 32 := Scalar.minsi v6350 c384_i32_2839
  let v6352 : BitVec 32 := Scalar.subi c384_i32_2840 v6351
  v6352
@[reducible] def k0_t3_loop (i : grid0.Coords) : Scf.Loop 32 :=
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let v243 : BitVec 32 := Scalar.addi c0_i32_169 v242
  let c1_i32_172 : BitVec 32 := 1#32
  ⟨v246, v243, c1_i32_172⟩
def k0_off40 (i : grid0.Coords) (k0_t3 : Fin (k0_t3_loop i).trips) (c0_i32_208 : BitVec 32) : Fin 4 → Nat :=
  let c1_i32_2 : BitVec 32 := 1#32
  let arg1 : BitVec 32 := BitVec.ofNat 32 (i 1).val
  let c1_i32_1 : BitVec 32 := 1#32
  let v4 : BitVec 32 := Scalar.andi arg1 c1_i32_1
  let v5 : BitVec 32 := Scalar.subi c1_i32_2 v4
  let v315 : Index := Scalar.indexCast v5
  let c0_i32_169 : BitVec 32 := 0#32
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let v316 : Index := Scalar.indexCast v307
  let c0_212 : Index := 0#32
  let c0_213 : Index := 0#32
  ![v315.toNat, v316.toNat, 0, 0]
def k0_off41 (i : grid0.Coords) (k0_t3 : Fin (k0_t3_loop i).trips) (c0_i32_208 : BitVec 32) : Fin 3 → Nat :=
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let v321 : Index := Scalar.indexCast v307
  let c0_214 : Index := 0#32
  let c0_215 : Index := 0#32
  ![v321.toNat, 0, 0]
def k0_mult7 (i : grid0.Coords) (k0_t3 : Fin (k0_t3_loop i).trips) : BitVec 32 :=
  let c384_i32_217 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let c0_i32_208 : BitVec 32 := 0#32
  let v307 : BitVec 32 := Scalar.addi v306 c0_i32_208
  let c256_i32_216 : BitVec 32 := 256#32
  let v324 : BitVec 32 := Scalar.muli v307 c256_i32_216
  let v325 : BitVec 32 := Scalar.subi v43 v324
  let c384_i32 : BitVec 32 := 384#32
  let v326 : BitVec 32 := Scalar.minsi v325 c384_i32
  let v327 : BitVec 32 := Scalar.subi c384_i32_217 v326
  v327
def k0_off42 (i : grid0.Coords) (k0_t3 : Fin (k0_t3_loop i).trips) (c0_i32_208 : BitVec 32) : Fin 3 → Nat :=
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let v330 : Index := Scalar.indexCast v307
  let c0_219 : Index := 0#32
  let c0_220 : Index := 0#32
  ![v330.toNat, 0, 0]
def k0_off43 (i : grid0.Coords) (k0_t3 : Fin (k0_t3_loop i).trips) (c0_i32_208 : BitVec 32) : Fin 3 → Nat :=
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_209 : BitVec 32 := 1#32
  let v308 : BitVec 32 := Scalar.addi v307 c1_i32_209
  let c1_i32_210 : BitVec 32 := 1#32
  let v309 : BitVec 32 := Scalar.subi v41 c1_i32_210
  let v310 : BitVec 32 := Scalar.minsi v308 v309
  let v425 : Index := Scalar.indexCast v310
  let c0_255 : Index := 0#32
  let c0_256 : Index := 0#32
  ![v425.toNat, 0, 0]
def k0_off44 (i : grid0.Coords) (k0_t3 : Fin (k0_t3_loop i).trips) (c0_i32_208 : BitVec 32) : Fin 4 → Nat :=
  let arg1 : BitVec 32 := BitVec.ofNat 32 (i 1).val
  let c1_i32_1 : BitVec 32 := 1#32
  let v4 : BitVec 32 := Scalar.andi arg1 c1_i32_1
  let v560 : Index := Scalar.indexCast v4
  let c0_i32_169 : BitVec 32 := 0#32
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let v561 : Index := Scalar.indexCast v307
  let c0_333 : Index := 0#32
  let c0_334 : Index := 0#32
  ![v560.toNat, v561.toNat, 0, 0]
def k0_off45 (i : grid0.Coords) (k0_t3 : Fin (k0_t3_loop i).trips) (c0_i32_208 : BitVec 32) : Fin 4 → Nat :=
  let c0_572 : Index := 0#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_570 : BitVec 32 := 1#32
  let v1319 : BitVec 32 := Scalar.muli v307 c1_i32_570
  let c0_i32_571 : BitVec 32 := 0#32
  let v1320 : BitVec 32 := Scalar.addi v1319 c0_i32_571
  let v1321 : Index := Scalar.indexCast v1320
  let c0_573 : Index := 0#32
  let c0_574 : Index := 0#32
  ![0, v1321.toNat, 0, 0]
def k0_off46 (i : grid0.Coords) (k0_t3 : Fin (k0_t3_loop i).trips) (c0_i32_208 : BitVec 32) : Fin 4 → Nat :=
  let c1_577 : Index := 1#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_575 : BitVec 32 := 1#32
  let v1325 : BitVec 32 := Scalar.muli v307 c1_i32_575
  let c0_i32_576 : BitVec 32 := 0#32
  let v1326 : BitVec 32 := Scalar.addi v1325 c0_i32_576
  let v1327 : Index := Scalar.indexCast v1326
  let c0_578 : Index := 0#32
  let c0_579 : Index := 0#32
  ![1, v1327.toNat, 0, 0]
def k0_off47 (i : grid0.Coords) (k0_t3 : Fin (k0_t3_loop i).trips) (c0_i32_208 : BitVec 32) : Fin 4 → Nat :=
  let c2_582 : Index := 2#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_580 : BitVec 32 := 1#32
  let v1331 : BitVec 32 := Scalar.muli v307 c1_i32_580
  let c0_i32_581 : BitVec 32 := 0#32
  let v1332 : BitVec 32 := Scalar.addi v1331 c0_i32_581
  let v1333 : Index := Scalar.indexCast v1332
  let c0_583 : Index := 0#32
  let c0_584 : Index := 0#32
  ![2, v1333.toNat, 0, 0]
def k0_off48 (i : grid0.Coords) (k0_t3 : Fin (k0_t3_loop i).trips) (c0_i32_208 : BitVec 32) : Fin 4 → Nat :=
  let c3_587 : Index := 3#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_585 : BitVec 32 := 1#32
  let v1337 : BitVec 32 := Scalar.muli v307 c1_i32_585
  let c0_i32_586 : BitVec 32 := 0#32
  let v1338 : BitVec 32 := Scalar.addi v1337 c0_i32_586
  let v1339 : Index := Scalar.indexCast v1338
  let c0_588 : Index := 0#32
  let c0_589 : Index := 0#32
  ![3, v1339.toNat, 0, 0]
def k0_off49 (i : grid0.Coords) (k0_t3 : Fin (k0_t3_loop i).trips) (c0_i32_208 : BitVec 32) : Fin 4 → Nat :=
  let c4_592 : Index := 4#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_590 : BitVec 32 := 1#32
  let v1343 : BitVec 32 := Scalar.muli v307 c1_i32_590
  let c0_i32_591 : BitVec 32 := 0#32
  let v1344 : BitVec 32 := Scalar.addi v1343 c0_i32_591
  let v1345 : Index := Scalar.indexCast v1344
  let c0_593 : Index := 0#32
  let c0_594 : Index := 0#32
  ![4, v1345.toNat, 0, 0]
def k0_off50 (i : grid0.Coords) (k0_t3 : Fin (k0_t3_loop i).trips) (c0_i32_208 : BitVec 32) : Fin 4 → Nat :=
  let c5_597 : Index := 5#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_595 : BitVec 32 := 1#32
  let v1349 : BitVec 32 := Scalar.muli v307 c1_i32_595
  let c0_i32_596 : BitVec 32 := 0#32
  let v1350 : BitVec 32 := Scalar.addi v1349 c0_i32_596
  let v1351 : Index := Scalar.indexCast v1350
  let c0_598 : Index := 0#32
  let c0_599 : Index := 0#32
  ![5, v1351.toNat, 0, 0]
def k0_off51 (i : grid0.Coords) (k0_t3 : Fin (k0_t3_loop i).trips) (c0_i32_208 : BitVec 32) : Fin 4 → Nat :=
  let c6_602 : Index := 6#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_600 : BitVec 32 := 1#32
  let v1355 : BitVec 32 := Scalar.muli v307 c1_i32_600
  let c0_i32_601 : BitVec 32 := 0#32
  let v1356 : BitVec 32 := Scalar.addi v1355 c0_i32_601
  let v1357 : Index := Scalar.indexCast v1356
  let c0_603 : Index := 0#32
  let c0_604 : Index := 0#32
  ![6, v1357.toNat, 0, 0]
def k0_off52 (i : grid0.Coords) (k0_t3 : Fin (k0_t3_loop i).trips) (c0_i32_208 : BitVec 32) : Fin 4 → Nat :=
  let c7_607 : Index := 7#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_605 : BitVec 32 := 1#32
  let v1361 : BitVec 32 := Scalar.muli v307 c1_i32_605
  let c0_i32_606 : BitVec 32 := 0#32
  let v1362 : BitVec 32 := Scalar.addi v1361 c0_i32_606
  let v1363 : Index := Scalar.indexCast v1362
  let c0_608 : Index := 0#32
  let c0_609 : Index := 0#32
  ![7, v1363.toNat, 0, 0]
def k0_off53 (i : grid0.Coords) (k0_t3 : Fin (k0_t3_loop i).trips) (c0_i32_208 : BitVec 32) : Fin 4 → Nat :=
  let c8 : Index := 8#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_610 : BitVec 32 := 1#32
  let v1367 : BitVec 32 := Scalar.muli v307 c1_i32_610
  let c0_i32_611 : BitVec 32 := 0#32
  let v1368 : BitVec 32 := Scalar.addi v1367 c0_i32_611
  let v1369 : Index := Scalar.indexCast v1368
  let c0_612 : Index := 0#32
  let c0_613 : Index := 0#32
  ![8, v1369.toNat, 0, 0]
def k0_off54 (i : grid0.Coords) (k0_t3 : Fin (k0_t3_loop i).trips) (c0_i32_208 : BitVec 32) : Fin 4 → Nat :=
  let c9 : Index := 9#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_614 : BitVec 32 := 1#32
  let v1373 : BitVec 32 := Scalar.muli v307 c1_i32_614
  let c0_i32_615 : BitVec 32 := 0#32
  let v1374 : BitVec 32 := Scalar.addi v1373 c0_i32_615
  let v1375 : Index := Scalar.indexCast v1374
  let c0_616 : Index := 0#32
  let c0_617 : Index := 0#32
  ![9, v1375.toNat, 0, 0]
def k0_off55 (i : grid0.Coords) (k0_t3 : Fin (k0_t3_loop i).trips) (c0_i32_208 : BitVec 32) : Fin 4 → Nat :=
  let c10 : Index := 10#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_618 : BitVec 32 := 1#32
  let v1379 : BitVec 32 := Scalar.muli v307 c1_i32_618
  let c0_i32_619 : BitVec 32 := 0#32
  let v1380 : BitVec 32 := Scalar.addi v1379 c0_i32_619
  let v1381 : Index := Scalar.indexCast v1380
  let c0_620 : Index := 0#32
  let c0_621 : Index := 0#32
  ![10, v1381.toNat, 0, 0]
def k0_off56 (i : grid0.Coords) (k0_t3 : Fin (k0_t3_loop i).trips) (c0_i32_208 : BitVec 32) : Fin 4 → Nat :=
  let c11 : Index := 11#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_622 : BitVec 32 := 1#32
  let v1385 : BitVec 32 := Scalar.muli v307 c1_i32_622
  let c0_i32_623 : BitVec 32 := 0#32
  let v1386 : BitVec 32 := Scalar.addi v1385 c0_i32_623
  let v1387 : Index := Scalar.indexCast v1386
  let c0_624 : Index := 0#32
  let c0_625 : Index := 0#32
  ![11, v1387.toNat, 0, 0]
def k0_off57 (i : grid0.Coords) (k0_t3 : Fin (k0_t3_loop i).trips) (c0_i32_208 : BitVec 32) : Fin 4 → Nat :=
  let c12 : Index := 12#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_626 : BitVec 32 := 1#32
  let v1391 : BitVec 32 := Scalar.muli v307 c1_i32_626
  let c0_i32_627 : BitVec 32 := 0#32
  let v1392 : BitVec 32 := Scalar.addi v1391 c0_i32_627
  let v1393 : Index := Scalar.indexCast v1392
  let c0_628 : Index := 0#32
  let c0_629 : Index := 0#32
  ![12, v1393.toNat, 0, 0]
def k0_off58 (i : grid0.Coords) (k0_t3 : Fin (k0_t3_loop i).trips) (c0_i32_208 : BitVec 32) : Fin 4 → Nat :=
  let c13 : Index := 13#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_630 : BitVec 32 := 1#32
  let v1397 : BitVec 32 := Scalar.muli v307 c1_i32_630
  let c0_i32_631 : BitVec 32 := 0#32
  let v1398 : BitVec 32 := Scalar.addi v1397 c0_i32_631
  let v1399 : Index := Scalar.indexCast v1398
  let c0_632 : Index := 0#32
  let c0_633 : Index := 0#32
  ![13, v1399.toNat, 0, 0]
def k0_off59 (i : grid0.Coords) (k0_t3 : Fin (k0_t3_loop i).trips) (c0_i32_208 : BitVec 32) : Fin 4 → Nat :=
  let c14 : Index := 14#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_634 : BitVec 32 := 1#32
  let v1403 : BitVec 32 := Scalar.muli v307 c1_i32_634
  let c0_i32_635 : BitVec 32 := 0#32
  let v1404 : BitVec 32 := Scalar.addi v1403 c0_i32_635
  let v1405 : Index := Scalar.indexCast v1404
  let c0_636 : Index := 0#32
  let c0_637 : Index := 0#32
  ![14, v1405.toNat, 0, 0]
def k0_off60 (i : grid0.Coords) (k0_t3 : Fin (k0_t3_loop i).trips) (c0_i32_208 : BitVec 32) : Fin 4 → Nat :=
  let c15 : Index := 15#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_638 : BitVec 32 := 1#32
  let v1409 : BitVec 32 := Scalar.muli v307 c1_i32_638
  let c0_i32_639 : BitVec 32 := 0#32
  let v1410 : BitVec 32 := Scalar.addi v1409 c0_i32_639
  let v1411 : Index := Scalar.indexCast v1410
  let c0_640 : Index := 0#32
  let c0_641 : Index := 0#32
  ![15, v1411.toNat, 0, 0]
def k0_off61 (i : grid0.Coords) (k0_t3 : Fin (k0_t3_loop i).trips) (c0_i32_208 : BitVec 32) : Fin 4 → Nat :=
  let c16 : Index := 16#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_642 : BitVec 32 := 1#32
  let v1415 : BitVec 32 := Scalar.muli v307 c1_i32_642
  let c0_i32_643 : BitVec 32 := 0#32
  let v1416 : BitVec 32 := Scalar.addi v1415 c0_i32_643
  let v1417 : Index := Scalar.indexCast v1416
  let c0_644 : Index := 0#32
  let c0_645 : Index := 0#32
  ![16, v1417.toNat, 0, 0]
def k0_off62 (i : grid0.Coords) (k0_t3 : Fin (k0_t3_loop i).trips) (c0_i32_208 : BitVec 32) : Fin 4 → Nat :=
  let c17 : Index := 17#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_646 : BitVec 32 := 1#32
  let v1421 : BitVec 32 := Scalar.muli v307 c1_i32_646
  let c0_i32_647 : BitVec 32 := 0#32
  let v1422 : BitVec 32 := Scalar.addi v1421 c0_i32_647
  let v1423 : Index := Scalar.indexCast v1422
  let c0_648 : Index := 0#32
  let c0_649 : Index := 0#32
  ![17, v1423.toNat, 0, 0]
def k0_off63 (i : grid0.Coords) (k0_t3 : Fin (k0_t3_loop i).trips) (c0_i32_208 : BitVec 32) : Fin 4 → Nat :=
  let c18 : Index := 18#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_650 : BitVec 32 := 1#32
  let v1427 : BitVec 32 := Scalar.muli v307 c1_i32_650
  let c0_i32_651 : BitVec 32 := 0#32
  let v1428 : BitVec 32 := Scalar.addi v1427 c0_i32_651
  let v1429 : Index := Scalar.indexCast v1428
  let c0_652 : Index := 0#32
  let c0_653 : Index := 0#32
  ![18, v1429.toNat, 0, 0]
def k0_off64 (i : grid0.Coords) (k0_t3 : Fin (k0_t3_loop i).trips) (c0_i32_208 : BitVec 32) : Fin 4 → Nat :=
  let c19 : Index := 19#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_654 : BitVec 32 := 1#32
  let v1433 : BitVec 32 := Scalar.muli v307 c1_i32_654
  let c0_i32_655 : BitVec 32 := 0#32
  let v1434 : BitVec 32 := Scalar.addi v1433 c0_i32_655
  let v1435 : Index := Scalar.indexCast v1434
  let c0_656 : Index := 0#32
  let c0_657 : Index := 0#32
  ![19, v1435.toNat, 0, 0]
def k0_off65 (i : grid0.Coords) (k0_t3 : Fin (k0_t3_loop i).trips) (c0_i32_208 : BitVec 32) : Fin 4 → Nat :=
  let c20 : Index := 20#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_658 : BitVec 32 := 1#32
  let v1439 : BitVec 32 := Scalar.muli v307 c1_i32_658
  let c0_i32_659 : BitVec 32 := 0#32
  let v1440 : BitVec 32 := Scalar.addi v1439 c0_i32_659
  let v1441 : Index := Scalar.indexCast v1440
  let c0_660 : Index := 0#32
  let c0_661 : Index := 0#32
  ![20, v1441.toNat, 0, 0]
def k0_off66 (i : grid0.Coords) (k0_t3 : Fin (k0_t3_loop i).trips) (c0_i32_208 : BitVec 32) : Fin 4 → Nat :=
  let c21 : Index := 21#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_662 : BitVec 32 := 1#32
  let v1445 : BitVec 32 := Scalar.muli v307 c1_i32_662
  let c0_i32_663 : BitVec 32 := 0#32
  let v1446 : BitVec 32 := Scalar.addi v1445 c0_i32_663
  let v1447 : Index := Scalar.indexCast v1446
  let c0_664 : Index := 0#32
  let c0_665 : Index := 0#32
  ![21, v1447.toNat, 0, 0]
def k0_off67 (i : grid0.Coords) (k0_t3 : Fin (k0_t3_loop i).trips) (c0_i32_208 : BitVec 32) : Fin 4 → Nat :=
  let c22 : Index := 22#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_666 : BitVec 32 := 1#32
  let v1451 : BitVec 32 := Scalar.muli v307 c1_i32_666
  let c0_i32_667 : BitVec 32 := 0#32
  let v1452 : BitVec 32 := Scalar.addi v1451 c0_i32_667
  let v1453 : Index := Scalar.indexCast v1452
  let c0_668 : Index := 0#32
  let c0_669 : Index := 0#32
  ![22, v1453.toNat, 0, 0]
def k0_off68 (i : grid0.Coords) (k0_t3 : Fin (k0_t3_loop i).trips) (c0_i32_208 : BitVec 32) : Fin 4 → Nat :=
  let c23 : Index := 23#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_670 : BitVec 32 := 1#32
  let v1457 : BitVec 32 := Scalar.muli v307 c1_i32_670
  let c0_i32_671 : BitVec 32 := 0#32
  let v1458 : BitVec 32 := Scalar.addi v1457 c0_i32_671
  let v1459 : Index := Scalar.indexCast v1458
  let c0_672 : Index := 0#32
  let c0_673 : Index := 0#32
  ![23, v1459.toNat, 0, 0]
def k0_off69 (i : grid0.Coords) (k0_t3 : Fin (k0_t3_loop i).trips) (c0_i32_208 : BitVec 32) : Fin 4 → Nat :=
  let c24 : Index := 24#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_674 : BitVec 32 := 1#32
  let v1463 : BitVec 32 := Scalar.muli v307 c1_i32_674
  let c0_i32_675 : BitVec 32 := 0#32
  let v1464 : BitVec 32 := Scalar.addi v1463 c0_i32_675
  let v1465 : Index := Scalar.indexCast v1464
  let c0_676 : Index := 0#32
  let c0_677 : Index := 0#32
  ![24, v1465.toNat, 0, 0]
def k0_off70 (i : grid0.Coords) (k0_t3 : Fin (k0_t3_loop i).trips) (c0_i32_208 : BitVec 32) : Fin 4 → Nat :=
  let c25 : Index := 25#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_678 : BitVec 32 := 1#32
  let v1469 : BitVec 32 := Scalar.muli v307 c1_i32_678
  let c0_i32_679 : BitVec 32 := 0#32
  let v1470 : BitVec 32 := Scalar.addi v1469 c0_i32_679
  let v1471 : Index := Scalar.indexCast v1470
  let c0_680 : Index := 0#32
  let c0_681 : Index := 0#32
  ![25, v1471.toNat, 0, 0]
def k0_off71 (i : grid0.Coords) (k0_t3 : Fin (k0_t3_loop i).trips) (c0_i32_208 : BitVec 32) : Fin 4 → Nat :=
  let c26 : Index := 26#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_682 : BitVec 32 := 1#32
  let v1475 : BitVec 32 := Scalar.muli v307 c1_i32_682
  let c0_i32_683 : BitVec 32 := 0#32
  let v1476 : BitVec 32 := Scalar.addi v1475 c0_i32_683
  let v1477 : Index := Scalar.indexCast v1476
  let c0_684 : Index := 0#32
  let c0_685 : Index := 0#32
  ![26, v1477.toNat, 0, 0]
def k0_off72 (i : grid0.Coords) (k0_t3 : Fin (k0_t3_loop i).trips) (c0_i32_208 : BitVec 32) : Fin 4 → Nat :=
  let c27 : Index := 27#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_686 : BitVec 32 := 1#32
  let v1481 : BitVec 32 := Scalar.muli v307 c1_i32_686
  let c0_i32_687 : BitVec 32 := 0#32
  let v1482 : BitVec 32 := Scalar.addi v1481 c0_i32_687
  let v1483 : Index := Scalar.indexCast v1482
  let c0_688 : Index := 0#32
  let c0_689 : Index := 0#32
  ![27, v1483.toNat, 0, 0]
def k0_off73 (i : grid0.Coords) (k0_t3 : Fin (k0_t3_loop i).trips) (c0_i32_208 : BitVec 32) : Fin 4 → Nat :=
  let c28 : Index := 28#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_690 : BitVec 32 := 1#32
  let v1487 : BitVec 32 := Scalar.muli v307 c1_i32_690
  let c0_i32_691 : BitVec 32 := 0#32
  let v1488 : BitVec 32 := Scalar.addi v1487 c0_i32_691
  let v1489 : Index := Scalar.indexCast v1488
  let c0_692 : Index := 0#32
  let c0_693 : Index := 0#32
  ![28, v1489.toNat, 0, 0]
def k0_off74 (i : grid0.Coords) (k0_t3 : Fin (k0_t3_loop i).trips) (c0_i32_208 : BitVec 32) : Fin 4 → Nat :=
  let c29 : Index := 29#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_694 : BitVec 32 := 1#32
  let v1493 : BitVec 32 := Scalar.muli v307 c1_i32_694
  let c0_i32_695 : BitVec 32 := 0#32
  let v1494 : BitVec 32 := Scalar.addi v1493 c0_i32_695
  let v1495 : Index := Scalar.indexCast v1494
  let c0_696 : Index := 0#32
  let c0_697 : Index := 0#32
  ![29, v1495.toNat, 0, 0]
def k0_off75 (i : grid0.Coords) (k0_t3 : Fin (k0_t3_loop i).trips) (c0_i32_208 : BitVec 32) : Fin 4 → Nat :=
  let c30 : Index := 30#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_698 : BitVec 32 := 1#32
  let v1499 : BitVec 32 := Scalar.muli v307 c1_i32_698
  let c0_i32_699 : BitVec 32 := 0#32
  let v1500 : BitVec 32 := Scalar.addi v1499 c0_i32_699
  let v1501 : Index := Scalar.indexCast v1500
  let c0_700 : Index := 0#32
  let c0_701 : Index := 0#32
  ![30, v1501.toNat, 0, 0]
def k0_off76 (i : grid0.Coords) (k0_t3 : Fin (k0_t3_loop i).trips) (c0_i32_208 : BitVec 32) : Fin 4 → Nat :=
  let c31 : Index := 31#32
  let c0_i32_169 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_207 : BitVec 32 := 6#32
  let v306 : BitVec 32 := Scalar.muli arg22 c6_i32_207
  let v307 : BitVec 32 := Scalar.addi v306 c0_i32_208
  let c1_i32_702 : BitVec 32 := 1#32
  let v1505 : BitVec 32 := Scalar.muli v307 c1_i32_702
  let c0_i32_703 : BitVec 32 := 0#32
  let v1506 : BitVec 32 := Scalar.addi v1505 c0_i32_703
  let v1507 : Index := Scalar.indexCast v1506
  let c0_704 : Index := 0#32
  let c0_705 : Index := 0#32
  ![31, v1507.toNat, 0, 0]
def k0_mult8 (i : grid0.Coords) (k0_t3 : Fin (k0_t3_loop i).trips) : BitVec 32 :=
  let c384_i32_718 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_706 : BitVec 32 := 6#32
  let v1511 : BitVec 32 := Scalar.muli arg22 c6_i32_706
  let c1_i32_707 : BitVec 32 := 1#32
  let v1512 : BitVec 32 := Scalar.addi v1511 c1_i32_707
  let c256_i32_716 : BitVec 32 := 256#32
  let v1529 : BitVec 32 := Scalar.muli v1512 c256_i32_716
  let v1530 : BitVec 32 := Scalar.subi v43 v1529
  let c384_i32_717 : BitVec 32 := 384#32
  let v1531 : BitVec 32 := Scalar.minsi v1530 c384_i32_717
  let v1532 : BitVec 32 := Scalar.subi c384_i32_718 v1531
  v1532
def k0_mult9 (i : grid0.Coords) (k0_t3 : Fin (k0_t3_loop i).trips) : BitVec 32 :=
  let c384_i32_1249 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_1237 : BitVec 32 := 6#32
  let v2716 : BitVec 32 := Scalar.muli arg22 c6_i32_1237
  let c2_i32_1238 : BitVec 32 := 2#32
  let v2717 : BitVec 32 := Scalar.addi v2716 c2_i32_1238
  let c256_i32_1247 : BitVec 32 := 256#32
  let v2734 : BitVec 32 := Scalar.muli v2717 c256_i32_1247
  let v2735 : BitVec 32 := Scalar.subi v43 v2734
  let c384_i32_1248 : BitVec 32 := 384#32
  let v2736 : BitVec 32 := Scalar.minsi v2735 c384_i32_1248
  let v2737 : BitVec 32 := Scalar.subi c384_i32_1249 v2736
  v2737
def k0_mult10 (i : grid0.Coords) (k0_t3 : Fin (k0_t3_loop i).trips) : BitVec 32 :=
  let c384_i32_1779 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_1768 : BitVec 32 := 6#32
  let v3921 : BitVec 32 := Scalar.muli arg22 c6_i32_1768
  let c3_i32 : BitVec 32 := 3#32
  let v3922 : BitVec 32 := Scalar.addi v3921 c3_i32
  let c256_i32_1777 : BitVec 32 := 256#32
  let v3939 : BitVec 32 := Scalar.muli v3922 c256_i32_1777
  let v3940 : BitVec 32 := Scalar.subi v43 v3939
  let c384_i32_1778 : BitVec 32 := 384#32
  let v3941 : BitVec 32 := Scalar.minsi v3940 c384_i32_1778
  let v3942 : BitVec 32 := Scalar.subi c384_i32_1779 v3941
  v3942
def k0_mult11 (i : grid0.Coords) (k0_t3 : Fin (k0_t3_loop i).trips) : BitVec 32 :=
  let c384_i32_2310 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_2298 : BitVec 32 := 6#32
  let v5126 : BitVec 32 := Scalar.muli arg22 c6_i32_2298
  let c4_i32_2299 : BitVec 32 := 4#32
  let v5127 : BitVec 32 := Scalar.addi v5126 c4_i32_2299
  let c256_i32_2308 : BitVec 32 := 256#32
  let v5144 : BitVec 32 := Scalar.muli v5127 c256_i32_2308
  let v5145 : BitVec 32 := Scalar.subi v43 v5144
  let c384_i32_2309 : BitVec 32 := 384#32
  let v5146 : BitVec 32 := Scalar.minsi v5145 c384_i32_2309
  let v5147 : BitVec 32 := Scalar.subi c384_i32_2310 v5146
  v5147
def k0_mult12 (i : grid0.Coords) (k0_t3 : Fin (k0_t3_loop i).trips) : BitVec 32 :=
  let c384_i32_2840 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_169 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let v242 : BitVec 32 := Scalar.subi v241 c0_i32_169
  let c1_i32_170 : BitVec 32 := 1#32
  let v244 : BitVec 32 := Scalar.divsi v242 c1_i32_170
  let v245 : BitVec 32 := Scalar.muli v244 c1_i32_170
  let v246 : BitVec 32 := Scalar.addi c0_i32_169 v245
  let c1_i32_172 : BitVec 32 := 1#32
  let arg22 : BitVec 32 := Scf.iv v246 c1_i32_172 k0_t3
  let c6_i32_2829 : BitVec 32 := 6#32
  let v6331 : BitVec 32 := Scalar.muli arg22 c6_i32_2829
  let c5_i32 : BitVec 32 := 5#32
  let v6332 : BitVec 32 := Scalar.addi v6331 c5_i32
  let c256_i32_2838 : BitVec 32 := 256#32
  let v6349 : BitVec 32 := Scalar.muli v6332 c256_i32_2838
  let v6350 : BitVec 32 := Scalar.subi v43 v6349
  let c384_i32_2839 : BitVec 32 := 384#32
  let v6351 : BitVec 32 := Scalar.minsi v6350 c384_i32_2839
  let v6352 : BitVec 32 := Scalar.subi c384_i32_2840 v6351
  v6352
@[reducible] def k0_t4_loop (i : grid0.Coords) : Scf.Loop 32 :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_176 : BitVec 32 := 1#32
  ⟨v247, v252, c1_i32_176⟩
def k0_off77 (i : grid0.Coords) (k0_t4 : Fin (k0_t4_loop i).trips) : Fin 4 → Nat :=
  let c1_i32_2 : BitVec 32 := 1#32
  let arg1 : BitVec 32 := BitVec.ofNat 32 (i 1).val
  let c1_i32_1 : BitVec 32 := 1#32
  let v4 : BitVec 32 := Scalar.andi arg1 c1_i32_1
  let v5 : BitVec 32 := Scalar.subi c1_i32_2 v4
  let v313 : Index := Scalar.indexCast v5
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let v314 : Index := Scalar.indexCast arg22
  let c0_210 : Index := 0#32
  let c0_211 : Index := 0#32
  ![v313.toNat, v314.toNat, 0, 0]
def k0_off78 (i : grid0.Coords) (k0_t4 : Fin (k0_t4_loop i).trips) : Fin 3 → Nat :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let v319 : Index := Scalar.indexCast arg22
  let c0_212 : Index := 0#32
  let c0_213 : Index := 0#32
  ![v319.toNat, 0, 0]
def k0_mult13 (i : grid0.Coords) (k0_t4 : Fin (k0_t4_loop i).trips) : BitVec 32 :=
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  v325
def k0_off79 (i : grid0.Coords) (k0_t4 : Fin (k0_t4_loop i).trips) : Fin 3 → Nat :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let v328 : Index := Scalar.indexCast arg22
  let c0_217 : Index := 0#32
  let c0_218 : Index := 0#32
  ![v328.toNat, 0, 0]
def k0_off80 (i : grid0.Coords) (k0_t4 : Fin (k0_t4_loop i).trips) : Fin 3 → Nat :=
  let c0_251 : Index := 0#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v410 : Index := Scalar.indexCast v326
  let c0_252 : Index := 0#32
  ![0, v410.toNat, 0]
def k0_off81 (i : grid0.Coords) (k0_t4 : Fin (k0_t4_loop i).trips) : Fin 3 → Nat :=
  let c1_254 : Index := 1#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v421 : Index := Scalar.indexCast v326
  let c0_255 : Index := 0#32
  ![1, v421.toNat, 0]
def k0_off82 (i : grid0.Coords) (k0_t4 : Fin (k0_t4_loop i).trips) : Fin 3 → Nat :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_207 : BitVec 32 := 1#32
  let v306 : BitVec 32 := Scalar.addi arg22 c1_i32_207
  let c1_i32_208 : BitVec 32 := 1#32
  let v307 : BitVec 32 := Scalar.subi v41 c1_i32_208
  let v308 : BitVec 32 := Scalar.minsi v306 v307
  let v431 : Index := Scalar.indexCast v308
  let c0_257 : Index := 0#32
  let c0_258 : Index := 0#32
  ![v431.toNat, 0, 0]
def k0_off83 (i : grid0.Coords) (k0_t4 : Fin (k0_t4_loop i).trips) : Fin 3 → Nat :=
  let c2_274 : Index := 2#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v451 : Index := Scalar.indexCast v326
  let c0_275 : Index := 0#32
  ![2, v451.toNat, 0]
def k0_off84 (i : grid0.Coords) (k0_t4 : Fin (k0_t4_loop i).trips) : Fin 3 → Nat :=
  let c3_277 : Index := 3#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v462 : Index := Scalar.indexCast v326
  let c0_278 : Index := 0#32
  ![3, v462.toNat, 0]
def k0_off85 (i : grid0.Coords) (k0_t4 : Fin (k0_t4_loop i).trips) : Fin 3 → Nat :=
  let c4_297 : Index := 4#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v492 : Index := Scalar.indexCast v326
  let c0_298 : Index := 0#32
  ![4, v492.toNat, 0]
def k0_off86 (i : grid0.Coords) (k0_t4 : Fin (k0_t4_loop i).trips) : Fin 3 → Nat :=
  let c5_300 : Index := 5#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v503 : Index := Scalar.indexCast v326
  let c0_301 : Index := 0#32
  ![5, v503.toNat, 0]
def k0_off87 (i : grid0.Coords) (k0_t4 : Fin (k0_t4_loop i).trips) : Fin 3 → Nat :=
  let c6_320 : Index := 6#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v533 : Index := Scalar.indexCast v326
  let c0_321 : Index := 0#32
  ![6, v533.toNat, 0]
def k0_off88 (i : grid0.Coords) (k0_t4 : Fin (k0_t4_loop i).trips) : Fin 3 → Nat :=
  let c7_323 : Index := 7#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v544 : Index := Scalar.indexCast v326
  let c0_324 : Index := 0#32
  ![7, v544.toNat, 0]
def k0_off89 (i : grid0.Coords) (k0_t4 : Fin (k0_t4_loop i).trips) : Fin 4 → Nat :=
  let arg1 : BitVec 32 := BitVec.ofNat 32 (i 1).val
  let c1_i32_1 : BitVec 32 := 1#32
  let v4 : BitVec 32 := Scalar.andi arg1 c1_i32_1
  let v590 : Index := Scalar.indexCast v4
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let v591 : Index := Scalar.indexCast arg22
  let c0_347 : Index := 0#32
  let c0_348 : Index := 0#32
  ![v590.toNat, v591.toNat, 0, 0]
def k0_off90 (i : grid0.Coords) (k0_t4 : Fin (k0_t4_loop i).trips) : Fin 4 → Nat :=
  let c0_586 : Index := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_584 : BitVec 32 := 1#32
  let v1349 : BitVec 32 := Scalar.muli arg22 c1_i32_584
  let c0_i32_585 : BitVec 32 := 0#32
  let v1350 : BitVec 32 := Scalar.addi v1349 c0_i32_585
  let v1351 : Index := Scalar.indexCast v1350
  let c0_587 : Index := 0#32
  let c0_588 : Index := 0#32
  ![0, v1351.toNat, 0, 0]
def k0_off91 (i : grid0.Coords) (k0_t4 : Fin (k0_t4_loop i).trips) : Fin 4 → Nat :=
  let c1_591 : Index := 1#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_589 : BitVec 32 := 1#32
  let v1355 : BitVec 32 := Scalar.muli arg22 c1_i32_589
  let c0_i32_590 : BitVec 32 := 0#32
  let v1356 : BitVec 32 := Scalar.addi v1355 c0_i32_590
  let v1357 : Index := Scalar.indexCast v1356
  let c0_592 : Index := 0#32
  let c0_593 : Index := 0#32
  ![1, v1357.toNat, 0, 0]
def k0_off92 (i : grid0.Coords) (k0_t4 : Fin (k0_t4_loop i).trips) : Fin 4 → Nat :=
  let c2_596 : Index := 2#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_594 : BitVec 32 := 1#32
  let v1361 : BitVec 32 := Scalar.muli arg22 c1_i32_594
  let c0_i32_595 : BitVec 32 := 0#32
  let v1362 : BitVec 32 := Scalar.addi v1361 c0_i32_595
  let v1363 : Index := Scalar.indexCast v1362
  let c0_597 : Index := 0#32
  let c0_598 : Index := 0#32
  ![2, v1363.toNat, 0, 0]
def k0_off93 (i : grid0.Coords) (k0_t4 : Fin (k0_t4_loop i).trips) : Fin 4 → Nat :=
  let c3_601 : Index := 3#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_599 : BitVec 32 := 1#32
  let v1367 : BitVec 32 := Scalar.muli arg22 c1_i32_599
  let c0_i32_600 : BitVec 32 := 0#32
  let v1368 : BitVec 32 := Scalar.addi v1367 c0_i32_600
  let v1369 : Index := Scalar.indexCast v1368
  let c0_602 : Index := 0#32
  let c0_603 : Index := 0#32
  ![3, v1369.toNat, 0, 0]
def k0_off94 (i : grid0.Coords) (k0_t4 : Fin (k0_t4_loop i).trips) : Fin 4 → Nat :=
  let c4_606 : Index := 4#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_604 : BitVec 32 := 1#32
  let v1373 : BitVec 32 := Scalar.muli arg22 c1_i32_604
  let c0_i32_605 : BitVec 32 := 0#32
  let v1374 : BitVec 32 := Scalar.addi v1373 c0_i32_605
  let v1375 : Index := Scalar.indexCast v1374
  let c0_607 : Index := 0#32
  let c0_608 : Index := 0#32
  ![4, v1375.toNat, 0, 0]
def k0_off95 (i : grid0.Coords) (k0_t4 : Fin (k0_t4_loop i).trips) : Fin 4 → Nat :=
  let c5_611 : Index := 5#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_609 : BitVec 32 := 1#32
  let v1379 : BitVec 32 := Scalar.muli arg22 c1_i32_609
  let c0_i32_610 : BitVec 32 := 0#32
  let v1380 : BitVec 32 := Scalar.addi v1379 c0_i32_610
  let v1381 : Index := Scalar.indexCast v1380
  let c0_612 : Index := 0#32
  let c0_613 : Index := 0#32
  ![5, v1381.toNat, 0, 0]
def k0_off96 (i : grid0.Coords) (k0_t4 : Fin (k0_t4_loop i).trips) : Fin 4 → Nat :=
  let c6_616 : Index := 6#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_614 : BitVec 32 := 1#32
  let v1385 : BitVec 32 := Scalar.muli arg22 c1_i32_614
  let c0_i32_615 : BitVec 32 := 0#32
  let v1386 : BitVec 32 := Scalar.addi v1385 c0_i32_615
  let v1387 : Index := Scalar.indexCast v1386
  let c0_617 : Index := 0#32
  let c0_618 : Index := 0#32
  ![6, v1387.toNat, 0, 0]
def k0_off97 (i : grid0.Coords) (k0_t4 : Fin (k0_t4_loop i).trips) : Fin 4 → Nat :=
  let c7_621 : Index := 7#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_619 : BitVec 32 := 1#32
  let v1391 : BitVec 32 := Scalar.muli arg22 c1_i32_619
  let c0_i32_620 : BitVec 32 := 0#32
  let v1392 : BitVec 32 := Scalar.addi v1391 c0_i32_620
  let v1393 : Index := Scalar.indexCast v1392
  let c0_622 : Index := 0#32
  let c0_623 : Index := 0#32
  ![7, v1393.toNat, 0, 0]
def k0_off98 (i : grid0.Coords) (k0_t4 : Fin (k0_t4_loop i).trips) : Fin 4 → Nat :=
  let c8 : Index := 8#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_624 : BitVec 32 := 1#32
  let v1397 : BitVec 32 := Scalar.muli arg22 c1_i32_624
  let c0_i32_625 : BitVec 32 := 0#32
  let v1398 : BitVec 32 := Scalar.addi v1397 c0_i32_625
  let v1399 : Index := Scalar.indexCast v1398
  let c0_626 : Index := 0#32
  let c0_627 : Index := 0#32
  ![8, v1399.toNat, 0, 0]
def k0_off99 (i : grid0.Coords) (k0_t4 : Fin (k0_t4_loop i).trips) : Fin 4 → Nat :=
  let c9 : Index := 9#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_628 : BitVec 32 := 1#32
  let v1403 : BitVec 32 := Scalar.muli arg22 c1_i32_628
  let c0_i32_629 : BitVec 32 := 0#32
  let v1404 : BitVec 32 := Scalar.addi v1403 c0_i32_629
  let v1405 : Index := Scalar.indexCast v1404
  let c0_630 : Index := 0#32
  let c0_631 : Index := 0#32
  ![9, v1405.toNat, 0, 0]
def k0_off100 (i : grid0.Coords) (k0_t4 : Fin (k0_t4_loop i).trips) : Fin 4 → Nat :=
  let c10 : Index := 10#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_632 : BitVec 32 := 1#32
  let v1409 : BitVec 32 := Scalar.muli arg22 c1_i32_632
  let c0_i32_633 : BitVec 32 := 0#32
  let v1410 : BitVec 32 := Scalar.addi v1409 c0_i32_633
  let v1411 : Index := Scalar.indexCast v1410
  let c0_634 : Index := 0#32
  let c0_635 : Index := 0#32
  ![10, v1411.toNat, 0, 0]
def k0_off101 (i : grid0.Coords) (k0_t4 : Fin (k0_t4_loop i).trips) : Fin 4 → Nat :=
  let c11 : Index := 11#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_636 : BitVec 32 := 1#32
  let v1415 : BitVec 32 := Scalar.muli arg22 c1_i32_636
  let c0_i32_637 : BitVec 32 := 0#32
  let v1416 : BitVec 32 := Scalar.addi v1415 c0_i32_637
  let v1417 : Index := Scalar.indexCast v1416
  let c0_638 : Index := 0#32
  let c0_639 : Index := 0#32
  ![11, v1417.toNat, 0, 0]
def k0_off102 (i : grid0.Coords) (k0_t4 : Fin (k0_t4_loop i).trips) : Fin 4 → Nat :=
  let c12 : Index := 12#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_640 : BitVec 32 := 1#32
  let v1421 : BitVec 32 := Scalar.muli arg22 c1_i32_640
  let c0_i32_641 : BitVec 32 := 0#32
  let v1422 : BitVec 32 := Scalar.addi v1421 c0_i32_641
  let v1423 : Index := Scalar.indexCast v1422
  let c0_642 : Index := 0#32
  let c0_643 : Index := 0#32
  ![12, v1423.toNat, 0, 0]
def k0_off103 (i : grid0.Coords) (k0_t4 : Fin (k0_t4_loop i).trips) : Fin 4 → Nat :=
  let c13 : Index := 13#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_644 : BitVec 32 := 1#32
  let v1427 : BitVec 32 := Scalar.muli arg22 c1_i32_644
  let c0_i32_645 : BitVec 32 := 0#32
  let v1428 : BitVec 32 := Scalar.addi v1427 c0_i32_645
  let v1429 : Index := Scalar.indexCast v1428
  let c0_646 : Index := 0#32
  let c0_647 : Index := 0#32
  ![13, v1429.toNat, 0, 0]
def k0_off104 (i : grid0.Coords) (k0_t4 : Fin (k0_t4_loop i).trips) : Fin 4 → Nat :=
  let c14 : Index := 14#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_648 : BitVec 32 := 1#32
  let v1433 : BitVec 32 := Scalar.muli arg22 c1_i32_648
  let c0_i32_649 : BitVec 32 := 0#32
  let v1434 : BitVec 32 := Scalar.addi v1433 c0_i32_649
  let v1435 : Index := Scalar.indexCast v1434
  let c0_650 : Index := 0#32
  let c0_651 : Index := 0#32
  ![14, v1435.toNat, 0, 0]
def k0_off105 (i : grid0.Coords) (k0_t4 : Fin (k0_t4_loop i).trips) : Fin 4 → Nat :=
  let c15 : Index := 15#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_652 : BitVec 32 := 1#32
  let v1439 : BitVec 32 := Scalar.muli arg22 c1_i32_652
  let c0_i32_653 : BitVec 32 := 0#32
  let v1440 : BitVec 32 := Scalar.addi v1439 c0_i32_653
  let v1441 : Index := Scalar.indexCast v1440
  let c0_654 : Index := 0#32
  let c0_655 : Index := 0#32
  ![15, v1441.toNat, 0, 0]
def k0_off106 (i : grid0.Coords) (k0_t4 : Fin (k0_t4_loop i).trips) : Fin 4 → Nat :=
  let c16 : Index := 16#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_656 : BitVec 32 := 1#32
  let v1445 : BitVec 32 := Scalar.muli arg22 c1_i32_656
  let c0_i32_657 : BitVec 32 := 0#32
  let v1446 : BitVec 32 := Scalar.addi v1445 c0_i32_657
  let v1447 : Index := Scalar.indexCast v1446
  let c0_658 : Index := 0#32
  let c0_659 : Index := 0#32
  ![16, v1447.toNat, 0, 0]
def k0_off107 (i : grid0.Coords) (k0_t4 : Fin (k0_t4_loop i).trips) : Fin 4 → Nat :=
  let c17 : Index := 17#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_660 : BitVec 32 := 1#32
  let v1451 : BitVec 32 := Scalar.muli arg22 c1_i32_660
  let c0_i32_661 : BitVec 32 := 0#32
  let v1452 : BitVec 32 := Scalar.addi v1451 c0_i32_661
  let v1453 : Index := Scalar.indexCast v1452
  let c0_662 : Index := 0#32
  let c0_663 : Index := 0#32
  ![17, v1453.toNat, 0, 0]
def k0_off108 (i : grid0.Coords) (k0_t4 : Fin (k0_t4_loop i).trips) : Fin 4 → Nat :=
  let c18 : Index := 18#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_664 : BitVec 32 := 1#32
  let v1457 : BitVec 32 := Scalar.muli arg22 c1_i32_664
  let c0_i32_665 : BitVec 32 := 0#32
  let v1458 : BitVec 32 := Scalar.addi v1457 c0_i32_665
  let v1459 : Index := Scalar.indexCast v1458
  let c0_666 : Index := 0#32
  let c0_667 : Index := 0#32
  ![18, v1459.toNat, 0, 0]
def k0_off109 (i : grid0.Coords) (k0_t4 : Fin (k0_t4_loop i).trips) : Fin 4 → Nat :=
  let c19 : Index := 19#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_668 : BitVec 32 := 1#32
  let v1463 : BitVec 32 := Scalar.muli arg22 c1_i32_668
  let c0_i32_669 : BitVec 32 := 0#32
  let v1464 : BitVec 32 := Scalar.addi v1463 c0_i32_669
  let v1465 : Index := Scalar.indexCast v1464
  let c0_670 : Index := 0#32
  let c0_671 : Index := 0#32
  ![19, v1465.toNat, 0, 0]
def k0_off110 (i : grid0.Coords) (k0_t4 : Fin (k0_t4_loop i).trips) : Fin 4 → Nat :=
  let c20 : Index := 20#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_672 : BitVec 32 := 1#32
  let v1469 : BitVec 32 := Scalar.muli arg22 c1_i32_672
  let c0_i32_673 : BitVec 32 := 0#32
  let v1470 : BitVec 32 := Scalar.addi v1469 c0_i32_673
  let v1471 : Index := Scalar.indexCast v1470
  let c0_674 : Index := 0#32
  let c0_675 : Index := 0#32
  ![20, v1471.toNat, 0, 0]
def k0_off111 (i : grid0.Coords) (k0_t4 : Fin (k0_t4_loop i).trips) : Fin 4 → Nat :=
  let c21 : Index := 21#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_676 : BitVec 32 := 1#32
  let v1475 : BitVec 32 := Scalar.muli arg22 c1_i32_676
  let c0_i32_677 : BitVec 32 := 0#32
  let v1476 : BitVec 32 := Scalar.addi v1475 c0_i32_677
  let v1477 : Index := Scalar.indexCast v1476
  let c0_678 : Index := 0#32
  let c0_679 : Index := 0#32
  ![21, v1477.toNat, 0, 0]
def k0_off112 (i : grid0.Coords) (k0_t4 : Fin (k0_t4_loop i).trips) : Fin 4 → Nat :=
  let c22 : Index := 22#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_680 : BitVec 32 := 1#32
  let v1481 : BitVec 32 := Scalar.muli arg22 c1_i32_680
  let c0_i32_681 : BitVec 32 := 0#32
  let v1482 : BitVec 32 := Scalar.addi v1481 c0_i32_681
  let v1483 : Index := Scalar.indexCast v1482
  let c0_682 : Index := 0#32
  let c0_683 : Index := 0#32
  ![22, v1483.toNat, 0, 0]
def k0_off113 (i : grid0.Coords) (k0_t4 : Fin (k0_t4_loop i).trips) : Fin 4 → Nat :=
  let c23 : Index := 23#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_684 : BitVec 32 := 1#32
  let v1487 : BitVec 32 := Scalar.muli arg22 c1_i32_684
  let c0_i32_685 : BitVec 32 := 0#32
  let v1488 : BitVec 32 := Scalar.addi v1487 c0_i32_685
  let v1489 : Index := Scalar.indexCast v1488
  let c0_686 : Index := 0#32
  let c0_687 : Index := 0#32
  ![23, v1489.toNat, 0, 0]
def k0_off114 (i : grid0.Coords) (k0_t4 : Fin (k0_t4_loop i).trips) : Fin 4 → Nat :=
  let c24 : Index := 24#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_688 : BitVec 32 := 1#32
  let v1493 : BitVec 32 := Scalar.muli arg22 c1_i32_688
  let c0_i32_689 : BitVec 32 := 0#32
  let v1494 : BitVec 32 := Scalar.addi v1493 c0_i32_689
  let v1495 : Index := Scalar.indexCast v1494
  let c0_690 : Index := 0#32
  let c0_691 : Index := 0#32
  ![24, v1495.toNat, 0, 0]
def k0_off115 (i : grid0.Coords) (k0_t4 : Fin (k0_t4_loop i).trips) : Fin 4 → Nat :=
  let c25 : Index := 25#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_692 : BitVec 32 := 1#32
  let v1499 : BitVec 32 := Scalar.muli arg22 c1_i32_692
  let c0_i32_693 : BitVec 32 := 0#32
  let v1500 : BitVec 32 := Scalar.addi v1499 c0_i32_693
  let v1501 : Index := Scalar.indexCast v1500
  let c0_694 : Index := 0#32
  let c0_695 : Index := 0#32
  ![25, v1501.toNat, 0, 0]
def k0_off116 (i : grid0.Coords) (k0_t4 : Fin (k0_t4_loop i).trips) : Fin 4 → Nat :=
  let c26 : Index := 26#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_696 : BitVec 32 := 1#32
  let v1505 : BitVec 32 := Scalar.muli arg22 c1_i32_696
  let c0_i32_697 : BitVec 32 := 0#32
  let v1506 : BitVec 32 := Scalar.addi v1505 c0_i32_697
  let v1507 : Index := Scalar.indexCast v1506
  let c0_698 : Index := 0#32
  let c0_699 : Index := 0#32
  ![26, v1507.toNat, 0, 0]
def k0_off117 (i : grid0.Coords) (k0_t4 : Fin (k0_t4_loop i).trips) : Fin 4 → Nat :=
  let c27 : Index := 27#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_700 : BitVec 32 := 1#32
  let v1511 : BitVec 32 := Scalar.muli arg22 c1_i32_700
  let c0_i32_701 : BitVec 32 := 0#32
  let v1512 : BitVec 32 := Scalar.addi v1511 c0_i32_701
  let v1513 : Index := Scalar.indexCast v1512
  let c0_702 : Index := 0#32
  let c0_703 : Index := 0#32
  ![27, v1513.toNat, 0, 0]
def k0_off118 (i : grid0.Coords) (k0_t4 : Fin (k0_t4_loop i).trips) : Fin 4 → Nat :=
  let c28 : Index := 28#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_704 : BitVec 32 := 1#32
  let v1517 : BitVec 32 := Scalar.muli arg22 c1_i32_704
  let c0_i32_705 : BitVec 32 := 0#32
  let v1518 : BitVec 32 := Scalar.addi v1517 c0_i32_705
  let v1519 : Index := Scalar.indexCast v1518
  let c0_706 : Index := 0#32
  let c0_707 : Index := 0#32
  ![28, v1519.toNat, 0, 0]
def k0_off119 (i : grid0.Coords) (k0_t4 : Fin (k0_t4_loop i).trips) : Fin 4 → Nat :=
  let c29 : Index := 29#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_708 : BitVec 32 := 1#32
  let v1523 : BitVec 32 := Scalar.muli arg22 c1_i32_708
  let c0_i32_709 : BitVec 32 := 0#32
  let v1524 : BitVec 32 := Scalar.addi v1523 c0_i32_709
  let v1525 : Index := Scalar.indexCast v1524
  let c0_710 : Index := 0#32
  let c0_711 : Index := 0#32
  ![29, v1525.toNat, 0, 0]
def k0_off120 (i : grid0.Coords) (k0_t4 : Fin (k0_t4_loop i).trips) : Fin 4 → Nat :=
  let c30 : Index := 30#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_712 : BitVec 32 := 1#32
  let v1529 : BitVec 32 := Scalar.muli arg22 c1_i32_712
  let c0_i32_713 : BitVec 32 := 0#32
  let v1530 : BitVec 32 := Scalar.addi v1529 c0_i32_713
  let v1531 : Index := Scalar.indexCast v1530
  let c0_714 : Index := 0#32
  let c0_715 : Index := 0#32
  ![30, v1531.toNat, 0, 0]
def k0_off121 (i : grid0.Coords) (k0_t4 : Fin (k0_t4_loop i).trips) : Fin 4 → Nat :=
  let c31 : Index := 31#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let c1_i32_176 : BitVec 32 := 1#32
  let arg22 : BitVec 32 := Scf.iv v247 c1_i32_176 k0_t4
  let c1_i32_716 : BitVec 32 := 1#32
  let v1535 : BitVec 32 := Scalar.muli arg22 c1_i32_716
  let c0_i32_717 : BitVec 32 := 0#32
  let v1536 : BitVec 32 := Scalar.addi v1535 c0_i32_717
  let v1537 : Index := Scalar.indexCast v1536
  let c0_718 : Index := 0#32
  let c0_719 : Index := 0#32
  ![31, v1537.toNat, 0, 0]
@[reducible] def k0_t5_loop (i : grid0.Coords) : Scf.Loop 32 :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let v249 : BitVec 32 := Scalar.addi v247 v248
  let c1_i32_177 : BitVec 32 := 1#32
  ⟨v252, v249, c1_i32_177⟩
def k0_off122 (i : grid0.Coords) (k0_t5 : Fin (k0_t5_loop i).trips) : Fin 4 → Nat :=
  let c1_i32_2 : BitVec 32 := 1#32
  let arg1 : BitVec 32 := BitVec.ofNat 32 (i 1).val
  let c1_i32_1 : BitVec 32 := 1#32
  let v4 : BitVec 32 := Scalar.andi arg1 c1_i32_1
  let v5 : BitVec 32 := Scalar.subi c1_i32_2 v4
  let v313 : Index := Scalar.indexCast v5
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let v314 : Index := Scalar.indexCast arg22
  let c0_210 : Index := 0#32
  let c0_211 : Index := 0#32
  ![v313.toNat, v314.toNat, 0, 0]
def k0_off123 (i : grid0.Coords) (k0_t5 : Fin (k0_t5_loop i).trips) : Fin 3 → Nat :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let v319 : Index := Scalar.indexCast arg22
  let c0_212 : Index := 0#32
  let c0_213 : Index := 0#32
  ![v319.toNat, 0, 0]
def k0_mult14 (i : grid0.Coords) (k0_t5 : Fin (k0_t5_loop i).trips) : BitVec 32 :=
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  v325
def k0_off124 (i : grid0.Coords) (k0_t5 : Fin (k0_t5_loop i).trips) : Fin 3 → Nat :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let v328 : Index := Scalar.indexCast arg22
  let c0_217 : Index := 0#32
  let c0_218 : Index := 0#32
  ![v328.toNat, 0, 0]
def k0_off125 (i : grid0.Coords) (k0_t5 : Fin (k0_t5_loop i).trips) : Fin 3 → Nat :=
  let c0_251 : Index := 0#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v410 : Index := Scalar.indexCast v326
  let c0_252 : Index := 0#32
  ![0, v410.toNat, 0]
def k0_off126 (i : grid0.Coords) (k0_t5 : Fin (k0_t5_loop i).trips) : Fin 3 → Nat :=
  let c1_254 : Index := 1#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v421 : Index := Scalar.indexCast v326
  let c0_255 : Index := 0#32
  ![1, v421.toNat, 0]
def k0_off127 (i : grid0.Coords) (k0_t5 : Fin (k0_t5_loop i).trips) : Fin 3 → Nat :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_207 : BitVec 32 := 1#32
  let v306 : BitVec 32 := Scalar.addi arg22 c1_i32_207
  let c1_i32_208 : BitVec 32 := 1#32
  let v307 : BitVec 32 := Scalar.subi v41 c1_i32_208
  let v308 : BitVec 32 := Scalar.minsi v306 v307
  let v431 : Index := Scalar.indexCast v308
  let c0_257 : Index := 0#32
  let c0_258 : Index := 0#32
  ![v431.toNat, 0, 0]
def k0_off128 (i : grid0.Coords) (k0_t5 : Fin (k0_t5_loop i).trips) : Fin 3 → Nat :=
  let c2_274 : Index := 2#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v451 : Index := Scalar.indexCast v326
  let c0_275 : Index := 0#32
  ![2, v451.toNat, 0]
def k0_off129 (i : grid0.Coords) (k0_t5 : Fin (k0_t5_loop i).trips) : Fin 3 → Nat :=
  let c3_277 : Index := 3#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v462 : Index := Scalar.indexCast v326
  let c0_278 : Index := 0#32
  ![3, v462.toNat, 0]
def k0_off130 (i : grid0.Coords) (k0_t5 : Fin (k0_t5_loop i).trips) : Fin 3 → Nat :=
  let c4_297 : Index := 4#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v492 : Index := Scalar.indexCast v326
  let c0_298 : Index := 0#32
  ![4, v492.toNat, 0]
def k0_off131 (i : grid0.Coords) (k0_t5 : Fin (k0_t5_loop i).trips) : Fin 3 → Nat :=
  let c5_300 : Index := 5#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v503 : Index := Scalar.indexCast v326
  let c0_301 : Index := 0#32
  ![5, v503.toNat, 0]
def k0_off132 (i : grid0.Coords) (k0_t5 : Fin (k0_t5_loop i).trips) : Fin 3 → Nat :=
  let c6_320 : Index := 6#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v533 : Index := Scalar.indexCast v326
  let c0_321 : Index := 0#32
  ![6, v533.toNat, 0]
def k0_off133 (i : grid0.Coords) (k0_t5 : Fin (k0_t5_loop i).trips) : Fin 3 → Nat :=
  let c7_323 : Index := 7#32
  let c384_i32_215 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c256_i32_214 : BitVec 32 := 256#32
  let v322 : BitVec 32 := Scalar.muli arg22 c256_i32_214
  let v323 : BitVec 32 := Scalar.subi v43 v322
  let c384_i32 : BitVec 32 := 384#32
  let v324 : BitVec 32 := Scalar.minsi v323 c384_i32
  let v325 : BitVec 32 := Scalar.subi c384_i32_215 v324
  let v326 : BitVec 32 := v325
  let v544 : Index := Scalar.indexCast v326
  let c0_324 : Index := 0#32
  ![7, v544.toNat, 0]
def k0_off134 (i : grid0.Coords) (k0_t5 : Fin (k0_t5_loop i).trips) : Fin 4 → Nat :=
  let arg1 : BitVec 32 := BitVec.ofNat 32 (i 1).val
  let c1_i32_1 : BitVec 32 := 1#32
  let v4 : BitVec 32 := Scalar.andi arg1 c1_i32_1
  let v590 : Index := Scalar.indexCast v4
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let v591 : Index := Scalar.indexCast arg22
  let c0_347 : Index := 0#32
  let c0_348 : Index := 0#32
  ![v590.toNat, v591.toNat, 0, 0]
def k0_off135 (i : grid0.Coords) (k0_t5 : Fin (k0_t5_loop i).trips) : Fin 4 → Nat :=
  let c0_586 : Index := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_584 : BitVec 32 := 1#32
  let v1349 : BitVec 32 := Scalar.muli arg22 c1_i32_584
  let c0_i32_585 : BitVec 32 := 0#32
  let v1350 : BitVec 32 := Scalar.addi v1349 c0_i32_585
  let v1351 : Index := Scalar.indexCast v1350
  let c0_587 : Index := 0#32
  let c0_588 : Index := 0#32
  ![0, v1351.toNat, 0, 0]
def k0_off136 (i : grid0.Coords) (k0_t5 : Fin (k0_t5_loop i).trips) : Fin 4 → Nat :=
  let c1_591 : Index := 1#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_589 : BitVec 32 := 1#32
  let v1355 : BitVec 32 := Scalar.muli arg22 c1_i32_589
  let c0_i32_590 : BitVec 32 := 0#32
  let v1356 : BitVec 32 := Scalar.addi v1355 c0_i32_590
  let v1357 : Index := Scalar.indexCast v1356
  let c0_592 : Index := 0#32
  let c0_593 : Index := 0#32
  ![1, v1357.toNat, 0, 0]
def k0_off137 (i : grid0.Coords) (k0_t5 : Fin (k0_t5_loop i).trips) : Fin 4 → Nat :=
  let c2_596 : Index := 2#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_594 : BitVec 32 := 1#32
  let v1361 : BitVec 32 := Scalar.muli arg22 c1_i32_594
  let c0_i32_595 : BitVec 32 := 0#32
  let v1362 : BitVec 32 := Scalar.addi v1361 c0_i32_595
  let v1363 : Index := Scalar.indexCast v1362
  let c0_597 : Index := 0#32
  let c0_598 : Index := 0#32
  ![2, v1363.toNat, 0, 0]
def k0_off138 (i : grid0.Coords) (k0_t5 : Fin (k0_t5_loop i).trips) : Fin 4 → Nat :=
  let c3_601 : Index := 3#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_599 : BitVec 32 := 1#32
  let v1367 : BitVec 32 := Scalar.muli arg22 c1_i32_599
  let c0_i32_600 : BitVec 32 := 0#32
  let v1368 : BitVec 32 := Scalar.addi v1367 c0_i32_600
  let v1369 : Index := Scalar.indexCast v1368
  let c0_602 : Index := 0#32
  let c0_603 : Index := 0#32
  ![3, v1369.toNat, 0, 0]
def k0_off139 (i : grid0.Coords) (k0_t5 : Fin (k0_t5_loop i).trips) : Fin 4 → Nat :=
  let c4_606 : Index := 4#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_604 : BitVec 32 := 1#32
  let v1373 : BitVec 32 := Scalar.muli arg22 c1_i32_604
  let c0_i32_605 : BitVec 32 := 0#32
  let v1374 : BitVec 32 := Scalar.addi v1373 c0_i32_605
  let v1375 : Index := Scalar.indexCast v1374
  let c0_607 : Index := 0#32
  let c0_608 : Index := 0#32
  ![4, v1375.toNat, 0, 0]
def k0_off140 (i : grid0.Coords) (k0_t5 : Fin (k0_t5_loop i).trips) : Fin 4 → Nat :=
  let c5_611 : Index := 5#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_609 : BitVec 32 := 1#32
  let v1379 : BitVec 32 := Scalar.muli arg22 c1_i32_609
  let c0_i32_610 : BitVec 32 := 0#32
  let v1380 : BitVec 32 := Scalar.addi v1379 c0_i32_610
  let v1381 : Index := Scalar.indexCast v1380
  let c0_612 : Index := 0#32
  let c0_613 : Index := 0#32
  ![5, v1381.toNat, 0, 0]
def k0_off141 (i : grid0.Coords) (k0_t5 : Fin (k0_t5_loop i).trips) : Fin 4 → Nat :=
  let c6_616 : Index := 6#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_614 : BitVec 32 := 1#32
  let v1385 : BitVec 32 := Scalar.muli arg22 c1_i32_614
  let c0_i32_615 : BitVec 32 := 0#32
  let v1386 : BitVec 32 := Scalar.addi v1385 c0_i32_615
  let v1387 : Index := Scalar.indexCast v1386
  let c0_617 : Index := 0#32
  let c0_618 : Index := 0#32
  ![6, v1387.toNat, 0, 0]
def k0_off142 (i : grid0.Coords) (k0_t5 : Fin (k0_t5_loop i).trips) : Fin 4 → Nat :=
  let c7_621 : Index := 7#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_619 : BitVec 32 := 1#32
  let v1391 : BitVec 32 := Scalar.muli arg22 c1_i32_619
  let c0_i32_620 : BitVec 32 := 0#32
  let v1392 : BitVec 32 := Scalar.addi v1391 c0_i32_620
  let v1393 : Index := Scalar.indexCast v1392
  let c0_622 : Index := 0#32
  let c0_623 : Index := 0#32
  ![7, v1393.toNat, 0, 0]
def k0_off143 (i : grid0.Coords) (k0_t5 : Fin (k0_t5_loop i).trips) : Fin 4 → Nat :=
  let c8 : Index := 8#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_624 : BitVec 32 := 1#32
  let v1397 : BitVec 32 := Scalar.muli arg22 c1_i32_624
  let c0_i32_625 : BitVec 32 := 0#32
  let v1398 : BitVec 32 := Scalar.addi v1397 c0_i32_625
  let v1399 : Index := Scalar.indexCast v1398
  let c0_626 : Index := 0#32
  let c0_627 : Index := 0#32
  ![8, v1399.toNat, 0, 0]
def k0_off144 (i : grid0.Coords) (k0_t5 : Fin (k0_t5_loop i).trips) : Fin 4 → Nat :=
  let c9 : Index := 9#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_628 : BitVec 32 := 1#32
  let v1403 : BitVec 32 := Scalar.muli arg22 c1_i32_628
  let c0_i32_629 : BitVec 32 := 0#32
  let v1404 : BitVec 32 := Scalar.addi v1403 c0_i32_629
  let v1405 : Index := Scalar.indexCast v1404
  let c0_630 : Index := 0#32
  let c0_631 : Index := 0#32
  ![9, v1405.toNat, 0, 0]
def k0_off145 (i : grid0.Coords) (k0_t5 : Fin (k0_t5_loop i).trips) : Fin 4 → Nat :=
  let c10 : Index := 10#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_632 : BitVec 32 := 1#32
  let v1409 : BitVec 32 := Scalar.muli arg22 c1_i32_632
  let c0_i32_633 : BitVec 32 := 0#32
  let v1410 : BitVec 32 := Scalar.addi v1409 c0_i32_633
  let v1411 : Index := Scalar.indexCast v1410
  let c0_634 : Index := 0#32
  let c0_635 : Index := 0#32
  ![10, v1411.toNat, 0, 0]
def k0_off146 (i : grid0.Coords) (k0_t5 : Fin (k0_t5_loop i).trips) : Fin 4 → Nat :=
  let c11 : Index := 11#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_636 : BitVec 32 := 1#32
  let v1415 : BitVec 32 := Scalar.muli arg22 c1_i32_636
  let c0_i32_637 : BitVec 32 := 0#32
  let v1416 : BitVec 32 := Scalar.addi v1415 c0_i32_637
  let v1417 : Index := Scalar.indexCast v1416
  let c0_638 : Index := 0#32
  let c0_639 : Index := 0#32
  ![11, v1417.toNat, 0, 0]
def k0_off147 (i : grid0.Coords) (k0_t5 : Fin (k0_t5_loop i).trips) : Fin 4 → Nat :=
  let c12 : Index := 12#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_640 : BitVec 32 := 1#32
  let v1421 : BitVec 32 := Scalar.muli arg22 c1_i32_640
  let c0_i32_641 : BitVec 32 := 0#32
  let v1422 : BitVec 32 := Scalar.addi v1421 c0_i32_641
  let v1423 : Index := Scalar.indexCast v1422
  let c0_642 : Index := 0#32
  let c0_643 : Index := 0#32
  ![12, v1423.toNat, 0, 0]
def k0_off148 (i : grid0.Coords) (k0_t5 : Fin (k0_t5_loop i).trips) : Fin 4 → Nat :=
  let c13 : Index := 13#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_644 : BitVec 32 := 1#32
  let v1427 : BitVec 32 := Scalar.muli arg22 c1_i32_644
  let c0_i32_645 : BitVec 32 := 0#32
  let v1428 : BitVec 32 := Scalar.addi v1427 c0_i32_645
  let v1429 : Index := Scalar.indexCast v1428
  let c0_646 : Index := 0#32
  let c0_647 : Index := 0#32
  ![13, v1429.toNat, 0, 0]
def k0_off149 (i : grid0.Coords) (k0_t5 : Fin (k0_t5_loop i).trips) : Fin 4 → Nat :=
  let c14 : Index := 14#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_648 : BitVec 32 := 1#32
  let v1433 : BitVec 32 := Scalar.muli arg22 c1_i32_648
  let c0_i32_649 : BitVec 32 := 0#32
  let v1434 : BitVec 32 := Scalar.addi v1433 c0_i32_649
  let v1435 : Index := Scalar.indexCast v1434
  let c0_650 : Index := 0#32
  let c0_651 : Index := 0#32
  ![14, v1435.toNat, 0, 0]
def k0_off150 (i : grid0.Coords) (k0_t5 : Fin (k0_t5_loop i).trips) : Fin 4 → Nat :=
  let c15 : Index := 15#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_652 : BitVec 32 := 1#32
  let v1439 : BitVec 32 := Scalar.muli arg22 c1_i32_652
  let c0_i32_653 : BitVec 32 := 0#32
  let v1440 : BitVec 32 := Scalar.addi v1439 c0_i32_653
  let v1441 : Index := Scalar.indexCast v1440
  let c0_654 : Index := 0#32
  let c0_655 : Index := 0#32
  ![15, v1441.toNat, 0, 0]
def k0_off151 (i : grid0.Coords) (k0_t5 : Fin (k0_t5_loop i).trips) : Fin 4 → Nat :=
  let c16 : Index := 16#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_656 : BitVec 32 := 1#32
  let v1445 : BitVec 32 := Scalar.muli arg22 c1_i32_656
  let c0_i32_657 : BitVec 32 := 0#32
  let v1446 : BitVec 32 := Scalar.addi v1445 c0_i32_657
  let v1447 : Index := Scalar.indexCast v1446
  let c0_658 : Index := 0#32
  let c0_659 : Index := 0#32
  ![16, v1447.toNat, 0, 0]
def k0_off152 (i : grid0.Coords) (k0_t5 : Fin (k0_t5_loop i).trips) : Fin 4 → Nat :=
  let c17 : Index := 17#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_660 : BitVec 32 := 1#32
  let v1451 : BitVec 32 := Scalar.muli arg22 c1_i32_660
  let c0_i32_661 : BitVec 32 := 0#32
  let v1452 : BitVec 32 := Scalar.addi v1451 c0_i32_661
  let v1453 : Index := Scalar.indexCast v1452
  let c0_662 : Index := 0#32
  let c0_663 : Index := 0#32
  ![17, v1453.toNat, 0, 0]
def k0_off153 (i : grid0.Coords) (k0_t5 : Fin (k0_t5_loop i).trips) : Fin 4 → Nat :=
  let c18 : Index := 18#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_664 : BitVec 32 := 1#32
  let v1457 : BitVec 32 := Scalar.muli arg22 c1_i32_664
  let c0_i32_665 : BitVec 32 := 0#32
  let v1458 : BitVec 32 := Scalar.addi v1457 c0_i32_665
  let v1459 : Index := Scalar.indexCast v1458
  let c0_666 : Index := 0#32
  let c0_667 : Index := 0#32
  ![18, v1459.toNat, 0, 0]
def k0_off154 (i : grid0.Coords) (k0_t5 : Fin (k0_t5_loop i).trips) : Fin 4 → Nat :=
  let c19 : Index := 19#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_668 : BitVec 32 := 1#32
  let v1463 : BitVec 32 := Scalar.muli arg22 c1_i32_668
  let c0_i32_669 : BitVec 32 := 0#32
  let v1464 : BitVec 32 := Scalar.addi v1463 c0_i32_669
  let v1465 : Index := Scalar.indexCast v1464
  let c0_670 : Index := 0#32
  let c0_671 : Index := 0#32
  ![19, v1465.toNat, 0, 0]
def k0_off155 (i : grid0.Coords) (k0_t5 : Fin (k0_t5_loop i).trips) : Fin 4 → Nat :=
  let c20 : Index := 20#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_672 : BitVec 32 := 1#32
  let v1469 : BitVec 32 := Scalar.muli arg22 c1_i32_672
  let c0_i32_673 : BitVec 32 := 0#32
  let v1470 : BitVec 32 := Scalar.addi v1469 c0_i32_673
  let v1471 : Index := Scalar.indexCast v1470
  let c0_674 : Index := 0#32
  let c0_675 : Index := 0#32
  ![20, v1471.toNat, 0, 0]
def k0_off156 (i : grid0.Coords) (k0_t5 : Fin (k0_t5_loop i).trips) : Fin 4 → Nat :=
  let c21 : Index := 21#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_676 : BitVec 32 := 1#32
  let v1475 : BitVec 32 := Scalar.muli arg22 c1_i32_676
  let c0_i32_677 : BitVec 32 := 0#32
  let v1476 : BitVec 32 := Scalar.addi v1475 c0_i32_677
  let v1477 : Index := Scalar.indexCast v1476
  let c0_678 : Index := 0#32
  let c0_679 : Index := 0#32
  ![21, v1477.toNat, 0, 0]
def k0_off157 (i : grid0.Coords) (k0_t5 : Fin (k0_t5_loop i).trips) : Fin 4 → Nat :=
  let c22 : Index := 22#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_680 : BitVec 32 := 1#32
  let v1481 : BitVec 32 := Scalar.muli arg22 c1_i32_680
  let c0_i32_681 : BitVec 32 := 0#32
  let v1482 : BitVec 32 := Scalar.addi v1481 c0_i32_681
  let v1483 : Index := Scalar.indexCast v1482
  let c0_682 : Index := 0#32
  let c0_683 : Index := 0#32
  ![22, v1483.toNat, 0, 0]
def k0_off158 (i : grid0.Coords) (k0_t5 : Fin (k0_t5_loop i).trips) : Fin 4 → Nat :=
  let c23 : Index := 23#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_684 : BitVec 32 := 1#32
  let v1487 : BitVec 32 := Scalar.muli arg22 c1_i32_684
  let c0_i32_685 : BitVec 32 := 0#32
  let v1488 : BitVec 32 := Scalar.addi v1487 c0_i32_685
  let v1489 : Index := Scalar.indexCast v1488
  let c0_686 : Index := 0#32
  let c0_687 : Index := 0#32
  ![23, v1489.toNat, 0, 0]
def k0_off159 (i : grid0.Coords) (k0_t5 : Fin (k0_t5_loop i).trips) : Fin 4 → Nat :=
  let c24 : Index := 24#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_688 : BitVec 32 := 1#32
  let v1493 : BitVec 32 := Scalar.muli arg22 c1_i32_688
  let c0_i32_689 : BitVec 32 := 0#32
  let v1494 : BitVec 32 := Scalar.addi v1493 c0_i32_689
  let v1495 : Index := Scalar.indexCast v1494
  let c0_690 : Index := 0#32
  let c0_691 : Index := 0#32
  ![24, v1495.toNat, 0, 0]
def k0_off160 (i : grid0.Coords) (k0_t5 : Fin (k0_t5_loop i).trips) : Fin 4 → Nat :=
  let c25 : Index := 25#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_692 : BitVec 32 := 1#32
  let v1499 : BitVec 32 := Scalar.muli arg22 c1_i32_692
  let c0_i32_693 : BitVec 32 := 0#32
  let v1500 : BitVec 32 := Scalar.addi v1499 c0_i32_693
  let v1501 : Index := Scalar.indexCast v1500
  let c0_694 : Index := 0#32
  let c0_695 : Index := 0#32
  ![25, v1501.toNat, 0, 0]
def k0_off161 (i : grid0.Coords) (k0_t5 : Fin (k0_t5_loop i).trips) : Fin 4 → Nat :=
  let c26 : Index := 26#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_696 : BitVec 32 := 1#32
  let v1505 : BitVec 32 := Scalar.muli arg22 c1_i32_696
  let c0_i32_697 : BitVec 32 := 0#32
  let v1506 : BitVec 32 := Scalar.addi v1505 c0_i32_697
  let v1507 : Index := Scalar.indexCast v1506
  let c0_698 : Index := 0#32
  let c0_699 : Index := 0#32
  ![26, v1507.toNat, 0, 0]
def k0_off162 (i : grid0.Coords) (k0_t5 : Fin (k0_t5_loop i).trips) : Fin 4 → Nat :=
  let c27 : Index := 27#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_700 : BitVec 32 := 1#32
  let v1511 : BitVec 32 := Scalar.muli arg22 c1_i32_700
  let c0_i32_701 : BitVec 32 := 0#32
  let v1512 : BitVec 32 := Scalar.addi v1511 c0_i32_701
  let v1513 : Index := Scalar.indexCast v1512
  let c0_702 : Index := 0#32
  let c0_703 : Index := 0#32
  ![27, v1513.toNat, 0, 0]
def k0_off163 (i : grid0.Coords) (k0_t5 : Fin (k0_t5_loop i).trips) : Fin 4 → Nat :=
  let c28 : Index := 28#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_704 : BitVec 32 := 1#32
  let v1517 : BitVec 32 := Scalar.muli arg22 c1_i32_704
  let c0_i32_705 : BitVec 32 := 0#32
  let v1518 : BitVec 32 := Scalar.addi v1517 c0_i32_705
  let v1519 : Index := Scalar.indexCast v1518
  let c0_706 : Index := 0#32
  let c0_707 : Index := 0#32
  ![28, v1519.toNat, 0, 0]
def k0_off164 (i : grid0.Coords) (k0_t5 : Fin (k0_t5_loop i).trips) : Fin 4 → Nat :=
  let c29 : Index := 29#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_708 : BitVec 32 := 1#32
  let v1523 : BitVec 32 := Scalar.muli arg22 c1_i32_708
  let c0_i32_709 : BitVec 32 := 0#32
  let v1524 : BitVec 32 := Scalar.addi v1523 c0_i32_709
  let v1525 : Index := Scalar.indexCast v1524
  let c0_710 : Index := 0#32
  let c0_711 : Index := 0#32
  ![29, v1525.toNat, 0, 0]
def k0_off165 (i : grid0.Coords) (k0_t5 : Fin (k0_t5_loop i).trips) : Fin 4 → Nat :=
  let c30 : Index := 30#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_712 : BitVec 32 := 1#32
  let v1529 : BitVec 32 := Scalar.muli arg22 c1_i32_712
  let c0_i32_713 : BitVec 32 := 0#32
  let v1530 : BitVec 32 := Scalar.addi v1529 c0_i32_713
  let v1531 : Index := Scalar.indexCast v1530
  let c0_714 : Index := 0#32
  let c0_715 : Index := 0#32
  ![30, v1531.toNat, 0, 0]
def k0_off166 (i : grid0.Coords) (k0_t5 : Fin (k0_t5_loop i).trips) : Fin 4 → Nat :=
  let c31 : Index := 31#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c2_i32_160 : BitVec 32 := 2#32
  let v223 : BitVec 32 := Scalar.subi v41 c2_i32_160
  let c0_i32_161 : BitVec 32 := 0#32
  let v224 : BitVec 32 := Scalar.maxsi v223 c0_i32_161
  let c0_i32_162 : BitVec 32 := 0#32
  let v226 : BitVec 1 := Scalar.cmpi .sgt v224 c0_i32_162
  let v227 : BitVec 32 := Scalar.extui v226
  let c0_i32_163 : BitVec 32 := 0#32
  let v228 : BitVec 1 := Scalar.cmpi .slt v224 c0_i32_163
  let v229 : BitVec 32 := Scalar.extui v228
  let v230 : BitVec 32 := Scalar.subi v227 v229
  let c6_i32 : BitVec 32 := 6#32
  let c0_i32_164 : BitVec 32 := 0#32
  let v231 : BitVec 1 := Scalar.cmpi .sgt c6_i32 c0_i32_164
  let v232 : BitVec 32 := Scalar.extui v231
  let c0_i32_165 : BitVec 32 := 0#32
  let v233 : BitVec 1 := Scalar.cmpi .slt c6_i32 c0_i32_165
  let v234 : BitVec 32 := Scalar.extui v233
  let v235 : BitVec 32 := Scalar.subi v232 v234
  let v236 : BitVec 1 := Scalar.cmpi .ne v230 v235
  let v237 : BitVec 32 := Scalar.remsi v224 c6_i32
  let c0_i32_166 : BitVec 32 := 0#32
  let v238 : BitVec 1 := Scalar.cmpi .ne v237 c0_i32_166
  let v239 : BitVec 1 := Scalar.andi v236 v238
  let v225 : BitVec 32 := Scalar.divsi v224 c6_i32
  let c1_i32_167 : BitVec 32 := 1#32
  let v240 : BitVec 32 := Scalar.subi v225 c1_i32_167
  let v241 : BitVec 32 := Scalar.select v239 v240 v225
  let c6_i32_173 : BitVec 32 := 6#32
  let v247 : BitVec 32 := Scalar.muli v241 c6_i32_173
  let v248 : BitVec 32 := Scalar.subi v41 v247
  let c1_i32_175 : BitVec 32 := 1#32
  let v250 : BitVec 32 := Scalar.divsi v248 c1_i32_175
  let v251 : BitVec 32 := Scalar.muli v250 c1_i32_175
  let v252 : BitVec 32 := Scalar.addi v247 v251
  let c1_i32_177 : BitVec 32 := 1#32
  let arg22 : BitVec 32 := Scf.iv v252 c1_i32_177 k0_t5
  let c1_i32_716 : BitVec 32 := 1#32
  let v1535 : BitVec 32 := Scalar.muli arg22 c1_i32_716
  let c0_i32_717 : BitVec 32 := 0#32
  let v1536 : BitVec 32 := Scalar.addi v1535 c0_i32_717
  let v1537 : Index := Scalar.indexCast v1536
  let c0_718 : Index := 0#32
  let c0_719 : Index := 0#32
  ![31, v1537.toNat, 0, 0]
@[reducible] def k0_t6_loop (i : grid0.Coords) : Scf.Loop 32 :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_180 : BitVec 32 := 1#32
  ⟨v41, v257, c1_i32_180⟩
def k0_off167 (i : grid0.Coords) (k0_t6 : Fin (k0_t6_loop i).trips) : Fin 3 → Nat :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let v314 : Index := Scalar.indexCast arg22
  let c0_211 : Index := 0#32
  let c0_212 : Index := 0#32
  ![v314.toNat, 0, 0]
def k0_off168 (i : grid0.Coords) (k0_t6 : Fin (k0_t6_loop i).trips) : Fin 4 → Nat :=
  let arg1 : BitVec 32 := BitVec.ofNat 32 (i 1).val
  let c1_i32_1 : BitVec 32 := 1#32
  let v4 : BitVec 32 := Scalar.andi arg1 c1_i32_1
  let v412 : Index := Scalar.indexCast v4
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let v413 : Index := Scalar.indexCast arg22
  let c0_249 : Index := 0#32
  let c0_250 : Index := 0#32
  ![v412.toNat, v413.toNat, 0, 0]
def k0_off169 (i : grid0.Coords) (k0_t6 : Fin (k0_t6_loop i).trips) : Fin 4 → Nat :=
  let c0_488 : Index := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_486 : BitVec 32 := 1#32
  let v1171 : BitVec 32 := Scalar.muli arg22 c1_i32_486
  let c0_i32_487 : BitVec 32 := 0#32
  let v1172 : BitVec 32 := Scalar.addi v1171 c0_i32_487
  let v1173 : Index := Scalar.indexCast v1172
  let c0_489 : Index := 0#32
  let c0_490 : Index := 0#32
  ![0, v1173.toNat, 0, 0]
def k0_off170 (i : grid0.Coords) (k0_t6 : Fin (k0_t6_loop i).trips) : Fin 4 → Nat :=
  let c1_493 : Index := 1#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_491 : BitVec 32 := 1#32
  let v1177 : BitVec 32 := Scalar.muli arg22 c1_i32_491
  let c0_i32_492 : BitVec 32 := 0#32
  let v1178 : BitVec 32 := Scalar.addi v1177 c0_i32_492
  let v1179 : Index := Scalar.indexCast v1178
  let c0_494 : Index := 0#32
  let c0_495 : Index := 0#32
  ![1, v1179.toNat, 0, 0]
def k0_off171 (i : grid0.Coords) (k0_t6 : Fin (k0_t6_loop i).trips) : Fin 4 → Nat :=
  let c2_498 : Index := 2#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_496 : BitVec 32 := 1#32
  let v1183 : BitVec 32 := Scalar.muli arg22 c1_i32_496
  let c0_i32_497 : BitVec 32 := 0#32
  let v1184 : BitVec 32 := Scalar.addi v1183 c0_i32_497
  let v1185 : Index := Scalar.indexCast v1184
  let c0_499 : Index := 0#32
  let c0_500 : Index := 0#32
  ![2, v1185.toNat, 0, 0]
def k0_off172 (i : grid0.Coords) (k0_t6 : Fin (k0_t6_loop i).trips) : Fin 4 → Nat :=
  let c3_503 : Index := 3#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_501 : BitVec 32 := 1#32
  let v1189 : BitVec 32 := Scalar.muli arg22 c1_i32_501
  let c0_i32_502 : BitVec 32 := 0#32
  let v1190 : BitVec 32 := Scalar.addi v1189 c0_i32_502
  let v1191 : Index := Scalar.indexCast v1190
  let c0_504 : Index := 0#32
  let c0_505 : Index := 0#32
  ![3, v1191.toNat, 0, 0]
def k0_off173 (i : grid0.Coords) (k0_t6 : Fin (k0_t6_loop i).trips) : Fin 4 → Nat :=
  let c4_508 : Index := 4#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_506 : BitVec 32 := 1#32
  let v1195 : BitVec 32 := Scalar.muli arg22 c1_i32_506
  let c0_i32_507 : BitVec 32 := 0#32
  let v1196 : BitVec 32 := Scalar.addi v1195 c0_i32_507
  let v1197 : Index := Scalar.indexCast v1196
  let c0_509 : Index := 0#32
  let c0_510 : Index := 0#32
  ![4, v1197.toNat, 0, 0]
def k0_off174 (i : grid0.Coords) (k0_t6 : Fin (k0_t6_loop i).trips) : Fin 4 → Nat :=
  let c5_513 : Index := 5#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_511 : BitVec 32 := 1#32
  let v1201 : BitVec 32 := Scalar.muli arg22 c1_i32_511
  let c0_i32_512 : BitVec 32 := 0#32
  let v1202 : BitVec 32 := Scalar.addi v1201 c0_i32_512
  let v1203 : Index := Scalar.indexCast v1202
  let c0_514 : Index := 0#32
  let c0_515 : Index := 0#32
  ![5, v1203.toNat, 0, 0]
def k0_off175 (i : grid0.Coords) (k0_t6 : Fin (k0_t6_loop i).trips) : Fin 4 → Nat :=
  let c6_518 : Index := 6#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_516 : BitVec 32 := 1#32
  let v1207 : BitVec 32 := Scalar.muli arg22 c1_i32_516
  let c0_i32_517 : BitVec 32 := 0#32
  let v1208 : BitVec 32 := Scalar.addi v1207 c0_i32_517
  let v1209 : Index := Scalar.indexCast v1208
  let c0_519 : Index := 0#32
  let c0_520 : Index := 0#32
  ![6, v1209.toNat, 0, 0]
def k0_off176 (i : grid0.Coords) (k0_t6 : Fin (k0_t6_loop i).trips) : Fin 4 → Nat :=
  let c7_523 : Index := 7#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_521 : BitVec 32 := 1#32
  let v1213 : BitVec 32 := Scalar.muli arg22 c1_i32_521
  let c0_i32_522 : BitVec 32 := 0#32
  let v1214 : BitVec 32 := Scalar.addi v1213 c0_i32_522
  let v1215 : Index := Scalar.indexCast v1214
  let c0_524 : Index := 0#32
  let c0_525 : Index := 0#32
  ![7, v1215.toNat, 0, 0]
def k0_off177 (i : grid0.Coords) (k0_t6 : Fin (k0_t6_loop i).trips) : Fin 4 → Nat :=
  let c8 : Index := 8#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_526 : BitVec 32 := 1#32
  let v1219 : BitVec 32 := Scalar.muli arg22 c1_i32_526
  let c0_i32_527 : BitVec 32 := 0#32
  let v1220 : BitVec 32 := Scalar.addi v1219 c0_i32_527
  let v1221 : Index := Scalar.indexCast v1220
  let c0_528 : Index := 0#32
  let c0_529 : Index := 0#32
  ![8, v1221.toNat, 0, 0]
def k0_off178 (i : grid0.Coords) (k0_t6 : Fin (k0_t6_loop i).trips) : Fin 4 → Nat :=
  let c9 : Index := 9#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_530 : BitVec 32 := 1#32
  let v1225 : BitVec 32 := Scalar.muli arg22 c1_i32_530
  let c0_i32_531 : BitVec 32 := 0#32
  let v1226 : BitVec 32 := Scalar.addi v1225 c0_i32_531
  let v1227 : Index := Scalar.indexCast v1226
  let c0_532 : Index := 0#32
  let c0_533 : Index := 0#32
  ![9, v1227.toNat, 0, 0]
def k0_off179 (i : grid0.Coords) (k0_t6 : Fin (k0_t6_loop i).trips) : Fin 4 → Nat :=
  let c10 : Index := 10#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_534 : BitVec 32 := 1#32
  let v1231 : BitVec 32 := Scalar.muli arg22 c1_i32_534
  let c0_i32_535 : BitVec 32 := 0#32
  let v1232 : BitVec 32 := Scalar.addi v1231 c0_i32_535
  let v1233 : Index := Scalar.indexCast v1232
  let c0_536 : Index := 0#32
  let c0_537 : Index := 0#32
  ![10, v1233.toNat, 0, 0]
def k0_off180 (i : grid0.Coords) (k0_t6 : Fin (k0_t6_loop i).trips) : Fin 4 → Nat :=
  let c11 : Index := 11#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_538 : BitVec 32 := 1#32
  let v1237 : BitVec 32 := Scalar.muli arg22 c1_i32_538
  let c0_i32_539 : BitVec 32 := 0#32
  let v1238 : BitVec 32 := Scalar.addi v1237 c0_i32_539
  let v1239 : Index := Scalar.indexCast v1238
  let c0_540 : Index := 0#32
  let c0_541 : Index := 0#32
  ![11, v1239.toNat, 0, 0]
def k0_off181 (i : grid0.Coords) (k0_t6 : Fin (k0_t6_loop i).trips) : Fin 4 → Nat :=
  let c12 : Index := 12#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_542 : BitVec 32 := 1#32
  let v1243 : BitVec 32 := Scalar.muli arg22 c1_i32_542
  let c0_i32_543 : BitVec 32 := 0#32
  let v1244 : BitVec 32 := Scalar.addi v1243 c0_i32_543
  let v1245 : Index := Scalar.indexCast v1244
  let c0_544 : Index := 0#32
  let c0_545 : Index := 0#32
  ![12, v1245.toNat, 0, 0]
def k0_off182 (i : grid0.Coords) (k0_t6 : Fin (k0_t6_loop i).trips) : Fin 4 → Nat :=
  let c13 : Index := 13#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_546 : BitVec 32 := 1#32
  let v1249 : BitVec 32 := Scalar.muli arg22 c1_i32_546
  let c0_i32_547 : BitVec 32 := 0#32
  let v1250 : BitVec 32 := Scalar.addi v1249 c0_i32_547
  let v1251 : Index := Scalar.indexCast v1250
  let c0_548 : Index := 0#32
  let c0_549 : Index := 0#32
  ![13, v1251.toNat, 0, 0]
def k0_off183 (i : grid0.Coords) (k0_t6 : Fin (k0_t6_loop i).trips) : Fin 4 → Nat :=
  let c14 : Index := 14#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_550 : BitVec 32 := 1#32
  let v1255 : BitVec 32 := Scalar.muli arg22 c1_i32_550
  let c0_i32_551 : BitVec 32 := 0#32
  let v1256 : BitVec 32 := Scalar.addi v1255 c0_i32_551
  let v1257 : Index := Scalar.indexCast v1256
  let c0_552 : Index := 0#32
  let c0_553 : Index := 0#32
  ![14, v1257.toNat, 0, 0]
def k0_off184 (i : grid0.Coords) (k0_t6 : Fin (k0_t6_loop i).trips) : Fin 4 → Nat :=
  let c15 : Index := 15#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_554 : BitVec 32 := 1#32
  let v1261 : BitVec 32 := Scalar.muli arg22 c1_i32_554
  let c0_i32_555 : BitVec 32 := 0#32
  let v1262 : BitVec 32 := Scalar.addi v1261 c0_i32_555
  let v1263 : Index := Scalar.indexCast v1262
  let c0_556 : Index := 0#32
  let c0_557 : Index := 0#32
  ![15, v1263.toNat, 0, 0]
def k0_off185 (i : grid0.Coords) (k0_t6 : Fin (k0_t6_loop i).trips) : Fin 4 → Nat :=
  let c16 : Index := 16#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_558 : BitVec 32 := 1#32
  let v1267 : BitVec 32 := Scalar.muli arg22 c1_i32_558
  let c0_i32_559 : BitVec 32 := 0#32
  let v1268 : BitVec 32 := Scalar.addi v1267 c0_i32_559
  let v1269 : Index := Scalar.indexCast v1268
  let c0_560 : Index := 0#32
  let c0_561 : Index := 0#32
  ![16, v1269.toNat, 0, 0]
def k0_off186 (i : grid0.Coords) (k0_t6 : Fin (k0_t6_loop i).trips) : Fin 4 → Nat :=
  let c17 : Index := 17#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_562 : BitVec 32 := 1#32
  let v1273 : BitVec 32 := Scalar.muli arg22 c1_i32_562
  let c0_i32_563 : BitVec 32 := 0#32
  let v1274 : BitVec 32 := Scalar.addi v1273 c0_i32_563
  let v1275 : Index := Scalar.indexCast v1274
  let c0_564 : Index := 0#32
  let c0_565 : Index := 0#32
  ![17, v1275.toNat, 0, 0]
def k0_off187 (i : grid0.Coords) (k0_t6 : Fin (k0_t6_loop i).trips) : Fin 4 → Nat :=
  let c18 : Index := 18#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_566 : BitVec 32 := 1#32
  let v1279 : BitVec 32 := Scalar.muli arg22 c1_i32_566
  let c0_i32_567 : BitVec 32 := 0#32
  let v1280 : BitVec 32 := Scalar.addi v1279 c0_i32_567
  let v1281 : Index := Scalar.indexCast v1280
  let c0_568 : Index := 0#32
  let c0_569 : Index := 0#32
  ![18, v1281.toNat, 0, 0]
def k0_off188 (i : grid0.Coords) (k0_t6 : Fin (k0_t6_loop i).trips) : Fin 4 → Nat :=
  let c19 : Index := 19#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_570 : BitVec 32 := 1#32
  let v1285 : BitVec 32 := Scalar.muli arg22 c1_i32_570
  let c0_i32_571 : BitVec 32 := 0#32
  let v1286 : BitVec 32 := Scalar.addi v1285 c0_i32_571
  let v1287 : Index := Scalar.indexCast v1286
  let c0_572 : Index := 0#32
  let c0_573 : Index := 0#32
  ![19, v1287.toNat, 0, 0]
def k0_off189 (i : grid0.Coords) (k0_t6 : Fin (k0_t6_loop i).trips) : Fin 4 → Nat :=
  let c20 : Index := 20#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_574 : BitVec 32 := 1#32
  let v1291 : BitVec 32 := Scalar.muli arg22 c1_i32_574
  let c0_i32_575 : BitVec 32 := 0#32
  let v1292 : BitVec 32 := Scalar.addi v1291 c0_i32_575
  let v1293 : Index := Scalar.indexCast v1292
  let c0_576 : Index := 0#32
  let c0_577 : Index := 0#32
  ![20, v1293.toNat, 0, 0]
def k0_off190 (i : grid0.Coords) (k0_t6 : Fin (k0_t6_loop i).trips) : Fin 4 → Nat :=
  let c21 : Index := 21#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_578 : BitVec 32 := 1#32
  let v1297 : BitVec 32 := Scalar.muli arg22 c1_i32_578
  let c0_i32_579 : BitVec 32 := 0#32
  let v1298 : BitVec 32 := Scalar.addi v1297 c0_i32_579
  let v1299 : Index := Scalar.indexCast v1298
  let c0_580 : Index := 0#32
  let c0_581 : Index := 0#32
  ![21, v1299.toNat, 0, 0]
def k0_off191 (i : grid0.Coords) (k0_t6 : Fin (k0_t6_loop i).trips) : Fin 4 → Nat :=
  let c22 : Index := 22#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_582 : BitVec 32 := 1#32
  let v1303 : BitVec 32 := Scalar.muli arg22 c1_i32_582
  let c0_i32_583 : BitVec 32 := 0#32
  let v1304 : BitVec 32 := Scalar.addi v1303 c0_i32_583
  let v1305 : Index := Scalar.indexCast v1304
  let c0_584 : Index := 0#32
  let c0_585 : Index := 0#32
  ![22, v1305.toNat, 0, 0]
def k0_off192 (i : grid0.Coords) (k0_t6 : Fin (k0_t6_loop i).trips) : Fin 4 → Nat :=
  let c23 : Index := 23#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_586 : BitVec 32 := 1#32
  let v1309 : BitVec 32 := Scalar.muli arg22 c1_i32_586
  let c0_i32_587 : BitVec 32 := 0#32
  let v1310 : BitVec 32 := Scalar.addi v1309 c0_i32_587
  let v1311 : Index := Scalar.indexCast v1310
  let c0_588 : Index := 0#32
  let c0_589 : Index := 0#32
  ![23, v1311.toNat, 0, 0]
def k0_off193 (i : grid0.Coords) (k0_t6 : Fin (k0_t6_loop i).trips) : Fin 4 → Nat :=
  let c24 : Index := 24#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_590 : BitVec 32 := 1#32
  let v1315 : BitVec 32 := Scalar.muli arg22 c1_i32_590
  let c0_i32_591 : BitVec 32 := 0#32
  let v1316 : BitVec 32 := Scalar.addi v1315 c0_i32_591
  let v1317 : Index := Scalar.indexCast v1316
  let c0_592 : Index := 0#32
  let c0_593 : Index := 0#32
  ![24, v1317.toNat, 0, 0]
def k0_off194 (i : grid0.Coords) (k0_t6 : Fin (k0_t6_loop i).trips) : Fin 4 → Nat :=
  let c25 : Index := 25#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_594 : BitVec 32 := 1#32
  let v1321 : BitVec 32 := Scalar.muli arg22 c1_i32_594
  let c0_i32_595 : BitVec 32 := 0#32
  let v1322 : BitVec 32 := Scalar.addi v1321 c0_i32_595
  let v1323 : Index := Scalar.indexCast v1322
  let c0_596 : Index := 0#32
  let c0_597 : Index := 0#32
  ![25, v1323.toNat, 0, 0]
def k0_off195 (i : grid0.Coords) (k0_t6 : Fin (k0_t6_loop i).trips) : Fin 4 → Nat :=
  let c26 : Index := 26#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_598 : BitVec 32 := 1#32
  let v1327 : BitVec 32 := Scalar.muli arg22 c1_i32_598
  let c0_i32_599 : BitVec 32 := 0#32
  let v1328 : BitVec 32 := Scalar.addi v1327 c0_i32_599
  let v1329 : Index := Scalar.indexCast v1328
  let c0_600 : Index := 0#32
  let c0_601 : Index := 0#32
  ![26, v1329.toNat, 0, 0]
def k0_off196 (i : grid0.Coords) (k0_t6 : Fin (k0_t6_loop i).trips) : Fin 4 → Nat :=
  let c27 : Index := 27#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_602 : BitVec 32 := 1#32
  let v1333 : BitVec 32 := Scalar.muli arg22 c1_i32_602
  let c0_i32_603 : BitVec 32 := 0#32
  let v1334 : BitVec 32 := Scalar.addi v1333 c0_i32_603
  let v1335 : Index := Scalar.indexCast v1334
  let c0_604 : Index := 0#32
  let c0_605 : Index := 0#32
  ![27, v1335.toNat, 0, 0]
def k0_off197 (i : grid0.Coords) (k0_t6 : Fin (k0_t6_loop i).trips) : Fin 4 → Nat :=
  let c28 : Index := 28#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_606 : BitVec 32 := 1#32
  let v1339 : BitVec 32 := Scalar.muli arg22 c1_i32_606
  let c0_i32_607 : BitVec 32 := 0#32
  let v1340 : BitVec 32 := Scalar.addi v1339 c0_i32_607
  let v1341 : Index := Scalar.indexCast v1340
  let c0_608 : Index := 0#32
  let c0_609 : Index := 0#32
  ![28, v1341.toNat, 0, 0]
def k0_off198 (i : grid0.Coords) (k0_t6 : Fin (k0_t6_loop i).trips) : Fin 4 → Nat :=
  let c29 : Index := 29#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_610 : BitVec 32 := 1#32
  let v1345 : BitVec 32 := Scalar.muli arg22 c1_i32_610
  let c0_i32_611 : BitVec 32 := 0#32
  let v1346 : BitVec 32 := Scalar.addi v1345 c0_i32_611
  let v1347 : Index := Scalar.indexCast v1346
  let c0_612 : Index := 0#32
  let c0_613 : Index := 0#32
  ![29, v1347.toNat, 0, 0]
def k0_off199 (i : grid0.Coords) (k0_t6 : Fin (k0_t6_loop i).trips) : Fin 4 → Nat :=
  let c30 : Index := 30#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_614 : BitVec 32 := 1#32
  let v1351 : BitVec 32 := Scalar.muli arg22 c1_i32_614
  let c0_i32_615 : BitVec 32 := 0#32
  let v1352 : BitVec 32 := Scalar.addi v1351 c0_i32_615
  let v1353 : Index := Scalar.indexCast v1352
  let c0_616 : Index := 0#32
  let c0_617 : Index := 0#32
  ![30, v1353.toNat, 0, 0]
def k0_off200 (i : grid0.Coords) (k0_t6 : Fin (k0_t6_loop i).trips) : Fin 4 → Nat :=
  let c31 : Index := 31#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c1_i32_180 : BitVec 32 := 1#32
  let arg22 : BitVec 32 := Scf.iv v41 c1_i32_180 k0_t6
  let c1_i32_618 : BitVec 32 := 1#32
  let v1357 : BitVec 32 := Scalar.muli arg22 c1_i32_618
  let c0_i32_619 : BitVec 32 := 0#32
  let v1358 : BitVec 32 := Scalar.addi v1357 c0_i32_619
  let v1359 : Index := Scalar.indexCast v1358
  let c0_620 : Index := 0#32
  let c0_621 : Index := 0#32
  ![31, v1359.toNat, 0, 0]
@[reducible] def k0_t7_loop (i : grid0.Coords) : Scf.Loop 32 :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let v254 : BitVec 32 := Scalar.addi v41 v253
  let c1_i32_181 : BitVec 32 := 1#32
  ⟨v257, v254, c1_i32_181⟩
def k0_off201 (i : grid0.Coords) (k0_t7 : Fin (k0_t7_loop i).trips) : Fin 3 → Nat :=
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let v314 : Index := Scalar.indexCast arg22
  let c0_211 : Index := 0#32
  let c0_212 : Index := 0#32
  ![v314.toNat, 0, 0]
def k0_off202 (i : grid0.Coords) (k0_t7 : Fin (k0_t7_loop i).trips) : Fin 4 → Nat :=
  let arg1 : BitVec 32 := BitVec.ofNat 32 (i 1).val
  let c1_i32_1 : BitVec 32 := 1#32
  let v4 : BitVec 32 := Scalar.andi arg1 c1_i32_1
  let v412 : Index := Scalar.indexCast v4
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let v413 : Index := Scalar.indexCast arg22
  let c0_249 : Index := 0#32
  let c0_250 : Index := 0#32
  ![v412.toNat, v413.toNat, 0, 0]
def k0_off203 (i : grid0.Coords) (k0_t7 : Fin (k0_t7_loop i).trips) : Fin 4 → Nat :=
  let c0_488 : Index := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_486 : BitVec 32 := 1#32
  let v1171 : BitVec 32 := Scalar.muli arg22 c1_i32_486
  let c0_i32_487 : BitVec 32 := 0#32
  let v1172 : BitVec 32 := Scalar.addi v1171 c0_i32_487
  let v1173 : Index := Scalar.indexCast v1172
  let c0_489 : Index := 0#32
  let c0_490 : Index := 0#32
  ![0, v1173.toNat, 0, 0]
def k0_off204 (i : grid0.Coords) (k0_t7 : Fin (k0_t7_loop i).trips) : Fin 4 → Nat :=
  let c1_493 : Index := 1#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_491 : BitVec 32 := 1#32
  let v1177 : BitVec 32 := Scalar.muli arg22 c1_i32_491
  let c0_i32_492 : BitVec 32 := 0#32
  let v1178 : BitVec 32 := Scalar.addi v1177 c0_i32_492
  let v1179 : Index := Scalar.indexCast v1178
  let c0_494 : Index := 0#32
  let c0_495 : Index := 0#32
  ![1, v1179.toNat, 0, 0]
def k0_off205 (i : grid0.Coords) (k0_t7 : Fin (k0_t7_loop i).trips) : Fin 4 → Nat :=
  let c2_498 : Index := 2#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_496 : BitVec 32 := 1#32
  let v1183 : BitVec 32 := Scalar.muli arg22 c1_i32_496
  let c0_i32_497 : BitVec 32 := 0#32
  let v1184 : BitVec 32 := Scalar.addi v1183 c0_i32_497
  let v1185 : Index := Scalar.indexCast v1184
  let c0_499 : Index := 0#32
  let c0_500 : Index := 0#32
  ![2, v1185.toNat, 0, 0]
def k0_off206 (i : grid0.Coords) (k0_t7 : Fin (k0_t7_loop i).trips) : Fin 4 → Nat :=
  let c3_503 : Index := 3#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_501 : BitVec 32 := 1#32
  let v1189 : BitVec 32 := Scalar.muli arg22 c1_i32_501
  let c0_i32_502 : BitVec 32 := 0#32
  let v1190 : BitVec 32 := Scalar.addi v1189 c0_i32_502
  let v1191 : Index := Scalar.indexCast v1190
  let c0_504 : Index := 0#32
  let c0_505 : Index := 0#32
  ![3, v1191.toNat, 0, 0]
def k0_off207 (i : grid0.Coords) (k0_t7 : Fin (k0_t7_loop i).trips) : Fin 4 → Nat :=
  let c4_508 : Index := 4#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_506 : BitVec 32 := 1#32
  let v1195 : BitVec 32 := Scalar.muli arg22 c1_i32_506
  let c0_i32_507 : BitVec 32 := 0#32
  let v1196 : BitVec 32 := Scalar.addi v1195 c0_i32_507
  let v1197 : Index := Scalar.indexCast v1196
  let c0_509 : Index := 0#32
  let c0_510 : Index := 0#32
  ![4, v1197.toNat, 0, 0]
def k0_off208 (i : grid0.Coords) (k0_t7 : Fin (k0_t7_loop i).trips) : Fin 4 → Nat :=
  let c5_513 : Index := 5#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_511 : BitVec 32 := 1#32
  let v1201 : BitVec 32 := Scalar.muli arg22 c1_i32_511
  let c0_i32_512 : BitVec 32 := 0#32
  let v1202 : BitVec 32 := Scalar.addi v1201 c0_i32_512
  let v1203 : Index := Scalar.indexCast v1202
  let c0_514 : Index := 0#32
  let c0_515 : Index := 0#32
  ![5, v1203.toNat, 0, 0]
def k0_off209 (i : grid0.Coords) (k0_t7 : Fin (k0_t7_loop i).trips) : Fin 4 → Nat :=
  let c6_518 : Index := 6#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_516 : BitVec 32 := 1#32
  let v1207 : BitVec 32 := Scalar.muli arg22 c1_i32_516
  let c0_i32_517 : BitVec 32 := 0#32
  let v1208 : BitVec 32 := Scalar.addi v1207 c0_i32_517
  let v1209 : Index := Scalar.indexCast v1208
  let c0_519 : Index := 0#32
  let c0_520 : Index := 0#32
  ![6, v1209.toNat, 0, 0]
def k0_off210 (i : grid0.Coords) (k0_t7 : Fin (k0_t7_loop i).trips) : Fin 4 → Nat :=
  let c7_523 : Index := 7#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_521 : BitVec 32 := 1#32
  let v1213 : BitVec 32 := Scalar.muli arg22 c1_i32_521
  let c0_i32_522 : BitVec 32 := 0#32
  let v1214 : BitVec 32 := Scalar.addi v1213 c0_i32_522
  let v1215 : Index := Scalar.indexCast v1214
  let c0_524 : Index := 0#32
  let c0_525 : Index := 0#32
  ![7, v1215.toNat, 0, 0]
def k0_off211 (i : grid0.Coords) (k0_t7 : Fin (k0_t7_loop i).trips) : Fin 4 → Nat :=
  let c8 : Index := 8#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_526 : BitVec 32 := 1#32
  let v1219 : BitVec 32 := Scalar.muli arg22 c1_i32_526
  let c0_i32_527 : BitVec 32 := 0#32
  let v1220 : BitVec 32 := Scalar.addi v1219 c0_i32_527
  let v1221 : Index := Scalar.indexCast v1220
  let c0_528 : Index := 0#32
  let c0_529 : Index := 0#32
  ![8, v1221.toNat, 0, 0]
def k0_off212 (i : grid0.Coords) (k0_t7 : Fin (k0_t7_loop i).trips) : Fin 4 → Nat :=
  let c9 : Index := 9#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_530 : BitVec 32 := 1#32
  let v1225 : BitVec 32 := Scalar.muli arg22 c1_i32_530
  let c0_i32_531 : BitVec 32 := 0#32
  let v1226 : BitVec 32 := Scalar.addi v1225 c0_i32_531
  let v1227 : Index := Scalar.indexCast v1226
  let c0_532 : Index := 0#32
  let c0_533 : Index := 0#32
  ![9, v1227.toNat, 0, 0]
def k0_off213 (i : grid0.Coords) (k0_t7 : Fin (k0_t7_loop i).trips) : Fin 4 → Nat :=
  let c10 : Index := 10#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_534 : BitVec 32 := 1#32
  let v1231 : BitVec 32 := Scalar.muli arg22 c1_i32_534
  let c0_i32_535 : BitVec 32 := 0#32
  let v1232 : BitVec 32 := Scalar.addi v1231 c0_i32_535
  let v1233 : Index := Scalar.indexCast v1232
  let c0_536 : Index := 0#32
  let c0_537 : Index := 0#32
  ![10, v1233.toNat, 0, 0]
def k0_off214 (i : grid0.Coords) (k0_t7 : Fin (k0_t7_loop i).trips) : Fin 4 → Nat :=
  let c11 : Index := 11#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_538 : BitVec 32 := 1#32
  let v1237 : BitVec 32 := Scalar.muli arg22 c1_i32_538
  let c0_i32_539 : BitVec 32 := 0#32
  let v1238 : BitVec 32 := Scalar.addi v1237 c0_i32_539
  let v1239 : Index := Scalar.indexCast v1238
  let c0_540 : Index := 0#32
  let c0_541 : Index := 0#32
  ![11, v1239.toNat, 0, 0]
def k0_off215 (i : grid0.Coords) (k0_t7 : Fin (k0_t7_loop i).trips) : Fin 4 → Nat :=
  let c12 : Index := 12#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_542 : BitVec 32 := 1#32
  let v1243 : BitVec 32 := Scalar.muli arg22 c1_i32_542
  let c0_i32_543 : BitVec 32 := 0#32
  let v1244 : BitVec 32 := Scalar.addi v1243 c0_i32_543
  let v1245 : Index := Scalar.indexCast v1244
  let c0_544 : Index := 0#32
  let c0_545 : Index := 0#32
  ![12, v1245.toNat, 0, 0]
def k0_off216 (i : grid0.Coords) (k0_t7 : Fin (k0_t7_loop i).trips) : Fin 4 → Nat :=
  let c13 : Index := 13#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_546 : BitVec 32 := 1#32
  let v1249 : BitVec 32 := Scalar.muli arg22 c1_i32_546
  let c0_i32_547 : BitVec 32 := 0#32
  let v1250 : BitVec 32 := Scalar.addi v1249 c0_i32_547
  let v1251 : Index := Scalar.indexCast v1250
  let c0_548 : Index := 0#32
  let c0_549 : Index := 0#32
  ![13, v1251.toNat, 0, 0]
def k0_off217 (i : grid0.Coords) (k0_t7 : Fin (k0_t7_loop i).trips) : Fin 4 → Nat :=
  let c14 : Index := 14#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_550 : BitVec 32 := 1#32
  let v1255 : BitVec 32 := Scalar.muli arg22 c1_i32_550
  let c0_i32_551 : BitVec 32 := 0#32
  let v1256 : BitVec 32 := Scalar.addi v1255 c0_i32_551
  let v1257 : Index := Scalar.indexCast v1256
  let c0_552 : Index := 0#32
  let c0_553 : Index := 0#32
  ![14, v1257.toNat, 0, 0]
def k0_off218 (i : grid0.Coords) (k0_t7 : Fin (k0_t7_loop i).trips) : Fin 4 → Nat :=
  let c15 : Index := 15#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_554 : BitVec 32 := 1#32
  let v1261 : BitVec 32 := Scalar.muli arg22 c1_i32_554
  let c0_i32_555 : BitVec 32 := 0#32
  let v1262 : BitVec 32 := Scalar.addi v1261 c0_i32_555
  let v1263 : Index := Scalar.indexCast v1262
  let c0_556 : Index := 0#32
  let c0_557 : Index := 0#32
  ![15, v1263.toNat, 0, 0]
def k0_off219 (i : grid0.Coords) (k0_t7 : Fin (k0_t7_loop i).trips) : Fin 4 → Nat :=
  let c16 : Index := 16#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_558 : BitVec 32 := 1#32
  let v1267 : BitVec 32 := Scalar.muli arg22 c1_i32_558
  let c0_i32_559 : BitVec 32 := 0#32
  let v1268 : BitVec 32 := Scalar.addi v1267 c0_i32_559
  let v1269 : Index := Scalar.indexCast v1268
  let c0_560 : Index := 0#32
  let c0_561 : Index := 0#32
  ![16, v1269.toNat, 0, 0]
def k0_off220 (i : grid0.Coords) (k0_t7 : Fin (k0_t7_loop i).trips) : Fin 4 → Nat :=
  let c17 : Index := 17#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_562 : BitVec 32 := 1#32
  let v1273 : BitVec 32 := Scalar.muli arg22 c1_i32_562
  let c0_i32_563 : BitVec 32 := 0#32
  let v1274 : BitVec 32 := Scalar.addi v1273 c0_i32_563
  let v1275 : Index := Scalar.indexCast v1274
  let c0_564 : Index := 0#32
  let c0_565 : Index := 0#32
  ![17, v1275.toNat, 0, 0]
def k0_off221 (i : grid0.Coords) (k0_t7 : Fin (k0_t7_loop i).trips) : Fin 4 → Nat :=
  let c18 : Index := 18#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_566 : BitVec 32 := 1#32
  let v1279 : BitVec 32 := Scalar.muli arg22 c1_i32_566
  let c0_i32_567 : BitVec 32 := 0#32
  let v1280 : BitVec 32 := Scalar.addi v1279 c0_i32_567
  let v1281 : Index := Scalar.indexCast v1280
  let c0_568 : Index := 0#32
  let c0_569 : Index := 0#32
  ![18, v1281.toNat, 0, 0]
def k0_off222 (i : grid0.Coords) (k0_t7 : Fin (k0_t7_loop i).trips) : Fin 4 → Nat :=
  let c19 : Index := 19#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_570 : BitVec 32 := 1#32
  let v1285 : BitVec 32 := Scalar.muli arg22 c1_i32_570
  let c0_i32_571 : BitVec 32 := 0#32
  let v1286 : BitVec 32 := Scalar.addi v1285 c0_i32_571
  let v1287 : Index := Scalar.indexCast v1286
  let c0_572 : Index := 0#32
  let c0_573 : Index := 0#32
  ![19, v1287.toNat, 0, 0]
def k0_off223 (i : grid0.Coords) (k0_t7 : Fin (k0_t7_loop i).trips) : Fin 4 → Nat :=
  let c20 : Index := 20#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_574 : BitVec 32 := 1#32
  let v1291 : BitVec 32 := Scalar.muli arg22 c1_i32_574
  let c0_i32_575 : BitVec 32 := 0#32
  let v1292 : BitVec 32 := Scalar.addi v1291 c0_i32_575
  let v1293 : Index := Scalar.indexCast v1292
  let c0_576 : Index := 0#32
  let c0_577 : Index := 0#32
  ![20, v1293.toNat, 0, 0]
def k0_off224 (i : grid0.Coords) (k0_t7 : Fin (k0_t7_loop i).trips) : Fin 4 → Nat :=
  let c21 : Index := 21#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_578 : BitVec 32 := 1#32
  let v1297 : BitVec 32 := Scalar.muli arg22 c1_i32_578
  let c0_i32_579 : BitVec 32 := 0#32
  let v1298 : BitVec 32 := Scalar.addi v1297 c0_i32_579
  let v1299 : Index := Scalar.indexCast v1298
  let c0_580 : Index := 0#32
  let c0_581 : Index := 0#32
  ![21, v1299.toNat, 0, 0]
def k0_off225 (i : grid0.Coords) (k0_t7 : Fin (k0_t7_loop i).trips) : Fin 4 → Nat :=
  let c22 : Index := 22#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_582 : BitVec 32 := 1#32
  let v1303 : BitVec 32 := Scalar.muli arg22 c1_i32_582
  let c0_i32_583 : BitVec 32 := 0#32
  let v1304 : BitVec 32 := Scalar.addi v1303 c0_i32_583
  let v1305 : Index := Scalar.indexCast v1304
  let c0_584 : Index := 0#32
  let c0_585 : Index := 0#32
  ![22, v1305.toNat, 0, 0]
def k0_off226 (i : grid0.Coords) (k0_t7 : Fin (k0_t7_loop i).trips) : Fin 4 → Nat :=
  let c23 : Index := 23#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_586 : BitVec 32 := 1#32
  let v1309 : BitVec 32 := Scalar.muli arg22 c1_i32_586
  let c0_i32_587 : BitVec 32 := 0#32
  let v1310 : BitVec 32 := Scalar.addi v1309 c0_i32_587
  let v1311 : Index := Scalar.indexCast v1310
  let c0_588 : Index := 0#32
  let c0_589 : Index := 0#32
  ![23, v1311.toNat, 0, 0]
def k0_off227 (i : grid0.Coords) (k0_t7 : Fin (k0_t7_loop i).trips) : Fin 4 → Nat :=
  let c24 : Index := 24#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_590 : BitVec 32 := 1#32
  let v1315 : BitVec 32 := Scalar.muli arg22 c1_i32_590
  let c0_i32_591 : BitVec 32 := 0#32
  let v1316 : BitVec 32 := Scalar.addi v1315 c0_i32_591
  let v1317 : Index := Scalar.indexCast v1316
  let c0_592 : Index := 0#32
  let c0_593 : Index := 0#32
  ![24, v1317.toNat, 0, 0]
def k0_off228 (i : grid0.Coords) (k0_t7 : Fin (k0_t7_loop i).trips) : Fin 4 → Nat :=
  let c25 : Index := 25#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_594 : BitVec 32 := 1#32
  let v1321 : BitVec 32 := Scalar.muli arg22 c1_i32_594
  let c0_i32_595 : BitVec 32 := 0#32
  let v1322 : BitVec 32 := Scalar.addi v1321 c0_i32_595
  let v1323 : Index := Scalar.indexCast v1322
  let c0_596 : Index := 0#32
  let c0_597 : Index := 0#32
  ![25, v1323.toNat, 0, 0]
def k0_off229 (i : grid0.Coords) (k0_t7 : Fin (k0_t7_loop i).trips) : Fin 4 → Nat :=
  let c26 : Index := 26#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_598 : BitVec 32 := 1#32
  let v1327 : BitVec 32 := Scalar.muli arg22 c1_i32_598
  let c0_i32_599 : BitVec 32 := 0#32
  let v1328 : BitVec 32 := Scalar.addi v1327 c0_i32_599
  let v1329 : Index := Scalar.indexCast v1328
  let c0_600 : Index := 0#32
  let c0_601 : Index := 0#32
  ![26, v1329.toNat, 0, 0]
def k0_off230 (i : grid0.Coords) (k0_t7 : Fin (k0_t7_loop i).trips) : Fin 4 → Nat :=
  let c27 : Index := 27#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_602 : BitVec 32 := 1#32
  let v1333 : BitVec 32 := Scalar.muli arg22 c1_i32_602
  let c0_i32_603 : BitVec 32 := 0#32
  let v1334 : BitVec 32 := Scalar.addi v1333 c0_i32_603
  let v1335 : Index := Scalar.indexCast v1334
  let c0_604 : Index := 0#32
  let c0_605 : Index := 0#32
  ![27, v1335.toNat, 0, 0]
def k0_off231 (i : grid0.Coords) (k0_t7 : Fin (k0_t7_loop i).trips) : Fin 4 → Nat :=
  let c28 : Index := 28#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_606 : BitVec 32 := 1#32
  let v1339 : BitVec 32 := Scalar.muli arg22 c1_i32_606
  let c0_i32_607 : BitVec 32 := 0#32
  let v1340 : BitVec 32 := Scalar.addi v1339 c0_i32_607
  let v1341 : Index := Scalar.indexCast v1340
  let c0_608 : Index := 0#32
  let c0_609 : Index := 0#32
  ![28, v1341.toNat, 0, 0]
def k0_off232 (i : grid0.Coords) (k0_t7 : Fin (k0_t7_loop i).trips) : Fin 4 → Nat :=
  let c29 : Index := 29#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_610 : BitVec 32 := 1#32
  let v1345 : BitVec 32 := Scalar.muli arg22 c1_i32_610
  let c0_i32_611 : BitVec 32 := 0#32
  let v1346 : BitVec 32 := Scalar.addi v1345 c0_i32_611
  let v1347 : Index := Scalar.indexCast v1346
  let c0_612 : Index := 0#32
  let c0_613 : Index := 0#32
  ![29, v1347.toNat, 0, 0]
def k0_off233 (i : grid0.Coords) (k0_t7 : Fin (k0_t7_loop i).trips) : Fin 4 → Nat :=
  let c30 : Index := 30#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_614 : BitVec 32 := 1#32
  let v1351 : BitVec 32 := Scalar.muli arg22 c1_i32_614
  let c0_i32_615 : BitVec 32 := 0#32
  let v1352 : BitVec 32 := Scalar.addi v1351 c0_i32_615
  let v1353 : Index := Scalar.indexCast v1352
  let c0_616 : Index := 0#32
  let c0_617 : Index := 0#32
  ![30, v1353.toNat, 0, 0]
def k0_off234 (i : grid0.Coords) (k0_t7 : Fin (k0_t7_loop i).trips) : Fin 4 → Nat :=
  let c31 : Index := 31#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v253 : BitVec 32 := Scalar.subi v23 v41
  let c1_i32_179 : BitVec 32 := 1#32
  let v255 : BitVec 32 := Scalar.divsi v253 c1_i32_179
  let v256 : BitVec 32 := Scalar.muli v255 c1_i32_179
  let v257 : BitVec 32 := Scalar.addi v41 v256
  let c1_i32_181 : BitVec 32 := 1#32
  let arg22 : BitVec 32 := Scf.iv v257 c1_i32_181 k0_t7
  let c1_i32_618 : BitVec 32 := 1#32
  let v1357 : BitVec 32 := Scalar.muli arg22 c1_i32_618
  let c0_i32_619 : BitVec 32 := 0#32
  let v1358 : BitVec 32 := Scalar.addi v1357 c0_i32_619
  let v1359 : Index := Scalar.indexCast v1358
  let c0_620 : Index := 0#32
  let c0_621 : Index := 0#32
  ![31, v1359.toNat, 0, 0]
def k0_cond2 (i : grid0.Coords) : BitVec 1 :=
  let arg1 : BitVec 32 := BitVec.ofNat 32 (i 1).val
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let c1_i32_182 : BitVec 32 := 1#32
  let v258 : BitVec 32 := Scalar.muli v23 c1_i32_182
  let c8_i32 : BitVec 32 := 8#32
  let v261 : BitVec 1 := Scalar.cmpi .sle v258 c8_i32
  let v262 : BitVec 32 := Scalar.extui v261
  let c0_i32_183 : BitVec 32 := 0#32
  let v263 : BitVec 1 := Scalar.cmpi .ne v262 c0_i32_183
  v263

@[reducible] def k0_t8_loop : Scf.Loop 32 :=
  let c0_i32_212 : BitVec 32 := 0#32
  let c32_i32 : BitVec 32 := 32#32
  let v316 : BitVec 32 := Scalar.addi c0_i32_212 c32_i32
  let c1_i32_213 : BitVec 32 := 1#32
  ⟨c0_i32_212, v316, c1_i32_213⟩
def k0_off235 (k0_t8 : Fin k0_t8_loop.trips) : Fin 4 → Nat :=
  let c31_i32 : BitVec 32 := 31#32
  let c0_i32_212 : BitVec 32 := 0#32
  let c1_i32_213 : BitVec 32 := 1#32
  let arg22 : BitVec 32 := Scf.iv c0_i32_212 c1_i32_213 k0_t8
  let v323 : BitVec 32 := Scalar.subi c31_i32 arg22
  let v325 : Index := Scalar.indexCast v323
  let c0_223 : Index := 0#32
  let c0_224 : Index := 0#32
  let c0_225 : Index := 0#32
  ![v325.toNat, 0, 0, 0]
def k0_cond3 (i : grid0.Coords) : BitVec 1 :=
  let arg1 : BitVec 32 := BitVec.ofNat 32 (i 1).val
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let c1_i32_182 : BitVec 32 := 1#32
  let v258 : BitVec 32 := Scalar.muli v23 c1_i32_182
  let c16_i32 : BitVec 32 := 16#32
  let v260 : BitVec 1 := Scalar.cmpi .sle v258 c16_i32
  let v306 : BitVec 32 := Scalar.extui v260
  let c0_i32_207 : BitVec 32 := 0#32
  let v307 : BitVec 1 := Scalar.cmpi .ne v306 c0_i32_207
  v307

@[reducible] def k0_t9_loop : Scf.Loop 32 :=
  let c0_i32_213 : BitVec 32 := 0#32
  let c32_i32 : BitVec 32 := 32#32
  let v319 : BitVec 32 := Scalar.addi c0_i32_213 c32_i32
  let c1_i32_214 : BitVec 32 := 1#32
  ⟨c0_i32_213, v319, c1_i32_214⟩
def k0_off236 (k0_t9 : Fin k0_t9_loop.trips) : Fin 4 → Nat :=
  let c31_i32 : BitVec 32 := 31#32
  let c0_i32_213 : BitVec 32 := 0#32
  let c1_i32_214 : BitVec 32 := 1#32
  let arg22 : BitVec 32 := Scf.iv c0_i32_213 c1_i32_214 k0_t9
  let v326 : BitVec 32 := Scalar.subi c31_i32 arg22
  let v328 : Index := Scalar.indexCast v326
  let c0_224 : Index := 0#32
  let c0_225 : Index := 0#32
  let c0_226 : Index := 0#32
  ![v328.toNat, 0, 0, 0]
def k0_cond4 (i : grid0.Coords) : BitVec 1 :=
  let arg1 : BitVec 32 := BitVec.ofNat 32 (i 1).val
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let c1_i32_182 : BitVec 32 := 1#32
  let v258 : BitVec 32 := Scalar.muli v23 c1_i32_182
  let c24_i32 : BitVec 32 := 24#32
  let v259 : BitVec 1 := Scalar.cmpi .sle v258 c24_i32
  let v309 : BitVec 32 := Scalar.extui v259
  let c0_i32_208 : BitVec 32 := 0#32
  let v310 : BitVec 1 := Scalar.cmpi .ne v309 c0_i32_208
  v310

@[reducible] def k0_t10_loop : Scf.Loop 32 :=
  let c0_i32_214 : BitVec 32 := 0#32
  let c32_i32 : BitVec 32 := 32#32
  let v322 : BitVec 32 := Scalar.addi c0_i32_214 c32_i32
  let c1_i32_215 : BitVec 32 := 1#32
  ⟨c0_i32_214, v322, c1_i32_215⟩
def k0_off237 (k0_t10 : Fin k0_t10_loop.trips) : Fin 4 → Nat :=
  let c31_i32 : BitVec 32 := 31#32
  let c0_i32_214 : BitVec 32 := 0#32
  let c1_i32_215 : BitVec 32 := 1#32
  let arg22 : BitVec 32 := Scf.iv c0_i32_214 c1_i32_215 k0_t10
  let v329 : BitVec 32 := Scalar.subi c31_i32 arg22
  let v331 : Index := Scalar.indexCast v329
  let c0_225 : Index := 0#32
  let c0_226 : Index := 0#32
  let c0_227 : Index := 0#32
  ![v331.toNat, 0, 0, 0]
@[reducible] def k0_t11_loop : Scf.Loop 32 :=
  let c0_i32_214 : BitVec 32 := 0#32
  let c32_i32 : BitVec 32 := 32#32
  let v322 : BitVec 32 := Scalar.addi c0_i32_214 c32_i32
  let c1_i32_215 : BitVec 32 := 1#32
  ⟨c0_i32_214, v322, c1_i32_215⟩
def k0_off238 (k0_t11 : Fin k0_t11_loop.trips) : Fin 4 → Nat :=
  let c31_i32 : BitVec 32 := 31#32
  let c0_i32_214 : BitVec 32 := 0#32
  let c1_i32_215 : BitVec 32 := 1#32
  let arg22 : BitVec 32 := Scf.iv c0_i32_214 c1_i32_215 k0_t11
  let v329 : BitVec 32 := Scalar.subi c31_i32 arg22
  let v331 : Index := Scalar.indexCast v329
  let c0_225 : Index := 0#32
  let c0_226 : Index := 0#32
  let c0_227 : Index := 0#32
  ![v331.toNat, 0, 0, 0]
@[reducible] def k0_t12_loop : Scf.Loop 32 :=
  let c0_i32_208 : BitVec 32 := 0#32
  let c13_i32 : BitVec 32 := 13#32
  let v307 : BitVec 32 := Scalar.addi c0_i32_208 c13_i32
  let c1_i32_209 : BitVec 32 := 1#32
  ⟨c0_i32_208, v307, c1_i32_209⟩
@[reducible] def k0_t13_loop (i : grid0.Coords) : Scf.Loop 32 :=
  let c0_i32_218 : BitVec 32 := 0#32
  let arg1 : BitVec 32 := BitVec.ofNat 32 (i 1).val
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v319 : BitVec 32 := Scalar.subi v23 c0_i32_218
  let c1_i32_219 : BitVec 32 := 1#32
  let v321 : BitVec 32 := Scalar.divsi v319 c1_i32_219
  let v322 : BitVec 32 := Scalar.muli v321 c1_i32_219
  let v323 : BitVec 32 := Scalar.addi c0_i32_218 v322
  let c1_i32_220 : BitVec 32 := 1#32
  ⟨c0_i32_218, v323, c1_i32_220⟩
def k0_off239 (i : grid0.Coords) (k0_t13 : Fin (k0_t13_loop i).trips) : Fin 4 → Nat :=
  let arg1 : BitVec 32 := BitVec.ofNat 32 (i 1).val
  let c1_i32_1 : BitVec 32 := 1#32
  let v4 : BitVec 32 := Scalar.andi arg1 c1_i32_1
  let v330 : Index := Scalar.indexCast v4
  let c0_i32_218 : BitVec 32 := 0#32
  let c1_i32_220 : BitVec 32 := 1#32
  let arg24 : BitVec 32 := Scf.iv c0_i32_218 c1_i32_220 k0_t13
  let v331 : Index := Scalar.indexCast arg24
  let c0_223 : Index := 0#32
  let c0_224 : Index := 0#32
  ![v330.toNat, v331.toNat, 0, 0]
@[reducible] def k0_t14_loop (i : grid0.Coords) : Scf.Loop 32 :=
  let c0_i32_218 : BitVec 32 := 0#32
  let arg1 : BitVec 32 := BitVec.ofNat 32 (i 1).val
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v319 : BitVec 32 := Scalar.subi v23 c0_i32_218
  let c1_i32_219 : BitVec 32 := 1#32
  let v321 : BitVec 32 := Scalar.divsi v319 c1_i32_219
  let v322 : BitVec 32 := Scalar.muli v321 c1_i32_219
  let v323 : BitVec 32 := Scalar.addi c0_i32_218 v322
  let v320 : BitVec 32 := Scalar.addi c0_i32_218 v319
  let c1_i32_221 : BitVec 32 := 1#32
  ⟨v323, v320, c1_i32_221⟩
def k0_off240 (i : grid0.Coords) (k0_t14 : Fin (k0_t14_loop i).trips) : Fin 4 → Nat :=
  let arg1 : BitVec 32 := BitVec.ofNat 32 (i 1).val
  let c1_i32_1 : BitVec 32 := 1#32
  let v4 : BitVec 32 := Scalar.andi arg1 c1_i32_1
  let v330 : Index := Scalar.indexCast v4
  let c0_i32_218 : BitVec 32 := 0#32
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v319 : BitVec 32 := Scalar.subi v23 c0_i32_218
  let c1_i32_219 : BitVec 32 := 1#32
  let v321 : BitVec 32 := Scalar.divsi v319 c1_i32_219
  let v322 : BitVec 32 := Scalar.muli v321 c1_i32_219
  let v323 : BitVec 32 := Scalar.addi c0_i32_218 v322
  let c1_i32_221 : BitVec 32 := 1#32
  let arg24 : BitVec 32 := Scf.iv v323 c1_i32_221 k0_t14
  let v331 : Index := Scalar.indexCast arg24
  let c0_223 : Index := 0#32
  let c0_224 : Index := 0#32
  ![v330.toNat, v331.toNat, 0, 0]
@[reducible] def k0_t15_loop (i : grid0.Coords) : Scf.Loop 32 :=
  let c0_i32_212 : BitVec 32 := 0#32
  let arg1 : BitVec 32 := BitVec.ofNat 32 (i 1).val
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v309 : BitVec 32 := Scalar.subi v23 c0_i32_212
  let c1_i32_213 : BitVec 32 := 1#32
  let v311 : BitVec 32 := Scalar.divsi v309 c1_i32_213
  let v312 : BitVec 32 := Scalar.muli v311 c1_i32_213
  let v313 : BitVec 32 := Scalar.addi c0_i32_212 v312
  let c1_i32_214 : BitVec 32 := 1#32
  ⟨c0_i32_212, v313, c1_i32_214⟩
def k0_off241 (i : grid0.Coords) (k0_t15 : Fin (k0_t15_loop i).trips) : Fin 4 → Nat :=
  let arg1 : BitVec 32 := BitVec.ofNat 32 (i 1).val
  let c1_i32_1 : BitVec 32 := 1#32
  let v4 : BitVec 32 := Scalar.andi arg1 c1_i32_1
  let v314 : Index := Scalar.indexCast v4
  let c0_i32_212 : BitVec 32 := 0#32
  let c1_i32_214 : BitVec 32 := 1#32
  let arg22 : BitVec 32 := Scf.iv c0_i32_212 c1_i32_214 k0_t15
  let v315 : Index := Scalar.indexCast arg22
  let c0_216 : Index := 0#32
  let c0_217 : Index := 0#32
  ![v314.toNat, v315.toNat, 0, 0]
@[reducible] def k0_t16_loop (i : grid0.Coords) : Scf.Loop 32 :=
  let c0_i32_212 : BitVec 32 := 0#32
  let arg1 : BitVec 32 := BitVec.ofNat 32 (i 1).val
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v309 : BitVec 32 := Scalar.subi v23 c0_i32_212
  let c1_i32_213 : BitVec 32 := 1#32
  let v311 : BitVec 32 := Scalar.divsi v309 c1_i32_213
  let v312 : BitVec 32 := Scalar.muli v311 c1_i32_213
  let v313 : BitVec 32 := Scalar.addi c0_i32_212 v312
  let v310 : BitVec 32 := Scalar.addi c0_i32_212 v309
  let c1_i32_215 : BitVec 32 := 1#32
  ⟨v313, v310, c1_i32_215⟩
def k0_off242 (i : grid0.Coords) (k0_t16 : Fin (k0_t16_loop i).trips) : Fin 4 → Nat :=
  let arg1 : BitVec 32 := BitVec.ofNat 32 (i 1).val
  let c1_i32_1 : BitVec 32 := 1#32
  let v4 : BitVec 32 := Scalar.andi arg1 c1_i32_1
  let v314 : Index := Scalar.indexCast v4
  let c0_i32_212 : BitVec 32 := 0#32
  let c63_i32 : BitVec 32 := 63#32
  let v1 : BitVec 32 := Scalar.minsi arg1 c63_i32
  let c0_i32_3 : BitVec 32 := 0#32
  let v7 : BitVec 1 := Scalar.cmpi .sgt v1 c0_i32_3
  let v8 : BitVec 32 := Scalar.extui v7
  let c0_i32_4 : BitVec 32 := 0#32
  let v9 : BitVec 1 := Scalar.cmpi .slt v1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi v1 c2_i32
  let c0_i32_7 : BitVec 32 := 0#32
  let v19 : BitVec 1 := Scalar.cmpi .ne v18 c0_i32_7
  let v20 : BitVec 1 := Scalar.andi v17 v19
  let v6 : BitVec 32 := Scalar.divsi v1 c2_i32
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v309 : BitVec 32 := Scalar.subi v23 c0_i32_212
  let c1_i32_213 : BitVec 32 := 1#32
  let v311 : BitVec 32 := Scalar.divsi v309 c1_i32_213
  let v312 : BitVec 32 := Scalar.muli v311 c1_i32_213
  let v313 : BitVec 32 := Scalar.addi c0_i32_212 v312
  let c1_i32_215 : BitVec 32 := 1#32
  let arg22 : BitVec 32 := Scf.iv v313 c1_i32_215 k0_t16
  let v315 : Index := Scalar.indexCast arg22
  let c0_216 : Index := 0#32
  let c0_217 : Index := 0#32
  ![v314.toNat, v315.toNat, 0, 0]
def k0_off243 (i : grid0.Coords) : Fin 3 → Nat :=
  let arg1 : BitVec 32 := BitVec.ofNat 32 (i 1).val
  let c1_i32_1 : BitVec 32 := 1#32
  let v4 : BitVec 32 := Scalar.andi arg1 c1_i32_1
  let v282 : Index := Scalar.indexCast v4
  let c0_189 : Index := 0#32
  let c0_190 : Index := 0#32
  ![v282.toNat, 0, 0]
@[reducible] def k0_t17_loop (i : grid0.Coords) : Scf.Loop 32 :=
  let c0_i32_215 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_217 : BitVec 32 := 1#32
  ⟨c0_i32_215, v318, c1_i32_217⟩
def k0_off244 (i : grid0.Coords) (k0_t17 : Fin (k0_t17_loop i).trips) : Fin 4 → Nat :=
  let c1_i32_2 : BitVec 32 := 1#32
  let arg1 : BitVec 32 := BitVec.ofNat 32 (i 1).val
  let c1_i32_1 : BitVec 32 := 1#32
  let v4 : BitVec 32 := Scalar.andi arg1 c1_i32_1
  let v5 : BitVec 32 := Scalar.subi c1_i32_2 v4
  let v319 : Index := Scalar.indexCast v5
  let c0_i32_215 : BitVec 32 := 0#32
  let c1_i32_217 : BitVec 32 := 1#32
  let arg22 : BitVec 32 := Scf.iv c0_i32_215 c1_i32_217 k0_t17
  let v320 : Index := Scalar.indexCast arg22
  let c0_219 : Index := 0#32
  let c0_220 : Index := 0#32
  ![v319.toNat, v320.toNat, 0, 0]
def k0_off245 (i : grid0.Coords) (k0_t17 : Fin (k0_t17_loop i).trips) : Fin 3 → Nat :=
  let c0_i32_215 : BitVec 32 := 0#32
  let c1_i32_217 : BitVec 32 := 1#32
  let arg22 : BitVec 32 := Scf.iv c0_i32_215 c1_i32_217 k0_t17
  let v325 : Index := Scalar.indexCast arg22
  let c0_221 : Index := 0#32
  let c0_222 : Index := 0#32
  ![v325.toNat, 0, 0]
def k0_mult15 (i : grid0.Coords) (k0_t17 : Fin (k0_t17_loop i).trips) : BitVec 32 :=
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c1_i32_217 : BitVec 32 := 1#32
  let arg22 : BitVec 32 := Scf.iv c0_i32_215 c1_i32_217 k0_t17
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  v331
def k0_off246 (i : grid0.Coords) (k0_t17 : Fin (k0_t17_loop i).trips) : Fin 3 → Nat :=
  let c0_i32_215 : BitVec 32 := 0#32
  let c1_i32_217 : BitVec 32 := 1#32
  let arg22 : BitVec 32 := Scf.iv c0_i32_215 c1_i32_217 k0_t17
  let v333 : Index := Scalar.indexCast arg22
  let c0_225 : Index := 0#32
  let c0_226 : Index := 0#32
  ![v333.toNat, 0, 0]
def k0_off247 (i : grid0.Coords) (k0_t17 : Fin (k0_t17_loop i).trips) : Fin 3 → Nat :=
  let c0_231 : Index := 0#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c1_i32_217 : BitVec 32 := 1#32
  let arg22 : BitVec 32 := Scf.iv c0_i32_215 c1_i32_217 k0_t17
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v340 : Index := Scalar.indexCast v332
  let c0_232 : Index := 0#32
  ![0, v340.toNat, 0]
def k0_off248 (i : grid0.Coords) (k0_t17 : Fin (k0_t17_loop i).trips) : Fin 3 → Nat :=
  let c1_239 : Index := 1#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c1_i32_217 : BitVec 32 := 1#32
  let arg22 : BitVec 32 := Scf.iv c0_i32_215 c1_i32_217 k0_t17
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v359 : Index := Scalar.indexCast v332
  let c0_240 : Index := 0#32
  ![1, v359.toNat, 0]
def k0_off249 (i : grid0.Coords) (k0_t17 : Fin (k0_t17_loop i).trips) : Fin 3 → Nat :=
  let c2_259 : Index := 2#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c1_i32_217 : BitVec 32 := 1#32
  let arg22 : BitVec 32 := Scf.iv c0_i32_215 c1_i32_217 k0_t17
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v396 : Index := Scalar.indexCast v332
  let c0_260 : Index := 0#32
  ![2, v396.toNat, 0]
def k0_off250 (i : grid0.Coords) (k0_t17 : Fin (k0_t17_loop i).trips) : Fin 3 → Nat :=
  let c3_267 : Index := 3#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c1_i32_217 : BitVec 32 := 1#32
  let arg22 : BitVec 32 := Scf.iv c0_i32_215 c1_i32_217 k0_t17
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v415 : Index := Scalar.indexCast v332
  let c0_268 : Index := 0#32
  ![3, v415.toNat, 0]
def k0_off251 (i : grid0.Coords) (k0_t17 : Fin (k0_t17_loop i).trips) : Fin 3 → Nat :=
  let c4_287 : Index := 4#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c1_i32_217 : BitVec 32 := 1#32
  let arg22 : BitVec 32 := Scf.iv c0_i32_215 c1_i32_217 k0_t17
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v452 : Index := Scalar.indexCast v332
  let c0_288 : Index := 0#32
  ![4, v452.toNat, 0]
def k0_off252 (i : grid0.Coords) (k0_t17 : Fin (k0_t17_loop i).trips) : Fin 3 → Nat :=
  let c5_295 : Index := 5#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c1_i32_217 : BitVec 32 := 1#32
  let arg22 : BitVec 32 := Scf.iv c0_i32_215 c1_i32_217 k0_t17
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v471 : Index := Scalar.indexCast v332
  let c0_296 : Index := 0#32
  ![5, v471.toNat, 0]
def k0_off253 (i : grid0.Coords) (k0_t17 : Fin (k0_t17_loop i).trips) : Fin 3 → Nat :=
  let c6_315 : Index := 6#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c1_i32_217 : BitVec 32 := 1#32
  let arg22 : BitVec 32 := Scf.iv c0_i32_215 c1_i32_217 k0_t17
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v508 : Index := Scalar.indexCast v332
  let c0_316 : Index := 0#32
  ![6, v508.toNat, 0]
def k0_off254 (i : grid0.Coords) (k0_t17 : Fin (k0_t17_loop i).trips) : Fin 3 → Nat :=
  let c7_323 : Index := 7#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c1_i32_217 : BitVec 32 := 1#32
  let arg22 : BitVec 32 := Scf.iv c0_i32_215 c1_i32_217 k0_t17
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v527 : Index := Scalar.indexCast v332
  let c0_324 : Index := 0#32
  ![7, v527.toNat, 0]
@[reducible] def k0_t18_loop (i : grid0.Coords) : Scf.Loop 32 :=
  let c0_i32_215 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let v315 : BitVec 32 := Scalar.addi c0_i32_215 v314
  let c1_i32_218 : BitVec 32 := 1#32
  ⟨v318, v315, c1_i32_218⟩
def k0_off255 (i : grid0.Coords) (k0_t18 : Fin (k0_t18_loop i).trips) : Fin 4 → Nat :=
  let c1_i32_2 : BitVec 32 := 1#32
  let arg1 : BitVec 32 := BitVec.ofNat 32 (i 1).val
  let c1_i32_1 : BitVec 32 := 1#32
  let v4 : BitVec 32 := Scalar.andi arg1 c1_i32_1
  let v5 : BitVec 32 := Scalar.subi c1_i32_2 v4
  let v319 : Index := Scalar.indexCast v5
  let c0_i32_215 : BitVec 32 := 0#32
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let v320 : Index := Scalar.indexCast arg22
  let c0_219 : Index := 0#32
  let c0_220 : Index := 0#32
  ![v319.toNat, v320.toNat, 0, 0]
def k0_off256 (i : grid0.Coords) (k0_t18 : Fin (k0_t18_loop i).trips) : Fin 3 → Nat :=
  let c0_i32_215 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let v325 : Index := Scalar.indexCast arg22
  let c0_221 : Index := 0#32
  let c0_222 : Index := 0#32
  ![v325.toNat, 0, 0]
def k0_mult16 (i : grid0.Coords) (k0_t18 : Fin (k0_t18_loop i).trips) : BitVec 32 :=
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  v331
def k0_off257 (i : grid0.Coords) (k0_t18 : Fin (k0_t18_loop i).trips) : Fin 3 → Nat :=
  let c0_i32_215 : BitVec 32 := 0#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let v333 : Index := Scalar.indexCast arg22
  let c0_225 : Index := 0#32
  let c0_226 : Index := 0#32
  ![v333.toNat, 0, 0]
def k0_off258 (i : grid0.Coords) (k0_t18 : Fin (k0_t18_loop i).trips) : Fin 3 → Nat :=
  let c0_231 : Index := 0#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v340 : Index := Scalar.indexCast v332
  let c0_232 : Index := 0#32
  ![0, v340.toNat, 0]
def k0_off259 (i : grid0.Coords) (k0_t18 : Fin (k0_t18_loop i).trips) : Fin 3 → Nat :=
  let c1_239 : Index := 1#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v359 : Index := Scalar.indexCast v332
  let c0_240 : Index := 0#32
  ![1, v359.toNat, 0]
def k0_off260 (i : grid0.Coords) (k0_t18 : Fin (k0_t18_loop i).trips) : Fin 3 → Nat :=
  let c2_259 : Index := 2#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v396 : Index := Scalar.indexCast v332
  let c0_260 : Index := 0#32
  ![2, v396.toNat, 0]
def k0_off261 (i : grid0.Coords) (k0_t18 : Fin (k0_t18_loop i).trips) : Fin 3 → Nat :=
  let c3_267 : Index := 3#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v415 : Index := Scalar.indexCast v332
  let c0_268 : Index := 0#32
  ![3, v415.toNat, 0]
def k0_off262 (i : grid0.Coords) (k0_t18 : Fin (k0_t18_loop i).trips) : Fin 3 → Nat :=
  let c4_287 : Index := 4#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v452 : Index := Scalar.indexCast v332
  let c0_288 : Index := 0#32
  ![4, v452.toNat, 0]
def k0_off263 (i : grid0.Coords) (k0_t18 : Fin (k0_t18_loop i).trips) : Fin 3 → Nat :=
  let c5_295 : Index := 5#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v471 : Index := Scalar.indexCast v332
  let c0_296 : Index := 0#32
  ![5, v471.toNat, 0]
def k0_off264 (i : grid0.Coords) (k0_t18 : Fin (k0_t18_loop i).trips) : Fin 3 → Nat :=
  let c6_315 : Index := 6#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v508 : Index := Scalar.indexCast v332
  let c0_316 : Index := 0#32
  ![6, v508.toNat, 0]
def k0_off265 (i : grid0.Coords) (k0_t18 : Fin (k0_t18_loop i).trips) : Fin 3 → Nat :=
  let c7_323 : Index := 7#32
  let c384_i32_224 : BitVec 32 := 384#32
  let arg1 : BitVec 32 := BitVec.ofNat 32 (i 1).val
  let c1_i32_0 : BitVec 32 := 1#32
  let v2 : BitVec 32 := Scalar.subi arg1 c1_i32_0
  let c0_i32 : BitVec 32 := 0#32
  let v3 : BitVec 32 := Scalar.maxsi v2 c0_i32
  let c128_i32_18 : BitVec 32 := 128#32
  let v43 : BitVec 32 := Scalar.muli v3 c128_i32_18
  let c0_i32_215 : BitVec 32 := 0#32
  let c0_i32_11 : BitVec 32 := 0#32
  let v25 : BitVec 1 := Scalar.cmpi .sgt v3 c0_i32_11
  let v26 : BitVec 32 := Scalar.extui v25
  let c0_i32_12 : BitVec 32 := 0#32
  let v27 : BitVec 1 := Scalar.cmpi .slt v3 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi v3 c2_i32_10
  let c0_i32_15 : BitVec 32 := 0#32
  let v37 : BitVec 1 := Scalar.cmpi .ne v36 c0_i32_15
  let v38 : BitVec 1 := Scalar.andi v35 v37
  let v24 : BitVec 32 := Scalar.divsi v3 c2_i32_10
  let c1_i32_16 : BitVec 32 := 1#32
  let v39 : BitVec 32 := Scalar.subi v24 c1_i32_16
  let v40 : BitVec 32 := Scalar.select v38 v39 v24
  let c1_i32_17 : BitVec 32 := 1#32
  let v41 : BitVec 32 := Scalar.addi v40 c1_i32_17
  let v314 : BitVec 32 := Scalar.subi v41 c0_i32_215
  let c1_i32_216 : BitVec 32 := 1#32
  let v316 : BitVec 32 := Scalar.divsi v314 c1_i32_216
  let v317 : BitVec 32 := Scalar.muli v316 c1_i32_216
  let v318 : BitVec 32 := Scalar.addi c0_i32_215 v317
  let c1_i32_218 : BitVec 32 := 1#32
  let arg22 : BitVec 32 := Scf.iv v318 c1_i32_218 k0_t18
  let c256_i32_223 : BitVec 32 := 256#32
  let v328 : BitVec 32 := Scalar.muli arg22 c256_i32_223
  let v329 : BitVec 32 := Scalar.subi v43 v328
  let c384_i32 : BitVec 32 := 384#32
  let v330 : BitVec 32 := Scalar.minsi v329 c384_i32
  let v331 : BitVec 32 := Scalar.subi c384_i32_224 v330
  let v332 : BitVec 32 := v331
  let v527 : Index := Scalar.indexCast v332
  let c0_324 : Index := 0#32
  ![7, v527.toNat, 0]
def k0_cond7 (i : grid0.Coords) : BitVec 1 :=
  let arg1 : BitVec 32 := BitVec.ofNat 32 (i 1).val
  let c1_i32 : BitVec 32 := 1#32
  let v0 : BitVec 1 := Scalar.cmpi .sge arg1 c1_i32
  let v304 : BitVec 32 := Scalar.extui v0
  let c0_i32_206 : BitVec 32 := 0#32
  let v305 : BitVec 1 := Scalar.cmpi .ne v304 c0_i32_206
  v305

def cc0_transform_0 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c63_i32 : BitVec 32 := 63#32
  let v1 : BitVec 32 := Scalar.minsi arg1 c63_i32
  let v2 : BitVec 32 := Scalar.addi v0 v1
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c63_i32 : BitVec 32 := 63#32
  let v1 : BitVec 32 := Scalar.minsi arg1 c63_i32
  let v2 : BitVec 32 := Scalar.addi v0 v1
  let c0_i32 : BitVec 32 := 0#32
  let c0_i32_0 : BitVec 32 := 0#32
  ![c0_i32.toNat, v2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S1x8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S32x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S32x272x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x640x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2.lean ====
abbrev S2x8192x1024 : Shape := ⟨3, ![2, 8192, 1024]⟩
abbrev S2x9216 : Shape := ⟨2, ![2, 9216]⟩
abbrev S16384x512 : Shape := ⟨2, ![16384, 512]⟩
abbrev S16384x1024 : Shape := ⟨2, ![16384, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S2x9x1x1024 : Shape := ⟨4, ![2, 9, 1, 1024]⟩
abbrev S2x1x1x1024 : Shape := ⟨4, ![2, 1, 1, 1024]⟩
abbrev S2x1x1024 : Shape := ⟨3, ![2, 1, 1024]⟩
abbrev S1024x2816 : Shape := ⟨2, ![1024, 2816]⟩
abbrev S2816x1024 : Shape := ⟨2, ![2816, 1024]⟩
abbrev S512x1024 : Shape := ⟨2, ![512, 1024]⟩
abbrev S1024x1024 : Shape := ⟨2, ![1024, 1024]⟩
abbrev S11x256x1024 : Shape := ⟨3, ![11, 256, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 41
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S16384x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S16384x1024, .f32⟩
  | .hbm, ⟨15, _⟩ => ⟨S2x9x1x1024, .f32⟩
  | .hbm, ⟨16, _⟩ => ⟨S2x1x1x1024, .f32⟩
  | .hbm, ⟨17, _⟩ => ⟨S2x1x1024, .f32⟩
  | .hbm, ⟨18, _⟩ => ⟨S2x1x1x1024, .f32⟩
  | .hbm, ⟨19, _⟩ => ⟨S2x1x1024, .f32⟩
  | .hbm, ⟨20, _⟩ => ⟨S2x1x1x1024, .f32⟩
  | .hbm, ⟨21, _⟩ => ⟨S2x1x1024, .f32⟩
  | .hbm, ⟨22, _⟩ => ⟨S2x1x1x1024, .f32⟩
  | .hbm, ⟨23, _⟩ => ⟨S2x1x1024, .f32⟩
  | .hbm, ⟨24, _⟩ => ⟨S1024, .f32⟩
  | .hbm, ⟨25, _⟩ => ⟨S1024x2816, .f32⟩
  | .hbm, ⟨26, _⟩ => ⟨S1024x2816, .f32⟩
  | .hbm, ⟨27, _⟩ => ⟨S2816x1024, .f32⟩
  | .hbm, ⟨28, _⟩ => ⟨S512x1024, .f32⟩
  | .hbm, ⟨29, _⟩ => ⟨S512x1024, .f32⟩
  | .hbm, ⟨30, _⟩ => ⟨S1024x1024, .f32⟩
  | .hbm, ⟨31, _⟩ => ⟨S1024x2816, .bf16⟩
  | .hbm, ⟨32, _⟩ => ⟨S1024x2816, .bf16⟩
  | .hbm, ⟨33, _⟩ => ⟨S2816x1024, .bf16⟩
  | .hbm, ⟨34, _⟩ => ⟨S11x256x1024, .bf16⟩
  | .hbm, ⟨35, _⟩ => ⟨S512x1024, .bf16⟩
  | .hbm, ⟨36, _⟩ => ⟨S512x1024, .bf16⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1024x2816, .bf16⟩
  | .local _ .vmem, ⟨23, _⟩ => ⟨S1024x2816, .bf16⟩
  | .local _ .vmem, ⟨24, _⟩ => ⟨S11x256x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S11x256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S2x8192x1024 : Shape := ⟨3, ![2, 8192, 1024]⟩
abbrev S2x9216 : Shape := ⟨2, ![2, 9216]⟩
abbrev S16384x512 : Shape := ⟨2, ![16384, 512]⟩
abbrev S16384x1024 : Shape := ⟨2, ![16384, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S2x8192x512 : Shape := ⟨3, ![2, 8192, 512]⟩
abbrev S2x1024 : Shape := ⟨2, ![2, 1024]⟩
abbrev S_ : Shape := ⟨0, ![]⟩
abbrev S512x1024 : Shape := ⟨2, ![512, 1024]⟩
abbrev S2x1x1024 : Shape := ⟨3, ![2, 1, 1024]⟩
abbrev S1024x1024 : Shape := ⟨2, ![1024, 1024]⟩
abbrev S2x8192 : Shape := ⟨2, ![2, 8192]⟩
abbrev S2x8192x1 : Shape := ⟨3, ![2, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S2x8192x2816 : Shape := ⟨3, ![2, 8192, 2816]⟩

abbrev nBuf : Space → Nat
  | .hbm => 124
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S16384x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S16384x512, .f32⟩
  | .hbm, ⟨15, _⟩ => ⟨S2x8192x512, .f32⟩
  | .hbm, ⟨16, _⟩ => ⟨S16384x512, .f32⟩
  | .hbm, ⟨17, _⟩ => ⟨S2x8192x512, .f32⟩
  | .hbm, ⟨18, _⟩ => ⟨S2x8192x1024, .f32⟩
  | .hbm, ⟨19, _⟩ => ⟨S2x8192x1024, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S2x1024, .f32⟩
  | .hbm, ⟨28, _⟩ => ⟨S2x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192x1024, .f32⟩
  | .hbm, ⟨36, _⟩ => ⟨S2x8192x1024, .f32⟩
  | .hbm, ⟨37, _⟩ => ⟨S512x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x8192x1024, .f32⟩
  | .hbm, ⟨44, _⟩ => ⟨S2x8192x1024, .f32⟩
  | .hbm, ⟨45, _⟩ => ⟨S_, .f32⟩
  | .hbm, ⟨46, _⟩ => ⟨S2x8192x1024, .f32⟩
  | .hbm, ⟨47, _⟩ => ⟨S2x8192x1024, .f32⟩
  | .hbm, ⟨48, _⟩ => ⟨S512x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x1x1024, .f32⟩
  | .hbm, ⟨53, _⟩ => ⟨S1024x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S1x1x1024, .f32⟩
  | .hbm, ⟨73, _⟩ => ⟨S2x8192x1024, .f32⟩
  | .hbm, ⟨74, _⟩ => ⟨S2x8192x1024, .f32⟩
  | .hbm, ⟨75, _⟩ => ⟨S2x1x1024, .f32⟩
  | .hbm, ⟨76, _⟩ => ⟨S_, .f32⟩
  | .hbm, ⟨77, _⟩ => ⟨S2x1x1024, .f32⟩
  | .hbm, ⟨78, _⟩ => ⟨S2x1x1024, .f32⟩
  | .hbm, ⟨79, _⟩ => ⟨S2x8192x1024, .f32⟩
  | .hbm, ⟨80, _⟩ => ⟨S2x8192x1024, .f32⟩
  | .hbm, ⟨81, _⟩ => ⟨S2x1x1024, .f32⟩
  | .hbm, ⟨82, _⟩ => ⟨S2x8192x1024, .f32⟩
  | .hbm, ⟨83, _⟩ => ⟨S2x8192x1024, .f32⟩
  | .hbm, ⟨84, _⟩ => ⟨S2x1x1024, .f32⟩
  | .hbm, ⟨85, _⟩ => ⟨S_, .f32⟩
  | .hbm, ⟨86, _⟩ => ⟨S2x1x1024, .f32⟩
  | .hbm, ⟨87, _⟩ => ⟨S2x1x1024, .f32⟩
  | .hbm, ⟨88, _⟩ => ⟨S1024x2816, .f32⟩
  | .hbm, ⟨89, _⟩ => ⟨S1024x2816, .f32⟩
  | .hbm, ⟨90, _⟩ => ⟨S2816x1024, .f32⟩
  | .hbm, ⟨91, _⟩ => ⟨S2x8192x2816, .f32⟩
  | .hbm, ⟨92, _⟩ => ⟨S2x8192x2816, .f32⟩
  | .hbm, ⟨93, _⟩ => ⟨S2x8192x2816, .f32⟩
  | .hbm, ⟨94, _⟩ => ⟨S_, .f32⟩
  | .hbm, ⟨95, _⟩ => ⟨S2x8192x2816, .f32⟩
  | .hbm, ⟨96, _⟩ => ⟨S2x8192x2816, .f32⟩
  | .hbm, ⟨97, _⟩ => ⟨S_, .f32⟩
  | .hbm, ⟨98, _⟩ => ⟨S2x8192x2816, .f32⟩
  | .hbm, ⟨99, _⟩ => ⟨S2x8192x2816, .f32⟩
  | .hbm, ⟨100, _⟩ => ⟨S2x8192x2816, .f32⟩
  | .hbm, ⟨101, _⟩ => ⟨S2x8192x2816, .f32⟩
  | .hbm, ⟨102, _⟩ => ⟨S2x8192x2816, .f32⟩
  | .hbm, ⟨103, _⟩ => ⟨S2x8192x1024, .f32⟩
  | .hbm, ⟨104, _⟩ => ⟨S2x8192x1024, .f32⟩
  | .hbm, ⟨105, _⟩ => ⟨S2x8192x1024, .f32⟩
  | .hbm, ⟨106, _⟩ => ⟨S2x8192x1024, .f32⟩
  | .hbm, ⟨107, _⟩ => ⟨S2x8192x1024, .f32⟩
  | .hbm, ⟨108, _⟩ => ⟨S_, .f32⟩
  | .hbm, ⟨109, _⟩ => ⟨S2x8192, .f32⟩
  | .hbm, ⟨110, _⟩ => ⟨S2x8192x1, .f32⟩
  | .hbm, ⟨111, _⟩ => ⟨S_, .f32⟩
  | .hbm, ⟨112, _⟩ => ⟨S2x8192x1, .f32⟩
  | .hbm, ⟨113, _⟩ => ⟨S2x8192x1, .f32⟩
  | .hbm, ⟨114, _⟩ => ⟨S_, .f32⟩
  | .hbm, ⟨115, _⟩ => ⟨S2x8192x1, .f32⟩
  | .hbm, ⟨116, _⟩ => ⟨S2x8192x1, .f32⟩
  | .hbm, ⟨117, _⟩ => ⟨S2x8192x1, .f32⟩
  | .hbm, ⟨118, _⟩ => ⟨S2x8192x1024, .f32⟩
  | .hbm, ⟨119, _⟩ => ⟨S2x8192x1024, .f32⟩
  | .hbm, ⟨120, _⟩ => ⟨S1x1x1024, .f32⟩
  | .hbm, ⟨121, _⟩ => ⟨S2x8192x1024, .f32⟩
  | .hbm, ⟨122, _⟩ => ⟨S2x8192x1024, .f32⟩
  | .hbm, ⟨123, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_7 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call0_v0 : Ref sig .tc := ⟨.hbm, 92, rfl⟩
abbrev main_call0_v1 : Ref sig .tc := ⟨.hbm, 93, rfl⟩
abbrev main_call0_cst : Ref sig .tc := ⟨.hbm, 94, rfl⟩
abbrev main_call0_v2 : Ref sig .tc := ⟨.hbm, 95, rfl⟩
abbrev main_call0_v3 : Ref sig .tc := ⟨.hbm, 96, rfl⟩
abbrev main_call0_cst_0 : Ref sig .tc := ⟨.hbm, 97, rfl⟩
abbrev main_call0_v4 : Ref sig .tc := ⟨.hbm, 98, rfl⟩
abbrev main_call0_v5 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_8 : Ref sig .tc := ⟨.hbm, 108, rfl⟩
abbrev main_v77 : Ref sig .tc := ⟨.hbm, 109, rfl⟩
abbrev main_v78 : Ref sig .tc := ⟨.hbm, 110, rfl⟩
abbrev main_cst_9 : Ref sig .tc := ⟨.hbm, 111, rfl⟩
abbrev main_v79 : Ref sig .tc := ⟨.hbm, 112, rfl⟩
abbrev main_v80 : Ref sig .tc := ⟨.hbm, 113, rfl⟩
abbrev main_cst_10 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x9216 : Shape := ⟨2, ![2, 9216]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x1024 : Shape := ⟨2, ![16384, 1024]⟩
abbrev S2x9x1x1024 : Shape := ⟨4, ![2, 9, 1, 1024]⟩
abbrev S2x1x1x1024 : Shape := ⟨4, ![2, 1, 1, 1024]⟩
abbrev S2x1x1024 : Shape := ⟨3, ![2, 1, 1024]⟩
abbrev S1024x2816 : Shape := ⟨2, ![1024, 2816]⟩
abbrev S2816x1024 : Shape := ⟨2, ![2816, 1024]⟩
abbrev S11x256x1024 : Shape := ⟨3, ![11, 256, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 26
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S16384x1024, .f32⟩
  | .hbm, ⟨8, _⟩ => ⟨S2x9x1x1024, .f32⟩
  | .hbm, ⟨9, _⟩ => ⟨S2x1x1x1024, .f32⟩
  | .hbm, ⟨10, _⟩ => ⟨S2x1x1024, .f32⟩
  | .hbm, ⟨11, _⟩ => ⟨S2x1x1x1024, .f32⟩
  | .hbm, ⟨12, _⟩ => ⟨S2x1x1024, .f32⟩
  | .hbm, ⟨13, _⟩ => ⟨S2x1x1x1024, .f32⟩
  | .hbm, ⟨14, _⟩ => ⟨S2x1x1024, .f32⟩
  | .hbm, ⟨15, _⟩ => ⟨S1024, .f32⟩
  | .hbm, ⟨16, _⟩ => ⟨S1024x2816, .f32⟩
  | .hbm, ⟨17, _⟩ => ⟨S1024x2816, .f32⟩
  | .hbm, ⟨18, _⟩ => ⟨S2816x1024, .f32⟩
  | .hbm, ⟨19, _⟩ => ⟨S1024x2816, .bf16⟩
  | .hbm, ⟨20, _⟩ => ⟨S1024x2816, .bf16⟩
  | .hbm, ⟨21, _⟩ => ⟨S2816x1024, .bf16⟩
  | .hbm, ⟨22, _⟩ => ⟨S11x256x1024, .bf16⟩
  | .hbm, ⟨23, _⟩ => ⟨S1x1024, .f32⟩
  | .hbm, ⟨24, _⟩ => ⟨S1x1024, .f32⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2816, .bf16⟩
  | .local _ .vmem, ⟨10, _⟩ => ⟨S1024x2816, .bf16⟩
  | .local _ .vmem, ⟨11, _⟩ => ⟨S11x256x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2x8192x1024 : Shape := ⟨3, ![2, 8192, 1024]⟩
abbrev S2x9216 : Shape := ⟨2, ![2, 9216]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S1024x2816 : Shape := ⟨2, ![1024, 2816]⟩
abbrev S2816x1024 : Shape := ⟨2, ![2816, 1024]⟩
abbrev S2x8192x2816 : Shape := ⟨3, ![2, 8192, 2816]⟩
abbrev S16384x1024 : Shape := ⟨2, ![16384, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S2x1x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x1x1024, .f32⟩
  | .hbm, ⟨40, _⟩ => ⟨S2x8192x1024, .f32⟩
  | .hbm, ⟨41, _⟩ => ⟨S2x8192x1024, .f32⟩
  | .hbm, ⟨42, _⟩ => ⟨S2x1x1024, .f32⟩
  | .hbm, ⟨43, _⟩ => ⟨S_, .f32⟩
  | .hbm, ⟨44, _⟩ => ⟨S2x1x1024, .f32⟩
  | .hbm, ⟨45, _⟩ => ⟨S2x1x1024, .f32⟩
  | .hbm, ⟨46, _⟩ => ⟨S1024x2816, .f32⟩
  | .hbm, ⟨47, _⟩ => ⟨S1024x2816, .f32⟩
  | .hbm, ⟨48, _⟩ => ⟨S2816x1024, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S_, .f32⟩
  | .hbm, ⟨53, _⟩ => ⟨S2x8192x2816, .f32⟩
  | .hbm, ⟨54, _⟩ => ⟨S2x8192x2816, .f32⟩
  | .hbm, ⟨55, _⟩ => ⟨S_, .f32⟩
  | .hbm, ⟨56, _⟩ => ⟨S2x8192x2816, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x9216 : Shape := ⟨2, ![2, 9216]⟩
abbrev S1x1024 : Shape := ⟨2, ![1, 1024]⟩
abbrev S1x1024x5456 : Shape := ⟨3, ![1, 1024, 5456]⟩
abbrev S1x4x1024 : Shape := ⟨3, ![1, 4, 1024]⟩
abbrev S1x256 : Shape := ⟨2, ![1, 256]⟩
abbrev S1x8x256x64 : Shape := ⟨4, ![1, 8, 256, 64]⟩
abbrev S16384x1024 : Shape := ⟨2, ![16384, 1024]⟩
abbrev S2x9x1x1024 : Shape := ⟨4, ![2, 9, 1, 1024]⟩
abbrev S2x1x1x1024 : Shape := ⟨4, ![2, 1, 1, 1024]⟩
abbrev S2x1x1024 : Shape := ⟨3, ![2, 1, 1024]⟩
abbrev S8x256x64 : Shape := ⟨3, ![8, 256, 64]⟩
abbrev S8x64x256 : Shape := ⟨3, ![8, 64, 256]⟩
abbrev S4x2x64x256 : Shape := ⟨4, ![4, 2, 64, 256]⟩
abbrev S4x1x64x256 : Shape := ⟨4, ![4, 1, 64, 256]⟩
abbrev S4x64x256 : Shape := ⟨3, ![4, 64, 256]⟩
abbrev S_ : Shape := ⟨0, ![]⟩
abbrev S4x64x512 : Shape := ⟨3, ![4, 64, 512]⟩
abbrev S4x128x512 : Shape := ⟨3, ![4, 128, 512]⟩
abbrev S1024 : Shape := ⟨1, ![1024]⟩
abbrev S1024x5456 : Shape := ⟨2, ![1024, 5456]⟩
abbrev S1024x512 : Shape := ⟨2, ![1024, 512]⟩
abbrev S1024x256 : Shape := ⟨2, ![1024, 256]⟩
abbrev S1024x64 : Shape := ⟨2, ![1024, 64]⟩
abbrev S1024x8 : Shape := ⟨2, ![1024, 8]⟩
abbrev S1024x4 : Shape := ⟨2, ![1024, 4]⟩
abbrev S1024x1024 : Shape := ⟨2, ![1024, 1024]⟩
abbrev S1024x16 : Shape := ⟨2, ![1024, 16]⟩
abbrev S1024x128 : Shape := ⟨2, ![1024, 128]⟩
abbrev S1024x8x64 : Shape := ⟨3, ![1024, 8, 64]⟩
abbrev S1024x8x128 : Shape := ⟨3, ![1024, 8, 128]⟩
abbrev S1024x6144 : Shape := ⟨2, ![1024, 6144]⟩
abbrev S256 : Shape := ⟨1, ![256]⟩
abbrev S4x1024 : Shape := ⟨2, ![4, 1024]⟩
abbrev S128x8x128x256 : Shape := ⟨4, ![128, 8, 128, 256]⟩
abbrev S128x8x128x128 : Shape := ⟨4, ![128, 8, 128, 128]⟩
abbrev S16384x128 : Shape := ⟨2, ![16384, 128]⟩
abbrev S16384x256 : Shape := ⟨2, ![16384, 256]⟩
abbrev S64x272x256 : Shape := ⟨3, ![64, 272, 256]⟩
abbrev S8x16384 : Shape := ⟨2, ![8, 16384]⟩
abbrev S16384x512 : Shape := ⟨2, ![16384, 512]⟩
abbrev S512x1024 : Shape := ⟨2, ![512, 1024]⟩
abbrev S1x1x1024 : Shape := ⟨3, ![1, 1, 1024]⟩
abbrev S4x8x128x256 : Shape := ⟨4, ![4, 8, 128, 256]⟩
abbrev S4x8x128x128 : Shape := ⟨4, ![4, 8, 128, 128]⟩
abbrev S512x128 : Shape := ⟨2, ![512, 128]⟩
abbrev S512x256 : Shape := ⟨2, ![512, 256]⟩
abbrev S2x272x256 : Shape := ⟨3, ![2, 272, 256]⟩
abbrev S8x512 : Shape := ⟨2, ![8, 512]⟩
abbrev S512x512 : Shape := ⟨2, ![512, 512]⟩
abbrev S520x1024 : Shape := ⟨2, ![520, 1024]⟩
abbrev S8x1024 : Shape := ⟨2, ![8, 1024]⟩
abbrev S512 : Shape := ⟨1, ![512]⟩
abbrev S512x1 : Shape := ⟨2, ![512, 1]⟩
abbrev S1x128x512 : Shape := ⟨3, ![1, 128, 512]⟩
abbrev S128x512 : Shape := ⟨2, ![128, 512]⟩
abbrev S4x128x256 : Shape := ⟨3, ![4, 128, 256]⟩
abbrev S4x1x128x256 : Shape := ⟨4, ![4, 1, 128, 256]⟩
abbrev S256x512 : Shape := ⟨2, ![256, 512]⟩
abbrev S16x256 : Shape := ⟨2, ![16, 256]⟩
abbrev S256x256 : Shape := ⟨2, ![256, 256]⟩
abbrev S1x256x256 : Shape := ⟨3, ![1, 256, 256]⟩
abbrev S1x16x256 : Shape := ⟨3, ![1, 16, 256]⟩
abbrev S4x128x128 : Shape := ⟨3, ![4, 128, 128]⟩
abbrev S4x1x128x128 : Shape := ⟨4, ![4, 1, 128, 128]⟩

abbrev nBuf : Space → Nat
  | .hbm => 76
  | .vmem => 38
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S1x1024, .f32⟩
  | .hbm, ⟨3, _⟩ => ⟨S1x1024x5456, .f32⟩
  | .hbm, ⟨4, _⟩ => ⟨S1x4x1024, .f32⟩
  | .hbm, ⟨5, _⟩ => ⟨S1x1024, .f32⟩
  | .hbm, ⟨6, _⟩ => ⟨S1x256, .f32⟩
  | .hbm, ⟨7, _⟩ => ⟨S1x8x256x64, .f32⟩
  | .hbm, ⟨8, _⟩ => ⟨S16384x1024, .f32⟩
  | .hbm, ⟨9, _⟩ => ⟨S2x9x1x1024, .f32⟩
  | .hbm, ⟨10, _⟩ => ⟨S2x1x1x1024, .f32⟩
  | .hbm, ⟨11, _⟩ => ⟨S2x1x1024, .f32⟩
  | .hbm, ⟨12, _⟩ => ⟨S2x1x1x1024, .f32⟩
  | .hbm, ⟨13, _⟩ => ⟨S2x1x1024, .f32⟩
  | .hbm, ⟨14, _⟩ => ⟨S8x256x64, .f32⟩
  | .hbm, ⟨15, _⟩ => ⟨S8x64x256, .f32⟩
  | .hbm, ⟨16, _⟩ => ⟨S4x2x64x256, .f32⟩
  | .hbm, ⟨17, _⟩ => ⟨S4x1x64x256, .f32⟩
  | .hbm, ⟨18, _⟩ => ⟨S4x64x256, .f32⟩
  | .hbm, ⟨19, _⟩ => ⟨S_, .f32⟩
  | .hbm, ⟨20, _⟩ => ⟨S4x64x256, .f32⟩
  | .hbm, ⟨21, _⟩ => ⟨S4x1x64x256, .f32⟩
  | .hbm, ⟨22, _⟩ => ⟨S4x64x256, .f32⟩
  | .hbm, ⟨23, _⟩ => ⟨S4x64x512, .f32⟩
  | .hbm, ⟨24, _⟩ => ⟨S4x1x64x256, .f32⟩
  | .hbm, ⟨25, _⟩ => ⟨S4x64x256, .f32⟩
  | .hbm, ⟨26, _⟩ => ⟨S4x64x512, .f32⟩
  | .hbm, ⟨27, _⟩ => ⟨S4x128x512, .f32⟩
  | .hbm, ⟨28, _⟩ => ⟨S4x128x512, .bf16⟩
  | .hbm, ⟨29, _⟩ => ⟨S1024, .f32⟩
  | .hbm, ⟨30, _⟩ => ⟨S1024x5456, .f32⟩
  | .hbm, ⟨31, _⟩ => ⟨S1024x512, .f32⟩
  | .hbm, ⟨32, _⟩ => ⟨S1024x256, .f32⟩
  | .hbm, ⟨33, _⟩ => ⟨S1024x512, .f32⟩
  | .hbm, ⟨34, _⟩ => ⟨S1024x64, .f32⟩
  | .hbm, ⟨35, _⟩ => ⟨S1024x8, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S1024x4, .f32⟩
  | .hbm, ⟨40, _⟩ => ⟨S1024x4, .f32⟩
  | .hbm, ⟨41, _⟩ => ⟨S1024x512, .f32⟩
  | .hbm, ⟨42, _⟩ => ⟨S1024x1024, .f32⟩
  | .hbm, ⟨43, _⟩ => ⟨S1024x1024, .f32⟩
  | .hbm, ⟨44, _⟩ => ⟨S1024x16, .f32⟩
  | .hbm, ⟨45, _⟩ => ⟨S_, .i32⟩
  | .hbm, ⟨46, _⟩ => ⟨S_, .f32⟩
  | .hbm, ⟨47, _⟩ => ⟨S1024x128, .f32⟩
  | .hbm, ⟨48, _⟩ => ⟨S1024x8x64, .f32⟩
  | .hbm, ⟨49, _⟩ => ⟨S_, .i32⟩
  | .hbm, ⟨50, _⟩ => ⟨S_, .f32⟩
  | .hbm, ⟨51, _⟩ => ⟨S1024x8x128, .f32⟩
  | .hbm, ⟨52, _⟩ => ⟨S1024x1024, .f32⟩
  | .hbm, ⟨53, _⟩ => ⟨S_, .i32⟩
  | .hbm, ⟨54, _⟩ => ⟨S_, .f32⟩
  | .hbm, ⟨55, _⟩ => ⟨S1024x128, .f32⟩
  | .hbm, ⟨56, _⟩ => ⟨S1024x6144, .f32⟩
  | .hbm, ⟨57, _⟩ => ⟨S1024x6144, .bf16⟩
  | .hbm, ⟨58, _⟩ => ⟨S256, .f32⟩
  | .hbm, ⟨59, _⟩ => ⟨S4x1024, .f32⟩
  | .hbm, ⟨60, _⟩ => ⟨S1024, .f32⟩
  | .hbm, ⟨61, _⟩ => ⟨S1x1024, .f32⟩
  | .hbm, ⟨62, _⟩ => ⟨S1x256, .f32⟩
  | .hbm, ⟨63, _⟩ => ⟨S1x1024, .f32⟩
  | .hbm, ⟨64, _⟩ => ⟨S128x8x128x256, .bf16⟩
  | .hbm, ⟨65, _⟩ => ⟨S128x8x128x128, .bf16⟩
  | .hbm, ⟨66, _⟩ => ⟨S16384x128, .bf16⟩
  | .hbm, ⟨67, _⟩ => ⟨S16384x256, .bf16⟩
  | .hbm, ⟨68, _⟩ => ⟨S64x272x256, .bf16⟩
  | .hbm, ⟨69, _⟩ => ⟨S8x16384, .f32⟩
  | .hbm, ⟨70, _⟩ => ⟨S8x16384, .f32⟩
  | .hbm, ⟨71, _⟩ => ⟨S16384x1024, .bf16⟩
  | .hbm, ⟨72, _⟩ => ⟨S16384x512, .bf16⟩
  | .hbm, ⟨73, _⟩ => ⟨S16384x512, .f32⟩
  | .hbm, ⟨74, _⟩ => ⟨S16384x1024, .f32⟩
  | .hbm, ⟨75, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x6144, .bf16⟩
  | .local _ .vmem, ⟨8, _⟩ => ⟨S1x256, .f32⟩
  | .local _ .vmem, ⟨9, _⟩ => ⟨S4x128x512, .bf16⟩
  | .local _ .vmem, ⟨10, _⟩ => ⟨S4x1024, .f32⟩
  | .local _ .vmem, ⟨11, _⟩ => ⟨S1x1024, .f32⟩
  | .local _ .vmem, ⟨12, _⟩ => ⟨S4x8x128x256, .bf16⟩
  | .local _ .vmem, ⟨13, _⟩ => ⟨S4x8x128x256, .bf16⟩
  | .local _ .vmem, ⟨14, _⟩ => ⟨S4x8x128x128, .bf16⟩
  | .local _ .vmem, ⟨15, _⟩ => ⟨S4x8x128x128, .bf16⟩
  | .local _ .vmem, ⟨16, _⟩ => ⟨S512x128, .bf16⟩
  | .local _ .vmem, ⟨17, _⟩ => ⟨S512x128, .bf16⟩
  | .local _ .vmem, ⟨18, _⟩ => ⟨S512x256, .bf16⟩
  | .local _ .vmem, ⟨19, _⟩ => ⟨S512x256, .bf16⟩
  | .local _ .vmem, ⟨20, _⟩ => ⟨S2x272x256, .bf16⟩
  | .local _ .vmem, ⟨21, _⟩ => ⟨S2x272x256, .bf16⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S512x1024, .bf16⟩
  | .local _ .vmem, ⟨27, _⟩ => ⟨S512x1024, .bf16⟩
  | .local _ .vmem, ⟨28, _⟩ => ⟨S512x512, .bf16⟩
  | .local _ .vmem, ⟨29, _⟩ => ⟨S512x512, .bf16⟩
  | .local _ .vmem, ⟨30, _⟩ => ⟨S512x512, .f32⟩
  | .local _ .vmem, ⟨31, _⟩ => ⟨S512x512, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .bf16⟩
  | .local _ .vmem, ⟨37, _⟩ => ⟨S520x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_call0_v0 : Ref sig .tc := ⟨.hbm, 46, rfl⟩
abbrev main_v36 : Ref sig .tc := ⟨.hbm, 47, rfl⟩
abbrev main_v37 : Ref sig .tc := ⟨.hbm, 48, rfl⟩
abbrev main_c_0 : Ref sig .tc := ⟨.hbm, 49, rfl⟩
abbrev main_call1_v0 : Ref sig .tc := ⟨.hbm, 50, rfl⟩
abbrev main_v38 : Ref sig .tc := ⟨.hbm, 51, rfl⟩
abbrev main_v39 : Ref sig .tc := ⟨.hbm, 52, rfl⟩
abbrev main_c_1 : Ref sig .tc := ⟨.hbm, 53, rfl⟩
abbrev main_call2_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49_0 : Ref sig .tc := ⟨.hbm, 64, rfl⟩
abbrev main_v49_1 : Ref sig .tc := ⟨.hbm, 65, rfl⟩
abbrev main_v49_2 : Ref sig .tc := ⟨.hbm, 66, rfl⟩
abbrev main_v49_3 : Ref sig .tc := ⟨.hbm, 67, rfl⟩
abbrev main_v49_4 : Ref sig .tc := ⟨.hbm, 68, rfl⟩
abbrev main_v49_5 : Ref sig .tc := ⟨.hbm, 69, rfl⟩
abbrev main_v49_6 : Ref sig .tc := ⟨.hbm, 70, rfl⟩
abbrev main_v49_7 : Ref sig .tc := ⟨.hbm, 71, rfl⟩
abbrev main_v49_8 : Ref sig .tc := ⟨.hbm, 72, rfl⟩
abbrev main_v49_9 : Ref sig .tc := ⟨.hbm, 73, rfl⟩
abbrev main_v49_10 : Ref sig .tc := ⟨.hbm, 74, rfl⟩
abbrev main_v49_11 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x8x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x8x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x272x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S2x8192x1024 : Shape := ⟨3, ![2, 8192, 1024]⟩
abbrev S2x9216 : Shape := ⟨2, ![2, 9216]⟩
abbrev S1x1024 : Shape := ⟨2, ![1, 1024]⟩
abbrev S1x1024x5456 : Shape := ⟨3, ![1, 1024, 5456]⟩
abbrev S1x4x1024 : Shape := ⟨3, ![1, 4, 1024]⟩
abbrev S1x256 : Shape := ⟨2, ![1, 256]⟩
abbrev S1x8x256x64 : Shape := ⟨4, ![1, 8, 256, 64]⟩
abbrev S2x1024 : Shape := ⟨2, ![2, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S1024x5456 : Shape := ⟨2, ![1024, 5456]⟩
abbrev S2x8192x5456 : Shape := ⟨3, ![2, 8192, 5456]⟩
abbrev S2x8192x512 : Shape := ⟨3, ![2, 8192, 512]⟩
abbrev S2x8192x256 : Shape := ⟨3, ![2, 8192, 256]⟩
abbrev S2x8192x64 : Shape := ⟨3, ![2, 8192, 64]⟩
abbrev S2x8192x8 : Shape := ⟨3, ![2, 8192, 8]⟩
abbrev S2x8192x4 : Shape := ⟨3, ![2, 8192, 4]⟩
abbrev S2x8192x8x64 : Shape := ⟨4, ![2, 8192, 8, 64]⟩
abbrev S8x256x64 : Shape := ⟨3, ![8, 256, 64]⟩
abbrev S8x256x2x8192 : Shape := ⟨4, ![8, 256, 2, 8192]⟩
abbrev S2x8192x8x256 : Shape := ⟨4, ![2, 8192, 8, 256]⟩
abbrev S128x128x8x256 : Shape := ⟨4, ![128, 128, 8, 256]⟩
abbrev S128x8x128x256 : Shape := ⟨4, ![128, 8, 128, 256]⟩
abbrev S2x8192x8x128 : Shape := ⟨4, ![2, 8192, 8, 128]⟩
abbrev S128x128x8x128 : Shape := ⟨4, ![128, 128, 8, 128]⟩
abbrev S128x8x128x128 : Shape := ⟨4, ![128, 8, 128, 128]⟩
abbrev S2x8192x128 : Shape := ⟨3, ![2, 8192, 128]⟩
abbrev S16384x8 : Shape := ⟨2, ![16384, 8]⟩
abbrev S8x16384 : Shape := ⟨2, ![8, 16384]⟩
abbrev S256 : Shape := ⟨1, ![256]⟩
abbrev S1x1x256 : Shape := ⟨3, ![1, 1, 256]⟩
abbrev S16384x128 : Shape := ⟨2, ![16384, 128]⟩
abbrev S16384x256 : Shape := ⟨2, ![16384, 256]⟩
abbrev S16384x512 : Shape := ⟨2, ![16384, 512]⟩
abbrev S16384x1024 : Shape := ⟨2, ![16384, 1024]⟩
abbrev S64x256x256 : Shape := ⟨3, ![64, 256, 256]⟩
abbrev S64x257x256 : Shape := ⟨3, ![64, 257, 256]⟩
abbrev S64x272x256 : Shape := ⟨3, ![64, 272, 256]⟩

abbrev nBuf : Space → Nat
  | .hbm => 121
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S1x1024, .f32⟩
  | .hbm, ⟨3, _⟩ => ⟨S1x1024x5456, .f32⟩
  | .hbm, ⟨4, _⟩ => ⟨S1x4x1024, .f32⟩
  | .hbm, ⟨5, _⟩ => ⟨S1x1024, .f32⟩
  | .hbm, ⟨6, _⟩ => ⟨S1x256, .f32⟩
  | .hbm, ⟨7, _⟩ => ⟨S1x8x256x64, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S2x1x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x1x1024, .f32⟩
  | .hbm, ⟨41, _⟩ => ⟨S2x8192x1024, .f32⟩
  | .hbm, ⟨42, _⟩ => ⟨S2x8192x1024, .f32⟩
  | .hbm, ⟨43, _⟩ => ⟨S1024x5456, .f32⟩
  | .hbm, ⟨44, _⟩ => ⟨S2x8192x5456, .f32⟩
  | .hbm, ⟨45, _⟩ => ⟨S2x8192x512, .f32⟩
  | .hbm, ⟨46, _⟩ => ⟨S2x8192x256, .f32⟩
  | .hbm, ⟨47, _⟩ => ⟨S2x8192x512, .f32⟩
  | .hbm, ⟨48, _⟩ => ⟨S2x8192x64, .f32⟩
  | .hbm, ⟨49, _⟩ => ⟨S2x8192x8, .f32⟩
  | .hbm, ⟨50, _⟩ => ⟨S2x8192x512, .f32⟩
  | .hbm, ⟨51, _⟩ => ⟨S2x8192x512, .f32⟩
  | .hbm, ⟨52, _⟩ => ⟨S2x8192x512, .f32⟩
  | .hbm, ⟨53, _⟩ => ⟨S2x8192x4, .f32⟩
  | .hbm, ⟨54, _⟩ => ⟨S2x8192x4, .f32⟩
  | .hbm, ⟨55, _⟩ => ⟨S2x8192x512, .f32⟩
  | .hbm, ⟨56, _⟩ => ⟨S2x8192x1024, .f32⟩
  | .hbm, ⟨57, _⟩ => ⟨S2x8192x1024, .f32⟩
  | .hbm, ⟨58, _⟩ => ⟨S2x8192x8x64, .f32⟩
  | .hbm, ⟨59, _⟩ => ⟨S8x256x64, .f32⟩
  | .hbm, ⟨60, _⟩ => ⟨S8x256x2x8192, .f32⟩
  | .hbm, ⟨61, _⟩ => ⟨S2x8192x8x256, .f32⟩
  | .hbm, ⟨62, _⟩ => ⟨S_, .f32⟩
  | .hbm, ⟨63, _⟩ => ⟨S2x8192x8x256, .f32⟩
  | .hbm, ⟨64, _⟩ => ⟨S2x8192x8x256, .f32⟩
  | .hbm, ⟨65, _⟩ => ⟨S128x128x8x256, .f32⟩
  | .hbm, ⟨66, _⟩ => ⟨S128x8x128x256, .f32⟩
  | .hbm, ⟨67, _⟩ => ⟨S2x8192x8x64, .f32⟩
  | .hbm, ⟨68, _⟩ => ⟨S_, .i32⟩
  | .hbm, ⟨69, _⟩ => ⟨S_, .f32⟩
  | .hbm, ⟨70, _⟩ => ⟨S2x8192x8x128, .f32⟩
  | .hbm, ⟨71, _⟩ => ⟨S128x128x8x128, .f32⟩
  | .hbm, ⟨72, _⟩ => ⟨S128x8x128x128, .f32⟩
  | .hbm, ⟨73, _⟩ => ⟨S_, .i32⟩
  | .hbm, ⟨74, _⟩ => ⟨S_, .f32⟩
  | .hbm, ⟨75, _⟩ => ⟨S2x8192x128, .f32⟩
  | .hbm, ⟨76, _⟩ => ⟨S_, .f32⟩
  | .hbm, ⟨77, _⟩ => ⟨S2x8192x8, .f32⟩
  | .hbm, ⟨78, _⟩ => ⟨S2x8192x8, .f32⟩
  | .hbm, ⟨79, _⟩ => ⟨S16384x8, .f32⟩
  | .hbm, ⟨80, _⟩ => ⟨S8x16384, .f32⟩
  | .hbm, ⟨81, _⟩ => ⟨S256, .f32⟩
  | .hbm, ⟨82, _⟩ => ⟨S2x8192x256, .f32⟩
  | .hbm, ⟨83, _⟩ => ⟨S_, .f32⟩
  | .hbm, ⟨84, _⟩ => ⟨S2x8192, .f32⟩
  | .hbm, ⟨85, _⟩ => ⟨S2x8192x1, .f32⟩
  | .hbm, ⟨86, _⟩ => ⟨S_, .f32⟩
  | .hbm, ⟨87, _⟩ => ⟨S2x8192x1, .f32⟩
  | .hbm, ⟨88, _⟩ => ⟨S2x8192x1, .f32⟩
  | .hbm, ⟨89, _⟩ => ⟨S_, .f32⟩
  | .hbm, ⟨90, _⟩ => ⟨S2x8192x1, .f32⟩
  | .hbm, ⟨91, _⟩ => ⟨S2x8192x1, .f32⟩
  | .hbm, ⟨92, _⟩ => ⟨S2x8192x1, .f32⟩
  | .hbm, ⟨93, _⟩ => ⟨S2x8192x256, .f32⟩
  | .hbm, ⟨94, _⟩ => ⟨S2x8192x256, .f32⟩
  | .hbm, ⟨95, _⟩ => ⟨S1x1x256, .f32⟩
  | .hbm, ⟨96, _⟩ => ⟨S2x8192x256, .f32⟩
  | .hbm, ⟨97, _⟩ => ⟨S2x8192x256, .f32⟩
  | .hbm, ⟨98, _⟩ => ⟨S2x8192x8, .f32⟩
  | .hbm, ⟨99, _⟩ => ⟨S16384x8, .f32⟩
  | .hbm, ⟨100, _⟩ => ⟨S8x16384, .f32⟩
  | .hbm, ⟨101, _⟩ => ⟨S128x8x128x256, .bf16⟩
  | .hbm, ⟨102, _⟩ => ⟨S128x8x128x128, .bf16⟩
  | .hbm, ⟨103, _⟩ => ⟨S16384x128, .f32⟩
  | .hbm, ⟨104, _⟩ => ⟨S16384x128, .bf16⟩
  | .hbm, ⟨105, _⟩ => ⟨S16384x256, .f32⟩
  | .hbm, ⟨106, _⟩ => ⟨S16384x256, .bf16⟩
  | .hbm, ⟨107, _⟩ => ⟨S16384x512, .f32⟩
  | .hbm, ⟨108, _⟩ => ⟨S16384x512, .bf16⟩
  | .hbm, ⟨109, _⟩ => ⟨S16384x512, .f32⟩
  | .hbm, ⟨110, _⟩ => ⟨S16384x1024, .f32⟩
  | .hbm, ⟨111, _⟩ => ⟨S16384x1024, .f32⟩
  | .hbm, ⟨112, _⟩ => ⟨S64x256x256, .f32⟩
  | .hbm, ⟨113, _⟩ => ⟨S64x256x256, .f32⟩
  | .hbm, ⟨114, _⟩ => ⟨S_, .f32⟩
  | .hbm, ⟨115, _⟩ => ⟨S_, .f32⟩
  | .hbm, ⟨116, _⟩ => ⟨S64x257x256, .f32⟩
  | .hbm, ⟨117, _⟩ => ⟨S_, .i32⟩
  | .hbm, ⟨118, _⟩ => ⟨S_, .f32⟩
  | .hbm, ⟨119, _⟩ => ⟨S64x272x256, .f32⟩
  | .hbm, ⟨120, _⟩ => ⟨S64x272x256, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c : Ref sig .tc := ⟨.hbm, 68, rfl⟩
abbrev main_call0_v0 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_4 : Ref sig .tc := ⟨.hbm, 73, rfl⟩
abbrev main_call1_v0 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_6 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_cst_8 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_9 : Ref sig .tc := ⟨.hbm, 114, rfl⟩
abbrev main_call2_v0 : Ref sig .tc := ⟨.hbm, 115, rfl⟩
abbrev main_v93 : Ref sig .tc := ⟨.hbm, 116, rfl⟩
abbrev main_c_10 : Ref sig .tc := ⟨.hbm, 117, rfl⟩
abbrev main_call3_v0 : Ref sig .tc := ⟨.hbm, 118, rfl⟩
abbrev main_v94 : Ref sig .tc := ⟨.hbm, 119, rfl⟩
abbrev main_v95 : Ref sig .tc := ⟨.hbm, 120, rfl⟩

abbrev nD : Nat := 1
abbrev τ : Topo := Topo.v7x

variable {F : FTy → Type} [FloatOps F]
-- ==== Kernel5.lean ====
abbrev S2x1024 : Shape := ⟨2, ![2, 1024]⟩
abbrev S1x1024x9216 : Shape := ⟨3, ![1, 1024, 9216]⟩
abbrev S1x9216 : Shape := ⟨2, ![1, 9216]⟩
abbrev S1024x9216 : Shape := ⟨2, ![1024, 9216]⟩
abbrev S9216 : Shape := ⟨1, ![9216]⟩
abbrev S_ : Shape := ⟨0, ![]⟩
abbrev S8x1024 : Shape := ⟨2, ![8, 1024]⟩
abbrev S1 : Shape := ⟨1, ![1]⟩
abbrev S8x9216 : Shape := ⟨2, ![8, 9216]⟩
abbrev S1024x1024 : Shape := ⟨2, ![1024, 1024]⟩
abbrev S1x1024 : Shape := ⟨2, ![1, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1x1024x9216, .f32⟩
  | .hbm, ⟨2, _⟩ => ⟨S1x9216, .f32⟩
  | .hbm, ⟨3, _⟩ => ⟨S1024x9216, .f32⟩
  | .hbm, ⟨4, _⟩ => ⟨S9216, .f32⟩
  | .hbm, ⟨5, _⟩ => ⟨S_, .f32⟩
  | .hbm, ⟨6, _⟩ => ⟨S8x1024, .f32⟩
  | .hbm, ⟨7, _⟩ => ⟨S_, .i32⟩
  | .hbm, ⟨8, _⟩ => ⟨S1, .i32⟩
  | .hbm, ⟨9, _⟩ => ⟨S8x1024, .f32⟩
  | .hbm, ⟨10, _⟩ => ⟨S1x9216, .f32⟩
  | .hbm, ⟨11, _⟩ => ⟨S8x9216, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x1024 : Shape := ⟨2, ![2, 1024]⟩
abbrev S1x1024x9216 : Shape := ⟨3, ![1, 1024, 9216]⟩
abbrev S1x9216 : Shape := ⟨2, ![1, 9216]⟩
abbrev S_ : Shape := ⟨0, ![]⟩
abbrev S8x1024 : Shape := ⟨2, ![8, 1024]⟩
abbrev S1024x9216 : Shape := ⟨2, ![1024, 9216]⟩
abbrev S8x9216 : Shape := ⟨2, ![8, 9216]⟩
abbrev S9216 : Shape := ⟨1, ![9216]⟩

abbrev nBuf : Space → Nat
  | .hbm => 21
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1x1024x9216, .f32⟩
  | .hbm, ⟨2, _⟩ => ⟨S1x9216, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S1024x9216, .f32⟩
  | .hbm, ⟨16, _⟩ => ⟨S8x9216, .f32⟩
  | .hbm, ⟨17, _⟩ => ⟨S9216, .f32⟩
  | .hbm, ⟨18, _⟩ => ⟨S1x9216, .f32⟩
  | .hbm, ⟨19, _⟩ => ⟨S8x9216, .f32⟩
  | .hbm, ⟨20, _⟩ => ⟨S8x9216, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel6.lean ====
abbrev S16384x1024 : Shape := ⟨2, ![16384, 1024]⟩
abbrev S16384x512 : Shape := ⟨2, ![16384, 512]⟩
abbrev S8x16384 : Shape := ⟨2, ![8, 16384]⟩
abbrev S1x8 : Shape := ⟨2, ![1, 8]⟩
abbrev S1x512 : Shape := ⟨2, ![1, 512]⟩
abbrev S8 : Shape := ⟨1, ![8]⟩
abbrev S512 : Shape := ⟨1, ![512]⟩
abbrev S8x1 : Shape := ⟨2, ![8, 1]⟩
abbrev S8x256 : Shape := ⟨2, ![8, 256]⟩
abbrev S8x2x8192 : Shape := ⟨3, ![8, 2, 8192]⟩
abbrev S2x8x8192 : Shape := ⟨3, ![2, 8, 8192]⟩
abbrev S2x8192x1024 : Shape := ⟨3, ![2, 8192, 1024]⟩
abbrev S2x8192x512 : Shape := ⟨3, ![2, 8192, 512]⟩
abbrev S2x256x1024 : Shape := ⟨3, ![2, 256, 1024]⟩
abbrev S2x256x512 : Shape := ⟨3, ![2, 256, 512]⟩
abbrev S2x8x256 : Shape := ⟨3, ![2, 8, 256]⟩
abbrev S2x4x128x256 : Shape := ⟨4, ![2, 4, 128, 256]⟩
abbrev S2x8x1 : Shape := ⟨3, ![2, 8, 1]⟩
abbrev S256x256 : Shape := ⟨2, ![256, 256]⟩
abbrev S256x128 : Shape := ⟨2, ![256, 128]⟩
abbrev S1x8x256 : Shape := ⟨3, ![1, 8, 256]⟩
abbrev S1x8x1 : Shape := ⟨3, ![1, 8, 1]⟩
abbrev S96x256 : Shape := ⟨2, ![96, 256]⟩
abbrev S128x256 : Shape := ⟨2, ![128, 256]⟩
abbrev S1x256x512 : Shape := ⟨3, ![1, 256, 512]⟩
abbrev S256x512 : Shape := ⟨2, ![256, 512]⟩
abbrev S1x256x1024 : Shape := ⟨3, ![1, 256, 1024]⟩
abbrev S256x1024 : Shape := ⟨2, ![256, 1024]⟩
abbrev S256x1 : Shape := ⟨2, ![256, 1]⟩
abbrev S1x4x128x256 : Shape := ⟨4, ![1, 4, 128, 256]⟩
abbrev S4x128x256 : Shape := ⟨3, ![4, 128, 256]⟩
abbrev S1x128x256 : Shape := ⟨3, ![1, 128, 256]⟩
abbrev S1x256 : Shape := ⟨2, ![1, 256]⟩
abbrev S1x1 : Shape := ⟨2, ![1, 1]⟩
abbrev S256 : Shape := ⟨1, ![256]⟩
abbrev S1x128 : Shape := ⟨2, ![1, 128]⟩
abbrev S1x256x128 : Shape := ⟨3, ![1, 256, 128]⟩

abbrev nBuf : Space → Nat
  | .hbm => 17
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .f32⟩
  | .hbm, ⟨3, _⟩ => ⟨S8x16384, .f32⟩
  | .hbm, ⟨4, _⟩ => ⟨S1x8, .f32⟩
  | .hbm, ⟨5, _⟩ => ⟨S1x512, .f32⟩
  | .hbm, ⟨6, _⟩ => ⟨S8, .f32⟩
  | .hbm, ⟨7, _⟩ => ⟨S512, .f32⟩
  | .hbm, ⟨8, _⟩ => ⟨S8x1, .f32⟩
  | .hbm, ⟨9, _⟩ => ⟨S8x256, .f32⟩
  | .hbm, ⟨10, _⟩ => ⟨S8x2x8192, .f32⟩
  | .hbm, ⟨11, _⟩ => ⟨S2x8x8192, .f32⟩
  | .hbm, ⟨12, _⟩ => ⟨S2x8192x1024, .bf16⟩
  | .hbm, ⟨13, _⟩ => ⟨S2x8192x512, .bf16⟩
  | .hbm, ⟨14, _⟩ => ⟨S2x8192x512, .f32⟩
  | .hbm, ⟨15, _⟩ => ⟨S1x512, .f32⟩
  | .hbm, ⟨16, _⟩ => ⟨S2x8192x512, .bf16⟩
  | .local _ .vmem, ⟨0, _⟩ => ⟨S2x256x1024, .bf16⟩
  | .local _ .vmem, ⟨1, _⟩ => ⟨S2x256x1024, .bf16⟩
  | .local _ .vmem, ⟨2, _⟩ => ⟨S2x256x512, .bf16⟩
  | .local _ .vmem, ⟨3, _⟩ => ⟨S2x256x512, .bf16⟩
  | .local _ .vmem, ⟨4, _⟩ => ⟨S2x256x512, .f32⟩
  | .local _ .vmem, ⟨5, _⟩ => ⟨S2x256x512, .f32⟩
  | .local _ .vmem, ⟨6, _⟩ => ⟨S2x8x256, .f32⟩
  | .local _ .vmem, ⟨7, _⟩ => ⟨S2x8x256, .f32⟩
  | .local _ .vmem, ⟨8, _⟩ => ⟨S8x256, .f32⟩
  | .local _ .vmem, ⟨9, _⟩ => ⟨S1x512, .f32⟩
  | .local _ .vmem, ⟨10, _⟩ => ⟨S2x256x512, .bf16⟩
  | .local _ .vmem, ⟨11, _⟩ => ⟨S2x256x512, .bf16⟩
  | .local _ .vmem, ⟨12, _⟩ => ⟨S2x4x128x256, .f32⟩
  | .local _ .vmem, ⟨13, _⟩ => ⟨S2x8x1, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel7.lean ====
abbrev S32x8 : Shape := ⟨2, ![32, 8]⟩
abbrev S8x640x128 : Shape := ⟨3, ![8, 640, 128]⟩
abbrev S1x1024 : Shape := ⟨2, ![1, 1024]⟩
abbrev S640x128 : Shape := ⟨2, ![640, 128]⟩
abbrev S1x1 : Shape := ⟨2, ![1, 1]⟩
abbrev S1x640x128 : Shape := ⟨3, ![1, 640, 128]⟩
abbrev S1x128 : Shape := ⟨2, ![1, 128]⟩

abbrev nBuf : Space → Nat
  | .hbm => 3
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S8x640x128, .f32⟩
  | .hbm, ⟨2, _⟩ => ⟨S1x1024, .f32⟩
  | .local _ .vmem, ⟨0, _⟩ => ⟨S8x640x128, .f32⟩
  | .local _ .vmem, ⟨1, _⟩ => ⟨S1x1024, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Safe.lean ====
/-
  Programs that keep a resource: `Safe R p` says that from `R` the program `p` runs to its end and hands `R` back,
  whatever it returns. It is closed under sequencing, branches and counted loops, and it holds of every load and every
  store of a memref that `R` owns. So a kernel whose accesses are in bounds is shown to run to its end by its text
  alone, with nothing said of the values it moves. Nothing here is about one kernel.
-/
module

public import Idealize.ShloMosaic.Lib.Pipeline.Frame
public import Idealize.ShloMosaic.Lib.Tactic
public import Idealize.ShloMosaic.Lib.Exec.Geometry

@[expose] public section

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- What the program may own: an assertion about the machine's memory, semaphores and the pipeline's rounds. -/
abbrev Res (nD : Nat) (τ : Topo) (sig : RefSig) (Val : EltTy → Type) : Type := sProp (MT nD τ sig Unit Val ℕ (UR sig nD τ) ℕ)

/-- From `R` the program runs to its end and hands `R` back. -/
def Safe (D : Defs nD τ sig Val Λ) (c : Dev nD) (R : Res nD τ sig Val) {α : Type} (p : Prog (TpuEff nD τ sig Val Λ .tc) α) : Prop :=
  R ⊢ wp frame (wpE D Variants.none (c : Thread nD τ) none) Set.univ p (fun _ => R)

/-- `R` owns elements that hold the memref's, at contents it takes back unchanged: enough to load from it. -/
def Reads (c : Dev nD) (R : Res nD τ sig Val) {sp : Space} {s : Shape} {e : EltTy} (M : Memref sig .tc sp s e) : Prop :=
  ∃ S : Finset (Idx (M.view.loc (c : Thread nD τ))), M.view.set ⊆ S ∧
    (R ⊢ iprop(∃ f : Buf Val (M.view.loc (c : Thread nD τ)), (M.view.loc (c : Thread nD τ) ↦[S]{fullShare} f)
      ∗ ((M.view.loc (c : Thread nD τ) ↦[S]{fullShare} f) -∗ R)))

/-- `R` owns elements that hold the memref's, at contents it takes back changed in any way: enough to store into it. -/
def Writes (c : Dev nD) (R : Res nD τ sig Val) {sp : Space} {s : Shape} {e : EltTy} (M : Memref sig .tc sp s e) : Prop :=
  ∃ S : Finset (Idx (M.view.loc (c : Thread nD τ))), M.view.set ⊆ S ∧
    (R ⊢ iprop(∃ f : Buf Val (M.view.loc (c : Thread nD τ)), (M.view.loc (c : Thread nD τ) ↦[S]{fullShare} f)
      ∗ (∀ g : Buf Val (M.view.loc (c : Thread nD τ)), (M.view.loc (c : Thread nD τ) ↦[S]{fullShare} g) -∗ R)))

variable {D : Defs nD τ sig Val Λ} {c : Dev nD} {R : Res nD τ sig Val}

theorem Writes.reads {sp : Space} {s : Shape} {e : EltTy} {M : Memref sig .tc sp s e} (h : Writes c R M) : Reads c R M := by
  obtain ⟨S, hS, h⟩ := h
  refine ⟨S, hS, h.trans ?_⟩
  iintro ⟨%f, H, Hk⟩
  iexists f
  isplitl [H]; · iexact H
  iintro H
  iapply Hk $$ %f
  iexact H

/-- What owns a memref owns its slices. -/
theorem Reads.slice {sp : Space} {s : Shape} {e : EltTy} {M : Memref sig .tc sp s e} {r : Rect s} {hr : ∀ a, r.stride a = 1}
    (h : Reads c R M) : Reads c R (M.slice r hr) := by
  obtain ⟨S, hS, h⟩ := h
  exact ⟨S, (M.view.set_slice_subset r).trans hS, h⟩

theorem Writes.slice {sp : Space} {s : Shape} {e : EltTy} {M : Memref sig .tc sp s e} {r : Rect s} {hr : ∀ a, r.stride a = 1}
    (h : Writes c R M) : Writes c R (M.slice r hr) := by
  obtain ⟨S, hS, h⟩ := h
  exact ⟨S, (M.view.set_slice_subset r).trans hS, h⟩

/-- Leaving out axes of extent one changes nothing of what is owned. -/
theorem Reads.squeeze {sp : Space} {s s' : Shape} {e : EltTy} {M : Memref sig .tc sp s e} {hq : s.Squeezes s'}
    (h : Reads c R M) : Reads c R (M.squeeze s' hq) := by
  obtain ⟨S, hS, h⟩ := h
  exact ⟨S, (Memref.set_view_squeeze M hq).subset.trans hS, h⟩

theorem Writes.squeeze {sp : Space} {s s' : Shape} {e : EltTy} {M : Memref sig .tc sp s e} {hq : s.Squeezes s'}
    (h : Writes c R M) : Writes c R (M.squeeze s' hq) := by
  obtain ⟨S, hS, h⟩ := h
  exact ⟨S, (Memref.set_view_squeeze M hq).subset.trans hS, h⟩

theorem Safe.ret {α : Type} (a : α) : Safe D c R (Prog.ret a) := by
  unfold Safe; rw [wp_ret]; iintro H; imodintro; iexact H

theorem Safe.pure {α : Type} (a : α) : Safe D c R (Pure.pure a) := Safe.ret a

theorem Safe.bind {α β : Type} {p : Prog (TpuEff nD τ sig Val Λ .tc) α} {k : α → Prog (TpuEff nD τ sig Val Λ .tc) β}
    (hp : Safe D c R p) (hk : ∀ a, Safe D c R (k a)) : Safe D c R (p >>= k) := by
  unfold Safe at *
  rw [wp_bind]
  refine hp.trans (wp_mono _ _ _ fun a => hk a)

theorem Safe.load {cs : CoreSpace} {s : Shape} {e : EltTy} {M : Memref sig .tc cs s e} {r : LoadRect s} {hl : M.view.LoadsAt r}
    (h : Reads c R M) : Safe D c R (Prog.lift (.load M r hl)) := by
  obtain ⟨S, hS, h⟩ := h
  unfold Safe Prog.lift
  refine h.trans ?_
  iintro ⟨%f, H, Hk⟩
  iapply (wp_load Variants.none (c : Thread nD τ) none Set.univ (S := S) ((View.setOn_subset_set _ _).trans hS)) $$ H
  iintro H
  rw [wp_ret]
  imodintro
  iapply Hk; iexact H

theorem Safe.store {cs : CoreSpace} {s : Shape} {e : EltTy} {M : Memref sig .tc cs s e} {r : Rect s} {w : r.shape.Idx → Val e}
    {Mk : Finset r.shape.Idx} {hx : (M.access r).Stores Mk} {hm : Mk = Finset.univ ∨ ∀ a, r.stride a = 1}
    (h : Writes c R M) : Safe D c R (Prog.lift (.store M r w Mk hx hm)) := by
  obtain ⟨S, hS, h⟩ := h
  unfold Safe Prog.lift
  refine h.trans ?_
  iintro ⟨%f, H, Hk⟩
  iapply (wp_store Variants.none (c : Thread nD τ) none Set.univ (m := M) (r := r) (w := w) (Mk := Mk) (hx := hx) (hm := hm) (k := Prog.ret) (S := S) (f := f) ((M.setOn_access_subset r Mk).trans hS)) $$ H
  iintro H
  rw [wp_ret]
  imodintro
  iapply Hk; iexact H

theorem Safe.for {σ : Type} {l : Scf.Loop 32} {hok : l.OK} {init : σ} {body : Fin l.trips → σ → Prog (TpuEff nD τ sig Val Λ .tc) σ}
    (h : ∀ k a, Safe D c R (body k a)) : Safe D c R (Scf.Loop.for l hok init body) := by
  unfold Safe at *
  have := Scf.wp_for frame (wpE D Variants.none (c : Thread nD τ) none) Set.univ l.lb l.ub l.st hok init body
    (fun _ _ => R) h (Q := fun _ => R)
  refine .trans ?_ this
  iintro H
  isplitl [H]; · iexact H
  iintro %a H; iexact H

theorem Safe.dite {α : Type} {p : Prop} [Decidable p] {x : p → Prog (TpuEff nD τ sig Val Λ .tc) α}
    {y : ¬p → Prog (TpuEff nD τ sig Val Λ .tc) α} (hx : ∀ h, Safe D c R (x h)) (hy : ∀ h, Safe D c R (y h)) :
    Safe D c R (if h : p then x h else y h) := by
  split
  · exact hx _
  · exact hy _

theorem Safe.ite {α : Type} {p : Prop} [Decidable p] {x y : Prog (TpuEff nD τ sig Val Λ .tc) α}
    (hx : Safe D c R x) (hy : Safe D c R y) : Safe D c R (if p then x else y) := by
  split
  · exact hx
  · exact hy

/-! ## Owning a memref among other things -/

section Own

variable {P Q : Res nD τ sig Val} {sp : Space} {s : Shape} {e : EltTy} {M : Memref sig .tc sp s e}

/-- A memref owned at known contents can be read. -/
theorem Reads.owned {X : s.Idx → Val e} : Reads c (owns (c : Thread nD τ) M fullShare X) M := by
  refine ⟨M.view.set, subset_rfl, ?_⟩
  unfold owns
  iintro ⟨%f, %hf, H⟩
  iexists f
  isplitl [H]; · iexact H
  iintro H
  iexists f
  isplitr; · ipureintro; exact hf
  iexact H

/-- A memref owned at some contents can be written. -/
theorem Writes.owned : Writes c iprop(∃ X : s.Idx → Val e, owns (c : Thread nD τ) M fullShare X) M := by
  refine ⟨M.view.set, subset_rfl, ?_⟩
  unfold owns
  iintro ⟨%X, %f, %hf, H⟩
  iexists f
  isplitl [H]; · iexact H
  iintro %g H
  iexists _, g
  isplitr; swap; · iexact H
  ipureintro; rfl

/-- A whole buffer owned at some contents can be written. -/
theorem Writes.whole {b : Ref sig .tc} :
    Writes c iprop(∃ f : Buf Val ((c : Thread nD τ).loc b), ((c : Thread nD τ).loc b) ↦{fullShare} f) (Memref.whole b) := by
  have h := Writes.owned (τ := τ) (Val := Val) (c := c) (M := Memref.whole b)
  simp only [owns_whole] at h
  exact h

theorem Reads.left (h : Reads c P M) : Reads c iprop(P ∗ Q) M := by
  obtain ⟨S, hS, h⟩ := h
  refine ⟨S, hS, ?_⟩
  iintro ⟨HP, HQ⟩
  ihave H := h $$ HP
  icases H with ⟨%f, H, Hk⟩
  iexists f
  isplitl [H]; · iexact H
  iintro H
  isplitl [H Hk]
  · iapply Hk; iexact H
  iexact HQ

theorem Reads.right (h : Reads c Q M) : Reads c iprop(P ∗ Q) M := by
  obtain ⟨S, hS, h⟩ := h
  refine ⟨S, hS, ?_⟩
  iintro ⟨HP, HQ⟩
  ihave H := h $$ HQ
  icases H with ⟨%f, H, Hk⟩
  iexists f
  isplitl [H]; · iexact H
  iintro H
  isplitl [HP]; · iexact HP
  iapply Hk; iexact H

theorem Writes.left (h : Writes c P M) : Writes c iprop(P ∗ Q) M := by
  obtain ⟨S, hS, h⟩ := h
  refine ⟨S, hS, ?_⟩
  iintro ⟨HP, HQ⟩
  ihave H := h $$ HP
  icases H with ⟨%f, H, Hk⟩
  iexists f
  isplitl [H]; · iexact H
  iintro %g H
  isplitl [H Hk]
  · iapply Hk $$ %g; iexact H
  iexact HQ

theorem Writes.right (h : Writes c Q M) : Writes c iprop(P ∗ Q) M := by
  obtain ⟨S, hS, h⟩ := h
  refine ⟨S, hS, ?_⟩
  iintro ⟨HP, HQ⟩
  ihave H := h $$ HQ
  icases H with ⟨%f, H, Hk⟩
  iexists f
  isplitl [H]; · iexact H
  iintro %g H
  isplitl [HP]; · iexact HP
  iapply Hk $$ %g; iexact H

end Own

end Cert.Hand

end
-- ==== Proof.Windows.lean ====
/-
  The two windows of the attention kernel's text whose branches are followed by more text: the clearing of the scratch at
  the first point of a batch, and the choice of the radix selection's width by the number of visible key blocks.
-/
module

public import proofs.«01_k».proof.Kernel
public import proofs.«01_k».proof.Proof.Safe

@[expose] public section

-- the body is a few hundred windows of straight-line text, gone through in one proof
set_option maxRecDepth 100000
set_option maxHeartbeats 0

noncomputable section

namespace Cert.Kernel.Hand

open Cert.Hand Cert.Kernel
open Idealize.ShloMosaic Idealize.ShloMosaic.TcCoe Idealize.ShloMosaic.Tactic
open Idealize.SL Idealize.SL.RA Idealize.SL.BI

variable {F : FTy → Type} [BitOps F] [∀ e, Nonempty (Elt F e)] [Facts] {c : Dev nD} {R : Res nD τ sig (Elt F)}

/-- The first point of each batch clears its scratch and counts under a branch; the rest of the window follows on both sides. -/
theorem safe_part488 (i : grid0.Coords) (arg1 : BitVec 32) (v1 : BitVec 32) (v3 : BitVec 32) (v24 : BitVec 32) (v35 : BitVec 1) (v37 : BitVec 1)
    (arg2 : Memref sig .tc .vmem S1x8x128x128 .bf16) (harg2 : arg2.IsWhole)
    (arg3 : Memref sig .tc .vmem S1x8x128x256 .bf16) (harg3 : arg3.IsWhole)
    (arg4 : Memref sig .tc .vmem S8x128 .f32) (harg4 : arg4.IsWhole)
    (arg5 : Memref sig .tc .vmem S32x256x128 .bf16) (harg5 : arg5.IsWhole)
    (arg6 : Memref sig .tc .vmem S32x256x256 .bf16) (harg6 : arg6.IsWhole)
    (arg7 : Memref sig .tc .vmem S32x272x256 .bf16) (harg7 : arg7.IsWhole)
    (arg8 : Memref sig .tc .vmem S8x640x128 .f32) (harg8 : arg8.IsWhole)
    (arg9 : Memref sig .tc .vmem S1x1024 .f32) (harg9 : arg9.IsWhole)
    (arg10 : Memref sig .tc .vmem S8x64x256 .bf16) (harg10 : arg10.IsWhole)
    (arg11 : Memref sig .tc .vmem S128x512 .bf16) (harg11 : arg11.IsWhole)
    (arg12 : Memref sig .tc .vmem S2x32x256x128 .i32) (harg12 : arg12.IsWhole)
    (arg13 : Memref sig .tc .vmem S32x33x8x128 .i32) (harg13 : arg13.IsWhole)
    (arg14 : Memref sig .tc .vmem S33x8x128 .i32) (harg14 : arg14.IsWhole)
    (arg15 : Memref sig .tc .vmem S2x1x128 .i32) (harg15 : arg15.IsWhole)
    (arg16 : Memref sig .tc .vmem S4x272x256 .f32) (harg16 : arg16.IsWhole)
    (arg17 : Memref sig .tc .vmem S1x1024 .f32) (harg17 : arg17.IsWhole)
    (arg18 : Memref sig .tc .vmem S256x1152 .f32) (harg18 : arg18.IsWhole)
    (arg19 : Memref sig .tc .vmem S1x1 .f32) (harg19 : arg19.IsWhole)
    (arg20 : Memref sig .tc .vmem S4x128x256 .bf16) (harg20 : arg20.IsWhole)
    (arg21 : Memref sig .tc .vmem S4x256x256 .bf16) (harg21 : arg21.IsWhole)
    (h2 : Reads c R arg2)
    (h3 : Reads c R arg3)
    (h4 : Reads c R arg4)
    (h5 : Reads c R arg5)
    (h6 : Reads c R arg6)
    (h7 : Reads c R arg7)
    (h8 : Reads c R arg8)
    (h9 : Reads c R arg9)
    (h10 : Reads c R arg10)
    (w11 : Writes c R arg11)
    (w12 : Writes c R arg12)
    (w13 : Writes c R arg13)
    (w14 : Writes c R arg14)
    (w15 : Writes c R arg15)
    (w16 : Writes c R arg16)
    (w17 : Writes c R arg17)
    (w18 : Writes c R arg18)
    (w19 : Writes c R arg19)
    (w20 : Writes c R arg20)
    (w21 : Writes c R arg21) :
    Safe (defs₀ (F := F)) c R (k0_part488 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v1 v3 v24 v35 v37) := by
  have h11 := w11.reads
  have h12 := w12.reads
  have h13 := w13.reads
  have h14 := w14.reads
  have h15 := w15.reads
  have h16 := w16.reads
  have h17 := w17.reads
  have h18 := w18.reads
  have h19 := w19.reads
  have h20 := w20.reads
  have h21 := w21.reads
  unfold k0_part488
  repeat' (first
    | with_reducible exact Safe.load (by assumption)
    | with_reducible exact Safe.store (by assumption)
    | with_reducible exact Safe.pure _
    | with_reducible refine Safe.bind ?_ fun _ => ?_
    | with_reducible refine Safe.for fun _ _ => ?_
    | with_reducible refine Safe.dite (fun _ => ?_) (fun _ => ?_)
    | with_reducible refine Safe.ite ?_ ?_
    | refine Safe.bind ?_ fun _ => ?_
    | exact Safe.pure _
    -- what follows a branch stands before it, as a continuation both sides call
    | refine Safe.dite (fun _ => ?_) (fun _ => ?_))

/-- The radix selection's branch on how many blocks of keys a query may see: each side is gone through. -/

theorem safe_part495 (i : grid0.Coords) (v4 : BitVec 32) (v23 : BitVec 32) (v44 : IVec S256x128 32)
    (arg2 : Memref sig .tc .vmem S1x8x128x128 .bf16) (harg2 : arg2.IsWhole)
    (arg3 : Memref sig .tc .vmem S1x8x128x256 .bf16) (harg3 : arg3.IsWhole)
    (arg4 : Memref sig .tc .vmem S8x128 .f32) (harg4 : arg4.IsWhole)
    (arg5 : Memref sig .tc .vmem S32x256x128 .bf16) (harg5 : arg5.IsWhole)
    (arg6 : Memref sig .tc .vmem S32x256x256 .bf16) (harg6 : arg6.IsWhole)
    (arg7 : Memref sig .tc .vmem S32x272x256 .bf16) (harg7 : arg7.IsWhole)
    (arg8 : Memref sig .tc .vmem S8x640x128 .f32) (harg8 : arg8.IsWhole)
    (arg9 : Memref sig .tc .vmem S1x1024 .f32) (harg9 : arg9.IsWhole)
    (arg10 : Memref sig .tc .vmem S8x64x256 .bf16) (harg10 : arg10.IsWhole)
    (arg11 : Memref sig .tc .vmem S128x512 .bf16) (harg11 : arg11.IsWhole)
    (arg12 : Memref sig .tc .vmem S2x32x256x128 .i32) (harg12 : arg12.IsWhole)
    (arg13 : Memref sig .tc .vmem S32x33x8x128 .i32) (harg13 : arg13.IsWhole)
    (arg14 : Memref sig .tc .vmem S33x8x128 .i32) (harg14 : arg14.IsWhole)
    (arg15 : Memref sig .tc .vmem S2x1x128 .i32) (harg15 : arg15.IsWhole)
    (arg16 : Memref sig .tc .vmem S4x272x256 .f32) (harg16 : arg16.IsWhole)
    (arg17 : Memref sig .tc .vmem S1x1024 .f32) (harg17 : arg17.IsWhole)
    (arg18 : Memref sig .tc .vmem S256x1152 .f32) (harg18 : arg18.IsWhole)
    (arg19 : Memref sig .tc .vmem S1x1 .f32) (harg19 : arg19.IsWhole)
    (arg20 : Memref sig .tc .vmem S4x128x256 .bf16) (harg20 : arg20.IsWhole)
    (arg21 : Memref sig .tc .vmem S4x256x256 .bf16) (harg21 : arg21.IsWhole)
    (h2 : Reads c R arg2)
    (h3 : Reads c R arg3)
    (h4 : Reads c R arg4)
    (h5 : Reads c R arg5)
    (h6 : Reads c R arg6)
    (h7 : Reads c R arg7)
    (h8 : Reads c R arg8)
    (h9 : Reads c R arg9)
    (h10 : Reads c R arg10)
    (w11 : Writes c R arg11)
    (w12 : Writes c R arg12)
    (w13 : Writes c R arg13)
    (w14 : Writes c R arg14)
    (w15 : Writes c R arg15)
    (w16 : Writes c R arg16)
    (w17 : Writes c R arg17)
    (w18 : Writes c R arg18)
    (w19 : Writes c R arg19)
    (w20 : Writes c R arg20)
    (w21 : Writes c R arg21) :
    Safe (defs₀ (F := F)) c R (k0_part495 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v23 v44) := by
  have h11 := w11.reads
  have h12 := w12.reads
  have h13 := w13.reads
  have h14 := w14.reads
  have h15 := w15.reads
  have h16 := w16.reads
  have h17 := w17.reads
  have h18 := w18.reads
  have h19 := w19.reads
  have h20 := w20.reads
  have h21 := w21.reads
  unfold k0_part495
  repeat' (first
    | with_reducible exact Safe.load (by assumption)
    | with_reducible exact Safe.store (by assumption)
    | with_reducible exact Safe.pure _
    | with_reducible refine Safe.bind ?_ fun _ => ?_
    | with_reducible refine Safe.for fun _ _ => ?_
    | with_reducible refine Safe.dite (fun _ => ?_) (fun _ => ?_)
    | with_reducible refine Safe.ite ?_ ?_
    | refine Safe.bind ?_ fun _ => ?_
    | exact Safe.pure _
    -- what follows a branch stands before it, as a continuation both sides call
    | refine Safe.dite (fun _ => ?_) (fun _ => ?_))

end Cert.Kernel.Hand

end
-- ==== Proof.Body.lean ====
/-
  The attention kernel's body keeps whatever owns its operands: it loads from its nine staged inputs, stores into its one
  staged output and its ten scratch buffers, and does nothing else. What it computes is not looked at: every access is in
  bounds by a fact the printed program states beside it, every branch is gone through on both sides, and every counted
  loop has the one invariant that the operands are owned.
-/
module

public import proofs.«01_k».proof.Proof.Windows

@[expose] public section

-- the body is a few hundred windows of straight-line text, gone through in one proof
set_option maxRecDepth 100000
set_option maxHeartbeats 0

noncomputable section

namespace Cert.Kernel.Hand

open Cert.Hand Cert.Kernel
open Idealize.ShloMosaic Idealize.ShloMosaic.TcCoe Idealize.ShloMosaic.Tactic
open Idealize.SL Idealize.SL.RA Idealize.SL.BI

variable {F : FTy → Type} [BitOps F] [∀ e, Nonempty (Elt F e)] [Facts] {c : Dev nD} {R : Res nD τ sig (Elt F)}

/-- The body runs to its end from any resource that owns its operands, and hands it back. -/
theorem safe_dsa (i : grid0.Coords)
    (arg2 : Memref sig .tc .vmem S1x8x128x128 .bf16) (harg2 : arg2.IsWhole)
    (arg3 : Memref sig .tc .vmem S1x8x128x256 .bf16) (harg3 : arg3.IsWhole)
    (arg4 : Memref sig .tc .vmem S8x128 .f32) (harg4 : arg4.IsWhole)
    (arg5 : Memref sig .tc .vmem S32x256x128 .bf16) (harg5 : arg5.IsWhole)
    (arg6 : Memref sig .tc .vmem S32x256x256 .bf16) (harg6 : arg6.IsWhole)
    (arg7 : Memref sig .tc .vmem S32x272x256 .bf16) (harg7 : arg7.IsWhole)
    (arg8 : Memref sig .tc .vmem S8x640x128 .f32) (harg8 : arg8.IsWhole)
    (arg9 : Memref sig .tc .vmem S1x1024 .f32) (harg9 : arg9.IsWhole)
    (arg10 : Memref sig .tc .vmem S8x64x256 .bf16) (harg10 : arg10.IsWhole)
    (arg11 : Memref sig .tc .vmem S128x512 .bf16) (harg11 : arg11.IsWhole)
    (arg12 : Memref sig .tc .vmem S2x32x256x128 .i32) (harg12 : arg12.IsWhole)
    (arg13 : Memref sig .tc .vmem S32x33x8x128 .i32) (harg13 : arg13.IsWhole)
    (arg14 : Memref sig .tc .vmem S33x8x128 .i32) (harg14 : arg14.IsWhole)
    (arg15 : Memref sig .tc .vmem S2x1x128 .i32) (harg15 : arg15.IsWhole)
    (arg16 : Memref sig .tc .vmem S4x272x256 .f32) (harg16 : arg16.IsWhole)
    (arg17 : Memref sig .tc .vmem S1x1024 .f32) (harg17 : arg17.IsWhole)
    (arg18 : Memref sig .tc .vmem S256x1152 .f32) (harg18 : arg18.IsWhole)
    (arg19 : Memref sig .tc .vmem S1x1 .f32) (harg19 : arg19.IsWhole)
    (arg20 : Memref sig .tc .vmem S4x128x256 .bf16) (harg20 : arg20.IsWhole)
    (arg21 : Memref sig .tc .vmem S4x256x256 .bf16) (harg21 : arg21.IsWhole)
    (h2 : Reads c R arg2)
    (h3 : Reads c R arg3)
    (h4 : Reads c R arg4)
    (h5 : Reads c R arg5)
    (h6 : Reads c R arg6)
    (h7 : Reads c R arg7)
    (h8 : Reads c R arg8)
    (h9 : Reads c R arg9)
    (h10 : Reads c R arg10)
    (w11 : Writes c R arg11)
    (w12 : Writes c R arg12)
    (w13 : Writes c R arg13)
    (w14 : Writes c R arg14)
    (w15 : Writes c R arg15)
    (w16 : Writes c R arg16)
    (w17 : Writes c R arg17)
    (w18 : Writes c R arg18)
    (w19 : Writes c R arg19)
    (w20 : Writes c R arg20)
    (w21 : Writes c R arg21) :
    Safe (defs₀ (F := F)) c R (cc0_dsa i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21) := by
  have h11 := w11.reads
  have h12 := w12.reads
  have h13 := w13.reads
  have h14 := w14.reads
  have h15 := w15.reads
  have h16 := w16.reads
  have h17 := w17.reads
  have h18 := w18.reads
  have h19 := w19.reads
  have h20 := w20.reads
  have h21 := w21.reads
  unfold cc0_dsa
  repeat' (first
    | with_reducible exact Safe.load (by assumption)
    | with_reducible exact Safe.store (by assumption)
    | with_reducible exact Safe.pure _
    | with_reducible refine Safe.bind ?_ fun _ => ?_
    | with_reducible refine Safe.for fun _ _ => ?_
    | with_reducible refine Safe.dite (fun _ => ?_) (fun _ => ?_)
    | with_reducible refine Safe.ite ?_ ?_
    | (with_reducible apply safe_part488) <;> assumption
    | (with_reducible apply safe_part495) <;> assumption
    -- a window of the text is a definition of its own: a sequence, or a value and no access
    | refine Safe.bind ?_ fun _ => ?_
    | exact Safe.pure _)

end Cert.Kernel.Hand

end
-- ==== Proof.Attention.lean ====
/-
  The attention call's frame: it runs to its end from any memory with zero counters and leaves its arguments as they were
  and every counter at zero. The grid has 130 points; at each the body finds its nine inputs' blocks staged, and owns its
  output's staging buffer and its ten scratch buffers at some contents. `safe_dsa` takes it through its text from there.
  Nothing is said of what it leaves in the output or in the scratch.
-/
module

public import proofs.«01_k».proof.Proof.Body
public import proofs.«01_k».proof.Proof.Gen.Kernel.Frame
public import proofs.«01_k».proof.Defs

@[expose] public section

noncomputable section

namespace Cert.Kernel.Hand

open Cert.Hand Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

variable (m : (ℓ : Loc nD τ sig) → Buf (Elt F) ℓ) (ρ : Dev nD → PrngReg)

/-! ## The proof data -/

/-- The output's window is forgotten: nothing here reads what the body leaves in it. -/
def forgets0 : Fin 10 → Bool := fun w => w.val == 9

/-- Each input's buffer holds its block before and after every point; the output's is not named; between the points the
    scratch and the generator register are at some contents; nothing is owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => Pipeline.Dat.unnamed (cfg := cfg0) 9 t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`. -/
def bodyPre (c : Dev nD) (t : Fin cfg0.N) : Res nD τ sig (Elt F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare d))

/-- What it runs with and returns: the same, each input's contents named. -/
def held (c : Dev nD) (t : Fin cfg0.N) : Res nD τ sig (Elt F) :=
  iprop(Pipeline.ΦA spec0 c ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ (∃ d, owns (c : Thread nD τ) (win0_9.stage (cfg0.slots t 9)) fullShare d))

theorem bodyPre_held (c : Dev nD) (t : Fin cfg0.N) : bodyPre m c t ⊢ held m c t := by
  unfold bodyPre held
  rw [show (dats m 0 c).Φ t.castSucc = Pipeline.ΦA spec0 c from rfl]
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl)]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at the point. -/
theorem sound_body (c : Dev nD) (t : Fin cfg0.N) :
    bodyPre m c t ⊢ wp frame (wpE (defs₀ (F := F)) Variants.none (c : Thread nD τ) none) Set.univ (bodyAt0 t) (fun _ => held m c t) := by
  refine (bodyPre_held m c t).trans ?_
  have key : Safe (defs₀ (F := F)) c (held m c t) (bodyAt0 t) := by
    unfold bodyAt0 held
    rw [Pipeline.ΦA, scopedRest0_eq]
    refine safe_dsa _
      _ _
      _ _
      _ _
      _ _
      _ _
      _ _
      _ _
      _ _
      _ _
      _ _
      _ _
      _ _
      _ _
      _ _
      _ _
      _ _
      _ _
      _ _
      _ _
      _ _
      (.right (.right (.left .owned)))
      (.right (.right (.right (.left .owned))))
      (.right (.right (.right (.right (.left .owned)))))
      (.right (.right (.right (.right (.right (.left .owned))))))
      (.right (.right (.right (.right (.right (.right (.left .owned)))))))
      (.right (.right (.right (.right (.right (.right (.right (.left .owned))))))))
      (.right (.right (.right (.right (.right (.right (.right (.right (.left .owned)))))))))
      (.right (.right (.right (.right (.right (.right (.right (.right (.right (.left .owned))))))))))
      (.right (.right (.right (.right (.right (.right (.right (.right (.right (.right (.left .owned)))))))))))
      (.right (.right (.right (.right (.right (.right (.right (.right (.right (.right (.right (.owned))))))))))))
      (.left (.left (.left .whole)))
      (.left (.left (.right (.left .whole))))
      (.left (.left (.right (.right (.left .whole)))))
      (.left (.left (.right (.right (.right (.left .whole))))))
      (.left (.left (.right (.right (.right (.right (.left .whole)))))))
      (.left (.left (.right (.right (.right (.right (.right (.left .whole))))))))
      (.left (.left (.right (.right (.right (.right (.right (.right (.left .whole)))))))))
      (.left (.left (.right (.right (.right (.right (.right (.right (.right (.left .whole))))))))))
      (.left (.left (.right (.right (.right (.right (.right (.right (.right (.right (.left .whole)))))))))))
      (.left (.left (.right (.right (.right (.right (.right (.right (.right (.right (.right (.whole))))))))))))
  exact key

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the launch theorem's implicit arguments are found by unifying its conclusion with this statement, which unifies only
-- when unification may unfold plain definitions in a metavariable's type
set_option backward.isDefEq.respectTransparency.types false in
/-- Every weakly fair execution ends with every staged input and every array no window stages as the region found it, and
    every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The attention call's frame. -/
theorem frame_kernel : Cert.quiescent_Kernel := fun m ρ _ =>
  (θ_run defs _ _).mono (fun r h => ⟨fun c =>
    ⟨
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c))⟩, h.2⟩) (run_main (F := Bits) m ρ)

end Cert.Kernel.Hand

end
-- ==== Proof.FeedMath.lean ====
/-
  The one law of sums the feed-forward needs: a sum over the 2816 hidden channels is the sum of its eleven stretches of
  256. Addition of the extended reals is commutative and associative, so nothing is asked of the terms.
-/
module

public import Idealize.ShloMosaic.Lib.Pipeline.ValueKit

@[expose] public section

namespace Cert.FeedMath

/-- A sum of eleven terms, written out. -/
theorem sum_eleven {M : Type} [AddCommMonoid M] (g : Fin 11 → M) :
    ∑ j, g j = g 0 + g 1 + g 2 + g 3 + g 4 + g 5 + g 6 + g 7 + g 8 + g 9 + g 10 := by
  simp only [Fin.sum_univ_castSucc, Fin.sum_univ_zero, zero_add]
  rfl

/-- The eleven stretches of 256 in their order, each added to the sum of those before it. -/
theorem sum_stretches {M : Type} [AddCommMonoid M] (f : Fin 2816 → M) :
    ∑ k, f k = (∑ x : Fin 256, f ⟨x.val, by omega⟩) + (∑ x : Fin 256, f ⟨256 + x.val, by omega⟩)
      + (∑ x : Fin 256, f ⟨512 + x.val, by omega⟩) + (∑ x : Fin 256, f ⟨768 + x.val, by omega⟩)
      + (∑ x : Fin 256, f ⟨1024 + x.val, by omega⟩) + (∑ x : Fin 256, f ⟨1280 + x.val, by omega⟩)
      + (∑ x : Fin 256, f ⟨1536 + x.val, by omega⟩) + (∑ x : Fin 256, f ⟨1792 + x.val, by omega⟩)
      + (∑ x : Fin 256, f ⟨2048 + x.val, by omega⟩) + (∑ x : Fin 256, f ⟨2304 + x.val, by omega⟩)
      + (∑ x : Fin 256, f ⟨2560 + x.val, by omega⟩) := by
  have h := Fin.sum_univ_univ_mul_add 11 256 (fun n => if hn : n < 2816 then f ⟨n, hn⟩ else 0)
  have e : ∑ l : Fin (11 * 256), (if hn : l.val < 2816 then f ⟨l.val, hn⟩ else 0) = ∑ k, f k :=
    Finset.sum_congr rfl fun l _ => dif_pos l.isLt
  rw [← e, ← h]
  have s : ∀ j : Fin 11, (∑ k : Fin 256, if hn : j.val * 256 + k.val < 2816 then f ⟨j.val * 256 + k.val, hn⟩ else 0)
      = ∑ x : Fin 256, f ⟨j.val * 256 + x.val, by omega⟩ :=
    fun j => Finset.sum_congr rfl fun k _ => dif_pos (by omega)
  simp only [s]
  rw [sum_eleven]
  rfl

end Cert.FeedMath

end
-- ==== Proof.Feed.lean ====
/-
  The first feed-forward at the ideal instance. The reference is read at an index, the kernel's block at a grid point is
  read at an index, and the two are the same arithmetic once the sum over the hidden channels is cut into the kernel's
  eleven stretches (`FeedMath`).
-/
module

public import proofs.«01_k».proof.Defs
public import proofs.«01_k».proof.Proof.FeedMath
public import proofs.«01_k».proof.Proof.Gen.Kernel3Ideal.Value
public import proofs.«01_k».proof.Proof.Gen.Reference3Ideal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference3Ideal.Hand

open Cert.Reference3Ideal Cert.Reference3Ideal.Gen Cert.Reference3Ideal.Read

/-- The normalised and modulated row. -/
theorem modulated (x0 : Vec Ideal S2x8192x1024 .f32) (x1 : Vec Ideal S2x9216 .f32) (x2 : Vec Ideal S1x1024 .f32)
    (b : Fin 2) (s : Fin 8192) (k : Fin 1024) :
    val_main_v30 (F := Ideal) x0 x1 x2 (ix3 b s k) =
      x0 (ix3 b s k) * Ideal.rsqrt (Ideal.div (∑ x, x0 (ix3 b s x) * x0 (ix3 b s x)) (Ideal.ofBits FTy.f32 1149239296#32)
          + Ideal.ofBits FTy.f32 897988541#32) * x2 (ix2 0 k)
        * (1 + x1 (ix2 b ⟨1024 + k.val, by omega⟩)) + x1 (ix2 b ⟨k.val, by omega⟩) := by
  pointwise [val_main_v0, val_main_v1, val_main_v2, val_main_v3, val_main_v4, val_main_v5, val_main_v6, val_main_v7, val_main_v8,
    val_main_v9, val_main_v10, val_main_cst, val_main_v11, val_main_v12, val_main_cst_0, val_main_v13, val_main_v14,
    val_main_cst_1, val_main_v15, val_main_v16, val_main_v17, val_main_v18, val_main_v19, val_main_v20, val_main_v21,
    val_main_v22, val_main_v23, val_main_cst_2, val_main_v24, val_main_v25, val_main_v26, val_main_v27, val_main_v28,
    val_main_v29, val_main_v30]

/-- One hidden channel: the gated product of the two projections. -/
theorem hidden (x0 : Vec Ideal S2x8192x1024 .f32) (x1 : Vec Ideal S2x9216 .f32) (x2 : Vec Ideal S1x1024 .f32) (x3 x4 : Vec Ideal S1x1024x2816 .f32)
    (b : Fin 2) (s : Fin 8192) (k : Fin 2816) :
    val_main_v40 (F := Ideal) x0 x1 x2 x3 x4 (ix3 b s k) =
      (∑ x, val_main_v30 (F := Ideal) x0 x1 x2 (ix3 b s x) * x3 (ix3 0 x k))
        * Ideal.div 1 (1 + Ideal.exp (0 - ∑ x, val_main_v30 (F := Ideal) x0 x1 x2 (ix3 b s x) * x3 (ix3 0 x k)))
        * ∑ x, val_main_v30 (F := Ideal) x0 x1 x2 (ix3 b s x) * x4 (ix3 0 x k) := by
  pointwise [val_main_v31, val_main_cst_3, val_main_v32, val_main_v33, val_main_v34, val_main_v35, val_main_v36, val_main_v37,
    val_main_call0_v0, val_main_call0_v1, val_main_call0_cst, val_main_call0_v2, val_main_call0_v3,
    val_main_call0_cst_0, val_main_call0_v4, val_main_call0_v5, val_main_v38, val_main_v39, val_main_v40]
  simp only [zero_sub]

/-- The result: the input and half its gate times the output projection, cut into eleven stretches of hidden channels. -/
theorem result (x0 : Vec Ideal S2x8192x1024 .f32) (x1 : Vec Ideal S2x9216 .f32) (x2 : Vec Ideal S1x1024 .f32) (x3 x4 : Vec Ideal S1x1024x2816 .f32) (x5 : Vec Ideal S1x2816x1024 .f32)
    (r : Fin 16384) (l : Fin 1024) :
    val_main_v45 (F := Ideal) x0 x1 x2 x3 x4 x5 (ix2 r l) =
      x0 (ix3 ⟨r.val / 8192, by omega⟩ ⟨r.val % 8192, by omega⟩ l)
        + Ideal.ofBits FTy.f32 1056964608#32 * x1 (ix2 ⟨r.val / 8192, by omega⟩ ⟨2048 + l.val, by omega⟩)
          * ∑ x, val_main_v40 (F := Ideal) x0 x1 x2 x3 x4 (ix3 ⟨r.val / 8192, by omega⟩ ⟨r.val % 8192, by omega⟩ x)
              * x5 (ix3 0 x l) := by
  pointwise [val_main_v41, val_main_v42, val_main_v43, val_main_v44, val_main_v45, val_main_v33, val_main_v32, val_main_v31,
    val_main_v2, val_main_cst_3, val_main_v36]

end Cert.Reference3Ideal.Hand

namespace Cert.Kernel3Ideal.Hand

open Cert.Kernel3Ideal Cert.Kernel3Ideal.Gen Cert.Kernel3Ideal.Value

variable (m : (ℓ : Loc nD τ sig) → Buf (Elt Ideal) ℓ) (ρ : Dev nD → PrngReg)

/-- Which block of its array each window is on at a grid point. -/
theorem idx : ∀ t : Fin cfg0.N, win0_0.index t = ![t.val, 0] ∧ win0_1.index t = ![0, 0]
    ∧ win0_2.index t = ![t.val / 16, 0, 0] ∧ win0_3.index t = ![t.val / 16, 0, 0] ∧ win0_4.index t = ![t.val / 16, 0, 0]
    ∧ win0_5.index t = ![0, 0] ∧ win0_6.index t = ![0, 0] ∧ win0_7.index t = ![0, 0, 0] ∧ win0_9.index t = ![t.val, 0] :=
  (by decide +kernel : ∀ t : Fin grid0.N, _)

/-- The reference's result at the kernel's arguments. -/
abbrev goal (c : Dev nD) : S16384x1024.Idx → EReal :=
  Cert.Reference3Ideal.Read.val_main_v45 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The row of the whole array that row `y` of point `t`'s block is. -/
abbrev rowOf (t : Fin cfg0.N) (y : Fin 512) : Fin 16384 :=
  ⟨t.val * 512 + y.val, by have : t.val < 32 := t.isLt; omega⟩

/-- A row of the block is normalised and modulated as the reference's row of the whole array is. -/
theorem modulated (c : Dev nD) (t : Fin cfg0.N) (y : Fin 512) (k : Fin 1024) :
    k0_pay3 (F := Ideal) (iblk m c 0 t) (iblk m c 1 t) (iblk m c 3 t) (iblk m c 2 t) (ix2 y k) =
      Cert.Reference3Ideal.Read.val_main_v30 (F := Ideal) (m ((c : Thread nD τ).loc main_arg0)) (m ((c : Thread nD τ).loc main_arg1))
        (m ((c : Thread nD τ).loc main_arg2)) (ix3 ⟨(rowOf t y).val / 8192, by omega⟩ ⟨(rowOf t y).val % 8192, by omega⟩ k) := by
  rw [Cert.Reference3Ideal.Hand.modulated]
  pointwise [k0_pay3, k0_pay2]
  have ht : t.val < 32 := t.isLt
  blk_point [iblk, V, idx t]

/-- Where an element of point `t`'s output block lies in the whole array. -/
theorem place (t : Fin cfg0.N) (y : Fin 512) (l : Fin 1024) :
    ((View.whole main_v18).slice (win0_9.rect t)).emb (ix2 y l) = ix2 (rowOf t y) l := by
  funext a
  match a with
  | ⟨0, _⟩ => exact Fin.ext (by blk_simp [idx t])
  | ⟨1, _⟩ => exact Fin.ext (by blk_simp [idx t])

/-- The gate's input weights, resident in every point's block. -/
theorem read5 (c : Dev nD) (t : Fin cfg0.N) (k : Fin 1024) (f : Fin 2816) :
    iblk m c 5 t (ix2 k f) = m ((c : Thread nD τ).loc main_arg3) (ix3 0 k f) := by
  blk_ext! [iblk, V, idx t]

/-- The other input weights. -/
theorem read6 (c : Dev nD) (t : Fin cfg0.N) (k : Fin 1024) (f : Fin 2816) :
    iblk m c 6 t (ix2 k f) = m ((c : Thread nD τ).loc main_arg4) (ix3 0 k f) := by
  blk_ext! [iblk, V, idx t]

/-- The output weights, in stretches of 256 rows. -/
theorem read7 (c : Dev nD) (t : Fin cfg0.N) (j : Fin 11) (x : Fin 256) (l : Fin 1024) :
    iblk m c 7 t (ix3 j x l) = m ((c : Thread nD τ).loc main_arg5) (ix3 0 ⟨j.val * 256 + x.val, by omega⟩ l) := by
  blk_ext! [iblk, V, idx t]

/-- The residual input. -/
theorem read0 (c : Dev nD) (t : Fin cfg0.N) (y : Fin 512) (l : Fin 1024) :
    iblk m c 0 t (ix2 y l) = m ((c : Thread nD τ).loc main_arg0)
      (ix3 ⟨(rowOf t y).val / 8192, by omega⟩ ⟨(rowOf t y).val % 8192, by omega⟩ l) := by
  have ht : t.val < 32 := t.isLt
  blk_ext! [iblk, V, idx t]

/-- The residual's gate. -/
theorem read4 (c : Dev nD) (t : Fin cfg0.N) (y : Fin 512) (l : Fin 1024) :
    iblk m c 4 t (ix3 0 0 l) = m ((c : Thread nD τ).loc main_arg1)
      (ix2 ⟨(rowOf t y).val / 8192, by omega⟩ ⟨2048 + l.val, by omega⟩) := by
  have ht : t.val < 32 := t.isLt
  blk_ext! [iblk, V, idx t]

set_option maxHeartbeats 4000000 in
/-- The result array after the run is the reference's. -/
theorem final (c : Dev nD) : (dats m 0 c).arrAt 9 cfg0.N = goal m c := by
  refine (dats m 0 c).arrAt_eq_of_covers 9 _ (by decide +kernel) fun t hf y => ?_
  blk_simp
  rw [after0_9]
  unfold outsAt0
  frame_out
  idx_vars y
  rw [place]
  unfold goal
  rw [Cert.Reference3Ideal.Hand.result, Cert.FeedMath.sum_stretches]
  simp only [Cert.Reference3Ideal.Hand.hidden, ← modulated m c t]
  generalize k0_pay3 (iblk m c 0 t) (iblk m c 1 t) (iblk m c 3 t) (iblk m c 2 t) = h
  pointwise [k0_pay1, k0_pay2, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22]
  simp only [read0, read4 m c t y0, read5, read6, read7]
  rfl

end Cert.Kernel3Ideal.Hand

end
-- ==== Proof.FeedClaim.lean ====
/-
  The first feed-forward's value claim: run side by side, the kernel and the plain feed-forward end with one result.
-/
module

public import proofs.«01_k».proof.Proof.Feed

@[expose] public section

noncomputable section

open Idealize.ShloMosaic Idealize.ShloMosaic.TcCoe Idealize.SL.Sem

namespace Cert.Proof

theorem feed_algebraic : Cert.algebraic_Kernel3Ideal_Reference3Ideal := by
  pair_intro
  · run_from Cert.Kernel3Ideal.Value.run_blocks m g
  · run_from Cert.Reference3Ideal.Value.run m' g'
    obtain ⟨h0, h1, h2, h3, h4, h5, -⟩ := hagree c
    rw [Cert.Kernel3Ideal.Hand.final m c, Cert.Reference3Ideal.Read.val_main_v45_eq m' c]
    unfold Cert.Kernel3Ideal.Hand.goal
    rw [h0, h1, h2, h3, h4, h5]

end Cert.Proof

end
-- ==== Proof.FinalRef.lean ====
/-
  The reference of the second feed-forward, with the merge of the two branches before it and the final norm after it, read
  at an index, a stage at a time: the mixed branches, the joined residual, the modulated row, a hidden channel, the sum
  with the feed-forward's half, and the normalised result.
-/
module

public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference2Ideal.Hand

open Cert.Reference2Ideal Cert.Reference2Ideal.Gen Cert.Reference2Ideal.Read

variable (x0 : Vec Ideal S2x8192x1024 .f32) (x1 : Vec Ideal S2x9216 .f32) (x2 x3 : Vec Ideal S16384x512 .bf16)
  (x4 x5 : Vec Ideal S16384x1024 .f32) (x6 x7 : Vec Ideal S1x512x1024 .f32) (x8 : Vec Ideal S1x1024x1024 .f32)
  (x9 : Vec Ideal S1x1024 .f32) (x10 x11 : Vec Ideal S1x1024x2816 .f32) (x12 : Vec Ideal S1x2816x1024 .f32)
  (x13 : Vec Ideal S1024 .f32)

/-- The two branches' outputs, projected and mixed by their gates. -/
theorem mixed (b : Fin 2) (s : Fin 8192) (k : Fin 1024) :
    val_main_v33 (F := Ideal) x2 x3 x4 x5 x6 x7 (ix3 b s k) =
      Ideal.div 1 (1 + Ideal.exp (0 - x4 (ix2 ⟨b.val * 8192 + s.val, by omega⟩ k)))
          * (∑ x, x2 (ix2 ⟨b.val * 8192 + s.val, by omega⟩ x) * x6 (ix3 0 x k))
        + Ideal.div 1 (1 + Ideal.exp (0 - x5 (ix2 ⟨b.val * 8192 + s.val, by omega⟩ k)))
          * ∑ x, x3 (ix2 ⟨b.val * 8192 + s.val, by omega⟩ x) * x7 (ix3 0 x k) := by
  pointwise [val_main_v0, val_main_v1, val_main_v2, val_main_v3, val_main_v4, val_main_v5, val_main_v15, val_main_v16, val_main_cst,
    val_main_v17, val_main_v18, val_main_cst_0, val_main_v19, val_main_v20, val_main_v21, val_main_v22, val_main_v23,
    val_main_v24, val_main_v25, val_main_cst_1, val_main_v26, val_main_v27, val_main_cst_2, val_main_v28, val_main_v29,
    val_main_v30, val_main_v31, val_main_v32, val_main_v33]
  simp only [zero_sub]

/-- The residual joined by the gated output projection of the mixed branches. -/
theorem joined (b : Fin 2) (s : Fin 8192) (k : Fin 1024) :
    val_main_v39 (F := Ideal) x0 x1 x2 x3 x4 x5 x6 x7 x8 (ix3 b s k) =
      x0 (ix3 b s k) + x1 (ix2 b ⟨5120 + k.val, by omega⟩)
        * ∑ x, val_main_v33 (F := Ideal) x2 x3 x4 x5 x6 x7 (ix3 b s x) * x8 (ix3 0 x k) := by
  pointwise [val_main_v11, val_main_v34, val_main_v35, val_main_v36, val_main_v37, val_main_v38, val_main_v39]

/-- The joined row, normalised and modulated. -/
theorem modulated (b : Fin 2) (s : Fin 8192) (k : Fin 1024) :
    val_main_v61 (F := Ideal) x0 x1 x2 x3 x4 x5 x6 x7 x8 x9 (ix3 b s k) =
      val_main_v39 (F := Ideal) x0 x1 x2 x3 x4 x5 x6 x7 x8 (ix3 b s k)
          * Ideal.rsqrt (Ideal.div (∑ x, val_main_v39 (F := Ideal) x0 x1 x2 x3 x4 x5 x6 x7 x8 (ix3 b s x)
                * val_main_v39 (F := Ideal) x0 x1 x2 x3 x4 x5 x6 x7 x8 (ix3 b s x)) (Ideal.ofBits FTy.f32 1149239296#32)
              + Ideal.ofBits FTy.f32 897988541#32) * x9 (ix2 0 k)
        * (1 + x1 (ix2 b ⟨7168 + k.val, by omega⟩)) + x1 (ix2 b ⟨6144 + k.val, by omega⟩) := by
  pointwise [val_main_v12, val_main_v13, val_main_v40, val_main_v41, val_main_cst_3, val_main_v42, val_main_v43, val_main_cst_4,
    val_main_v44, val_main_v45, val_main_cst_5, val_main_v46, val_main_v47, val_main_v48, val_main_v49, val_main_v50,
    val_main_v51, val_main_v52, val_main_v53, val_main_v54, val_main_cst_6, val_main_v55, val_main_v56, val_main_v57,
    val_main_v58, val_main_v59, val_main_v60, val_main_v61]

/-- One hidden channel: the gated product of the two projections. -/
theorem hidden (b : Fin 2) (s : Fin 8192) (k : Fin 2816) :
    val_main_v71 (F := Ideal) x0 x1 x2 x3 x4 x5 x6 x7 x8 x9 x10 x11 (ix3 b s k) =
      (∑ x, val_main_v61 (F := Ideal) x0 x1 x2 x3 x4 x5 x6 x7 x8 x9 (ix3 b s x) * x10 (ix3 0 x k))
        * Ideal.div 1 (1 + Ideal.exp (0 - ∑ x, val_main_v61 (F := Ideal) x0 x1 x2 x3 x4 x5 x6 x7 x8 x9 (ix3 b s x)
            * x10 (ix3 0 x k)))
        * ∑ x, val_main_v61 (F := Ideal) x0 x1 x2 x3 x4 x5 x6 x7 x8 x9 (ix3 b s x) * x11 (ix3 0 x k) := by
  pointwise [val_main_v65, val_main_v66, val_main_v68, val_main_call0_v0, val_main_call0_v1, val_main_call0_cst,
    val_main_call0_v2, val_main_call0_v3, val_main_call0_cst_0, val_main_call0_v4, val_main_call0_v5, val_main_v69,
    val_main_v70, val_main_v71]
  simp only [zero_sub]

/-- The joined row and half its gate times the output projection of the hidden channels. -/
theorem summed (b : Fin 2) (s : Fin 8192) (l : Fin 1024) :
    val_main_v75 (F := Ideal) x0 x1 x2 x3 x4 x5 x6 x7 x8 x9 x10 x11 x12 (ix3 b s l) =
      val_main_v39 (F := Ideal) x0 x1 x2 x3 x4 x5 x6 x7 x8 (ix3 b s l)
        + Ideal.ofBits FTy.f32 1056964608#32 * x1 (ix2 b ⟨8192 + l.val, by omega⟩)
          * ∑ x, val_main_v71 (F := Ideal) x0 x1 x2 x3 x4 x5 x6 x7 x8 x9 x10 x11 (ix3 b s x) * x12 (ix3 0 x l) := by
  pointwise [val_main_v14, val_main_v62, val_main_cst_7, val_main_v63, val_main_v64, val_main_v67, val_main_v72,
    val_main_v73, val_main_v74, val_main_v75]

/-- The result: that sum, normalised with the final gain. -/
theorem result (r : Fin 16384) (l : Fin 1024) :
    val_main_v89 (F := Ideal) x0 x1 x2 x3 x4 x5 x6 x7 x8 x9 x10 x11 x12 x13 (ix2 r l) =
      val_main_v75 (F := Ideal) x0 x1 x2 x3 x4 x5 x6 x7 x8 x9 x10 x11 x12
          (ix3 ⟨r.val / 8192, by omega⟩ ⟨r.val % 8192, by omega⟩ l)
        * Ideal.rsqrt (Ideal.div (∑ x, val_main_v75 (F := Ideal) x0 x1 x2 x3 x4 x5 x6 x7 x8 x9 x10 x11 x12
              (ix3 ⟨r.val / 8192, by omega⟩ ⟨r.val % 8192, by omega⟩ x)
            * val_main_v75 (F := Ideal) x0 x1 x2 x3 x4 x5 x6 x7 x8 x9 x10 x11 x12
              (ix3 ⟨r.val / 8192, by omega⟩ ⟨r.val % 8192, by omega⟩ x)) (Ideal.ofBits FTy.f32 1149239296#32)
          + Ideal.ofBits FTy.f32 897988541#32) * x13 (ix1 l) := by
  pointwise [val_main_v76, val_main_cst_8, val_main_v77, val_main_v78, val_main_cst_9, val_main_v79, val_main_v80,
    val_main_cst_10, val_main_v81, val_main_v82, val_main_v83, val_main_v84, val_main_v85, val_main_v86, val_main_v87,
    val_main_v88, val_main_v89]

end Cert.Reference2Ideal.Hand

end
-- ==== Proof.Final.lean ====
/-
  The second feed-forward with the branches' merge and the final norm, at the ideal instance. The kernel's block at a grid
  point is read at an index a stage at a time, each stage is the reference's (`FinalRef`) at the row of the whole array, and
  the sum over the hidden channels is cut into the kernel's eleven stretches (`FeedMath`).
-/
module

public import proofs.«01_k».proof.Defs
public import proofs.«01_k».proof.Proof.FeedMath
public import proofs.«01_k».proof.Proof.FinalRef
public import proofs.«01_k».proof.Proof.Gen.Kernel2Ideal.Value
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen Cert.Kernel2Ideal.Value
open Cert.Reference2Ideal.Read (val_main_v33 val_main_v39 val_main_v61 val_main_v71 val_main_v75 val_main_v89)

variable (m : (ℓ : Loc nD τ sig) → Buf (Elt Ideal) ℓ) (ρ : Dev nD → PrngReg)

/-- Which block of its array each window is on at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val / 16, 0, 0]
    ∧ win0_6.index t = ![0, 0] ∧ win0_7.index t = ![0, 0] ∧ win0_8.index t = ![0, 0] ∧ win0_9.index t = ![0, 0]
    ∧ win0_10.index t = ![t.val / 16, 0, 0] ∧ win0_11.index t = ![t.val / 16, 0, 0] ∧ win0_12.index t = ![t.val / 16, 0, 0]
    ∧ win0_13.index t = ![0, 0] ∧ win0_14.index t = ![0, 0] ∧ win0_15.index t = ![0, 0, 0] ∧ win0_16.index t = ![0, 0]
    ∧ win0_17.index t = ![t.val, 0] :=
  (by decide +kernel : ∀ t : Fin grid0.N, _)

/-- The reference's result at the kernel's arguments. -/
abbrev goal (c : Dev nD) : S16384x1024.Idx → EReal :=
  val_main_v89 (F := Ideal)
    (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) (m ((c : Thread nD τ).loc main_arg7)) (m ((c :
      Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc
      main_arg13))

/-- The row of the whole array that row `y` of point `t`'s block is. -/
abbrev rowOf (t : Fin cfg0.N) (y : Fin 512) : Fin 16384 :=
  ⟨t.val * 512 + y.val, by have : t.val < 32 := t.isLt; omega⟩

/-- The block's mixed branches are the reference's. -/
theorem mixed (c : Dev nD) (t : Fin cfg0.N) (y : Fin 512) (k : Fin 1024) :
    k0_pay4 (F := Ideal) (iblk m c 1 t) (iblk m c 6 t) (iblk m c 2 t) (iblk m c 7 t) (iblk m c 3 t) (iblk m c 4 t) (ix2 y k) =
      val_main_v33 (F := Ideal)
        (m ((c : Thread nD τ).loc main_arg2)) (m ((c : Thread nD τ).loc main_arg3)) (m ((c : Thread nD τ).loc
          main_arg4)) (m ((c : Thread nD τ).loc main_arg5)) (m ((c : Thread nD τ).loc main_arg6)) (m ((c :
          Thread nD τ).loc main_arg7)) (ix3 ⟨(rowOf t y).val / 8192, by omega⟩ ⟨(rowOf t y).val % 8192, by
          omega⟩ k) := by
  rw [Cert.Reference2Ideal.Hand.mixed]
  pointwise [k0_pay4]
  have ht : t.val < 32 := t.isLt
  blk_point [iblk, V, idx t]

/-- The block's joined residual is the reference's. -/
theorem joined (c : Dev nD) (t : Fin cfg0.N) (y : Fin 512) (k : Fin 1024) :
    k0_pay5 (F := Ideal)
        (k0_pay2 (iblk m c 0 t)) (k0_pay3 (iblk m c 5 t)) (k0_pay4 (iblk m c 1 t) (iblk m c 6 t) (iblk m c 2 t)
          (iblk m c 7 t) (iblk m c 3 t) (iblk m c 4 t)) (iblk m c 8 t) (ix2 y k) =
      val_main_v39 (F := Ideal)
        (m ((c : Thread nD τ).loc main_arg0)) (m ((c : Thread nD τ).loc main_arg1)) (m ((c : Thread nD τ).loc
          main_arg2)) (m ((c : Thread nD τ).loc main_arg3)) (m ((c : Thread nD τ).loc main_arg4)) (m ((c :
          Thread nD τ).loc main_arg5)) (m ((c : Thread nD τ).loc main_arg6)) (m ((c : Thread nD τ).loc
          main_arg7)) (m ((c : Thread nD τ).loc main_arg8)) (ix3 ⟨(rowOf t y).val / 8192, by omega⟩ ⟨(rowOf t
          y).val % 8192, by omega⟩ k) := by
  rw [Cert.Reference2Ideal.Hand.joined]
  simp only [← mixed m c t]
  generalize k0_pay4 (F := Ideal) (iblk m c 1 t) (iblk m c 6 t) (iblk m c 2 t) (iblk m c 7 t) (iblk m c 3 t) (iblk m c 4 t) = h
  pointwise [k0_pay5, k0_pay2, k0_pay3]
  have ht : t.val < 32 := t.isLt
  blk_point [iblk, V, idx t]

/-- The block's normalised and modulated row is the reference's. -/
theorem modulated (c : Dev nD) (t : Fin cfg0.N) (y : Fin 512) (k : Fin 1024) :
    k0_pay6 (F := Ideal)
        (k0_pay2 (iblk m c 0 t)) (k0_pay3 (iblk m c 5 t)) (k0_pay4 (iblk m c 1 t) (iblk m c 6 t) (iblk m c 2 t)
          (iblk m c 7 t) (iblk m c 3 t) (iblk m c 4 t)) (iblk m c 8 t) (iblk m c 9 t) (iblk m c 11 t) (iblk m c
          10 t) (ix2 y k) =
      val_main_v61 (F := Ideal)
        (m ((c : Thread nD τ).loc main_arg0)) (m ((c : Thread nD τ).loc main_arg1)) (m ((c : Thread nD τ).loc
          main_arg2)) (m ((c : Thread nD τ).loc main_arg3)) (m ((c : Thread nD τ).loc main_arg4)) (m ((c :
          Thread nD τ).loc main_arg5)) (m ((c : Thread nD τ).loc main_arg6)) (m ((c : Thread nD τ).loc
          main_arg7)) (m ((c : Thread nD τ).loc main_arg8)) (m ((c : Thread nD τ).loc main_arg9)) (ix3 ⟨(rowOf t
          y).val / 8192, by omega⟩ ⟨(rowOf t y).val % 8192, by omega⟩ k) := by
  rw [Cert.Reference2Ideal.Hand.modulated]
  simp only [← joined m c t]
  unfold k0_pay6
  generalize k0_pay5 (F := Ideal)
    (k0_pay2 (iblk m c 0 t)) (k0_pay3 (iblk m c 5 t)) (k0_pay4 (iblk m c 1 t) (iblk m c 6 t) (iblk m c 2 t)
      (iblk m c 7 t) (iblk m c 3 t) (iblk m c 4 t)) (iblk m c 8 t) = h
  pointwise []
  have ht : t.val < 32 := t.isLt
  blk_point [iblk, V, idx t]

/-- Where an element of point `t`'s output block lies in the whole array. -/
theorem place (t : Fin cfg0.N) (y : Fin 512) (l : Fin 1024) :
    ((View.whole main_v26).slice (win0_17.rect t)).emb (ix2 y l) = ix2 (rowOf t y) l := by
  funext a
  match a with
  | ⟨0, _⟩ => exact Fin.ext (by blk_simp [idx t])
  | ⟨1, _⟩ => exact Fin.ext (by blk_simp [idx t])

/-- The gate's input weights, resident in every point's block. -/
theorem read13 (c : Dev nD) (t : Fin cfg0.N) (k : Fin 1024) (f : Fin 2816) :
    iblk m c 13 t (ix2 k f) = m ((c : Thread nD τ).loc main_arg10) (ix3 0 k f) := by
  blk_ext! [iblk, V, idx t]

/-- The other input weights. -/
theorem read14 (c : Dev nD) (t : Fin cfg0.N) (k : Fin 1024) (f : Fin 2816) :
    iblk m c 14 t (ix2 k f) = m ((c : Thread nD τ).loc main_arg11) (ix3 0 k f) := by
  blk_ext! [iblk, V, idx t]

/-- The output weights, in stretches of 256 rows. -/
theorem read15 (c : Dev nD) (t : Fin cfg0.N) (j : Fin 11) (x : Fin 256) (l : Fin 1024) :
    iblk m c 15 t (ix3 j x l) = m ((c : Thread nD τ).loc main_arg12) (ix3 0 ⟨j.val * 256 + x.val, by omega⟩ l) := by
  blk_ext! [iblk, V, idx t]

/-- The residual's gate. -/
theorem read12 (c : Dev nD) (t : Fin cfg0.N) (y : Fin 512) (l : Fin 1024) :
    iblk m c 12 t (ix3 0 0 l) = m ((c : Thread nD τ).loc main_arg1)
      (ix2 ⟨(rowOf t y).val / 8192, by omega⟩ ⟨8192 + l.val, by omega⟩) := by
  have ht : t.val < 32 := t.isLt
  blk_ext! [iblk, V, idx t]

/-- The final gain. -/
theorem read16 (c : Dev nD) (t : Fin cfg0.N) (l : Fin 1024) :
    iblk m c 16 t (ix2 0 l) = m ((c : Thread nD τ).loc main_arg13) (ix1 l) := by
  blk_ext! [iblk, V, idx t]

set_option maxHeartbeats 4000000 in
/-- The result array after the run is the reference's. -/
theorem final (c : Dev nD) : (dats m 0 c).arrAt 17 cfg0.N = goal m c := by
  refine (dats m 0 c).arrAt_eq_of_covers 17 _ (by decide +kernel) fun t hf y => ?_
  blk_simp
  rw [after0_17]
  unfold outsAt0
  frame_out
  idx_vars y
  rw [place]
  unfold goal
  rw [Cert.Reference2Ideal.Hand.result]
  generalize hA : k0_pay25 (F := Ideal) _ _ _ _ _ = A
  have key : ∀ l : Fin 1024, A (ix2 y0 l) = ∑ x, val_main_v71 (F := Ideal)
      (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread
        nD τ).loc main_arg5)) (m ((c : Thread nD τ).loc main_arg6)) (m ((c : Thread nD τ).loc main_arg7)) (m ((c
        : Thread nD τ).loc main_arg8)) (m ((c : Thread nD τ).loc main_arg9)) (m ((c : Thread nD τ).loc
        main_arg10)) (m ((c : Thread nD τ).loc main_arg11)) (ix3 ⟨(rowOf t y0).val / 8192, by omega⟩ ⟨(rowOf t
        y0).val % 8192, by omega⟩ x)
      * m ((c : Thread nD τ).loc main_arg12) (ix3 0 x l) := by
    intro l
    rw [← hA, Cert.FeedMath.sum_stretches]
    simp only [Cert.Reference2Ideal.Hand.hidden, ← modulated m c t]
    generalize k0_pay6 (F := Ideal)
      (k0_pay2 (iblk m c 0 t)) (k0_pay3 (iblk m c 5 t)) (k0_pay4 (iblk m c 1 t) (iblk m c 6 t) (iblk m c 2 t)
        (iblk m c 7 t) (iblk m c 3 t) (iblk m c 4 t)) (iblk m c 8 t) (iblk m c 9 t) (iblk m c 11 t) (iblk m c 10
        t) = h
    pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
    simp only [read13, read14, read15]
    rfl
  simp only [Cert.Reference2Ideal.Hand.summed, ← key, ← joined m c t]
  unfold k0_pay1
  generalize k0_pay5 (F := Ideal)
    (k0_pay2 (iblk m c 0 t)) (k0_pay3 (iblk m c 5 t)) (k0_pay4 (iblk m c 1 t) (iblk m c 6 t) (iblk m c 2 t)
      (iblk m c 7 t) (iblk m c 3 t) (iblk m c 4 t)) (iblk m c 8 t) = h
  pointwise []
  simp only [read12 m c t y0, read16]

end Cert.Kernel2Ideal.Hand

end
-- ==== Proof.FinalClaim.lean ====
/-
  The second feed-forward's value claim: run side by side, the kernel and the plain computation end with one result.
-/
module

public import proofs.«01_k».proof.Proof.Final

@[expose] public section

noncomputable section

open Idealize.ShloMosaic Idealize.ShloMosaic.TcCoe Idealize.SL.Sem

namespace Cert.Proof

theorem final_algebraic : Cert.algebraic_Kernel2Ideal_Reference2Ideal := by
  pair_intro
  · run_from Cert.Kernel2Ideal.Value.run_blocks m g
  · run_from Cert.Reference2Ideal.Value.run m' g'
    obtain ⟨h0, h1, h2, h3, h4, h5, h6, h7, h8, h9, h10, h11, h12, h13⟩ := hagree c
    rw [Cert.Kernel2Ideal.Hand.final m c, Cert.Reference2Ideal.Read.val_main_v89_eq m' c]
    unfold Cert.Kernel2Ideal.Hand.goal
    rw [h0, h1, h2, h3, h4, h5, h6, h7, h8, h9, h10, h11, h12, h13]

end Cert.Proof

end
-- ==== Proof.MixPack.lean ====
/-
  The packed weights of the input projection as a function of the one weight matrix, and where each stretch of their columns
  comes from.
-/
module

public import proofs.«01_k».proof.Proof.Gen.Kernel4Ideal.Launch
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen

/-- The weight matrix's columns, without its leading unit axis. -/
def cols (w : Vec Ideal S1x1024x5456 .f32) : Vec Ideal S1024x5456 .f32 :=
  shapeCast S1024x5456 w shapeCasts_S1x1024x5456_S1024x5456

/-- Sixteen narrow columns (the indexer's weights, the input and the forget gates) side by side. -/
def narrow (w : Vec Ideal S1x1024x5456 .f32) : Vec Ideal S1024x16 .f32 :=
  concatenate S1024x16 1 [⟨S1024x8, extractStridedSlice S1024x8 ![0, 1344] (cols w) slices_S1024x5456_S1024x8_0_1344⟩,
    ⟨S1024x4, extractStridedSlice S1024x4 ![0, 2888] (cols w) slices_S1024x5456_S1024x4_0_2888⟩,
    ⟨S1024x4, extractStridedSlice S1024x4 ![0, 2892] (cols w) slices_S1024x5456_S1024x4_0_2892⟩]
    concatenates_S1024x8_S1024x4_S1024x4_S1024x16_d1

/-- The indexer's query columns, each head's 64 padded to 128. -/
def wide (w : Vec Ideal S1x1024x5456 .f32) : Vec Ideal S1024x1024 .f32 :=
  shapeCast S1024x1024 (pad S1024x8x128 ![0, 0, 0] ![0, 0, 64] ![0, 0, 0]
    (shapeCast S1024x8x64 (extractStridedSlice S1024x512 ![0, 768] (cols w) slices_S1024x5456_S1024x512_0_768)
      shapeCasts_S1024x512_S1024x8x64) (sitofp (F := Ideal) .f32 (constantI S_ 32 0#32))
    pads_S1024x8x64_S1024x8x128_000_000_0640 h_S_) shapeCasts_S1024x8x128_S1024x1024

/-- The packed weights as a function of the weight matrix. -/
def packed (w : Vec Ideal S1x1024x5456 .f32) : Vec Ideal S1024x6144 .f32 :=
  concatenate S1024x6144 1 [⟨S1024x512, extractStridedSlice S1024x512 ![0, 0] (cols w) slices_S1024x5456_S1024x512_0_0⟩,
    ⟨S1024x256, extractStridedSlice S1024x256 ![0, 512] (cols w) slices_S1024x5456_S1024x256_0_512⟩,
    ⟨S1024x1024, wide w⟩,
    ⟨S1024x128, pad S1024x128 ![0, 0] ![0, 64] ![0, 0]
      (extractStridedSlice S1024x64 ![0, 1280] (cols w) slices_S1024x5456_S1024x64_0_1280)
      (sitofp (F := Ideal) .f32 (constantI S_ 32 0#32)) pads_S1024x64_S1024x128_000_0640 h_S_⟩,
    ⟨S1024x128, pad S1024x128 ![0, 0] ![0, 112] ![0, 0] (narrow w)
      (sitofp (F := Ideal) .f32 (constantI S_ 32 0#32)) pads_S1024x16_S1024x128_000_01120 h_S_⟩,
    ⟨S1024x512, extractStridedSlice S1024x512 ![0, 1352] (cols w) slices_S1024x5456_S1024x512_0_1352⟩,
    ⟨S1024x512, extractStridedSlice S1024x512 ![0, 1864] (cols w) slices_S1024x5456_S1024x512_0_1864⟩,
    ⟨S1024x512, extractStridedSlice S1024x512 ![0, 2376] (cols w) slices_S1024x5456_S1024x512_0_2376⟩,
    ⟨S1024x512, extractStridedSlice S1024x512 ![0, 2896] (cols w) slices_S1024x5456_S1024x512_0_2896⟩,
    ⟨S1024x1024, extractStridedSlice S1024x1024 ![0, 3408] (cols w) slices_S1024x5456_S1024x1024_0_3408⟩,
    ⟨S1024x1024, extractStridedSlice S1024x1024 ![0, 4432] (cols w) slices_S1024x5456_S1024x1024_0_4432⟩]
    concatenates_S1024x512_S1024x256_S1024x1024_S1024x128_S1024x128_S1024x512_S1024x512_S1024x512_S1024x512_S1024x1024_S1024x1024_S1024x6144_d1

/-- Off the axis the pieces are joined along, a piece's index is the whole's. -/
theorem off_axis {n : Nat} (k : Fin 1024) (l : Fin n) (i : Fin 6144) :
    ∀ b : Fin (⟨2, ![1024, n]⟩ : Shape).rank, b.cast (rfl : (⟨2, ![1024, n]⟩ : Shape).rank = S1024x6144.rank) ≠ 1 →
      ((ix2 k l : (⟨2, ![1024, n]⟩ : Shape).Idx) b).val = ((ix2 k i : S1024x6144.Idx) (b.cast rfl)).val
  | ⟨0, _⟩, _ => rfl
  | ⟨1, _⟩, h => absurd rfl h

/-- The attention's query columns. -/
theorem packed_qa (w : Vec Ideal S1x1024x5456 .f32) (k : Fin 1024) (l : Fin 512) (i : Fin 6144) (hi : i.val = 0 + l.val) :
    packed w (ix2 k i) = w (ix3 0 k ⟨l.val, by omega⟩) := by
  refine Eq.trans (concatenate_apply_piece (t := S1024x6144) 1 _ _ _ 0 (by simp) S1024x512 _ rfl rfl 0 rfl (ix2 k l)
    (off_axis k l i) hi.symm) ?_
  pointwise [cols]

/-- The latent key columns. -/
theorem packed_ckv (w : Vec Ideal S1x1024x5456 .f32) (k : Fin 1024) (l : Fin 256) (i : Fin 6144) (hi : i.val = 512 + l.val) :
    packed w (ix2 k i) = w (ix3 0 k ⟨512 + l.val, by omega⟩) := by
  refine Eq.trans (concatenate_apply_piece (t := S1024x6144) 1 _ _ _ 1 (by simp) S1024x256 _ rfl rfl 512 rfl (ix2 k l)
    (off_axis k l i) hi.symm) ?_
  pointwise [cols]

/-- A whole number zero, as the paddings convert it, is zero. -/
theorem converted_zero : (FloatOps.sitofp FTy.f32 (0#32 : BitVec 32) : Ideal .f32) = 0 := by
  show (((0#32 : BitVec 32).toInt : ℝ) : EReal) = 0
  simp

/-- The indexer's query columns at a head's lane: the head's column, or nothing in the padding. -/
theorem wide_apply (w : Vec Ideal S1x1024x5456 .f32) (k : Fin 1024) (h : Fin 8) (l : Fin 128) :
    wide w (ix2 k ⟨h.val * 128 + l.val, by omega⟩) =
      if hl : l.val < 64 then w (ix3 0 k ⟨768 + (h.val * 64 + l.val), by omega⟩) else 0 := by
  pointwise [wide, cols]
  by_cases hl : l.val < 64
  · rw [dif_pos hl, dif_pos hl]
  · rw [dif_neg hl, dif_neg hl]
    exact converted_zero

/-- The indexer's query columns. -/
theorem packed_qi (w : Vec Ideal S1x1024x5456 .f32) (k : Fin 1024) (l : Fin 1024) (i : Fin 6144) (hi : i.val = 768 + l.val) :
    packed w (ix2 k i) = wide w (ix2 k l) := by
  refine Eq.trans (concatenate_apply_piece (t := S1024x6144) 1 _ _ _ 2 (by simp) S1024x1024 _ rfl rfl 768 rfl (ix2 k l)
    (off_axis k l i) hi.symm) ?_
  rfl

/-- The indexer's key columns, then padding. -/
theorem packed_ki (w : Vec Ideal S1x1024x5456 .f32) (k : Fin 1024) (l : Fin 128) (i : Fin 6144) (hi : i.val = 1792 + l.val) :
    packed w (ix2 k i) = if hl : l.val < 64 then w (ix3 0 k ⟨1280 + l.val, by omega⟩) else 0 := by
  refine Eq.trans (concatenate_apply_piece (t := S1024x6144) 1 _ _ _ 3 (by simp) S1024x128 _ rfl rfl 1792 rfl (ix2 k l)
    (off_axis k l i) hi.symm) ?_
  pointwise [cols]
  by_cases hl : l.val < 64
  · rw [dif_pos hl, dif_pos hl]
  · rw [dif_neg hl, dif_neg hl]
    exact converted_zero

/-- The sixteen narrow columns: first the indexer's weights. -/
theorem narrow_w (w : Vec Ideal S1x1024x5456 .f32) (k : Fin 1024) (l : Fin 8) :
    narrow w (ix2 k ⟨l.val, by omega⟩) = w (ix3 0 k ⟨1344 + l.val, by omega⟩) := by
  pointwise [narrow, cols]

/-- Then the input and the forget gates. -/
theorem narrow_if (w : Vec Ideal S1x1024x5456 .f32) (k : Fin 1024) (l : Fin 8) :
    narrow w (ix2 k ⟨8 + l.val, by omega⟩) = w (ix3 0 k ⟨2888 + l.val, by omega⟩) := by
  pointwise [narrow, cols]
  split
  · rfl
  · congr 3
    omega

/-- The narrow columns, at one of the sixteen that are no padding. -/
theorem packed_sm (w : Vec Ideal S1x1024x5456 .f32) (k : Fin 1024) (l : Fin 128) (i : Fin 6144) (hi : i.val = 1920 + l.val) :
    packed w (ix2 k i) = if hl : l.val < 16 then narrow w (ix2 k ⟨l.val, hl⟩) else 0 := by
  refine Eq.trans (concatenate_apply_piece (t := S1024x6144) 1 _ _ _ 4 (by simp) S1024x128 _ rfl rfl 1920 rfl (ix2 k l)
    (off_axis k l i) hi.symm) ?_
  pointwise
  by_cases hl : l.val < 16
  · rw [dif_pos hl, dif_pos hl]
  · rw [dif_neg hl, dif_neg hl]
    exact converted_zero

/-- The matrix memory's values. -/
theorem packed_v (w : Vec Ideal S1x1024x5456 .f32) (k : Fin 1024) (l : Fin 512) (i : Fin 6144) (hi : i.val = 3072 + l.val) :
    packed w (ix2 k i) = w (ix3 0 k ⟨2376 + l.val, by omega⟩) := by
  refine Eq.trans (concatenate_apply_piece (t := S1024x6144) 1 _ _ _ 7 (by simp) S1024x512 _ rfl rfl 3072 rfl (ix2 k l)
    (off_axis k l i) hi.symm) ?_
  pointwise [cols]

/-- The matrix memory's output gate. -/
theorem packed_o (w : Vec Ideal S1x1024x5456 .f32) (k : Fin 1024) (l : Fin 512) (i : Fin 6144) (hi : i.val = 3584 + l.val) :
    packed w (ix2 k i) = w (ix3 0 k ⟨2896 + l.val, by omega⟩) := by
  refine Eq.trans (concatenate_apply_piece (t := S1024x6144) 1 _ _ _ 8 (by simp) S1024x512 _ rfl rfl 3584 rfl (ix2 k l)
    (off_axis k l i) hi.symm) ?_
  pointwise [cols]

/-- The attention branch's merge gate. -/
theorem packed_ga (w : Vec Ideal S1x1024x5456 .f32) (k : Fin 1024) (l : Fin 1024) (i : Fin 6144) (hi : i.val = 4096 + l.val) :
    packed w (ix2 k i) = w (ix3 0 k ⟨3408 + l.val, by omega⟩) := by
  refine Eq.trans (concatenate_apply_piece (t := S1024x6144) 1 _ _ _ 9 (by simp) S1024x1024 _ rfl rfl 4096 rfl (ix2 k l)
    (off_axis k l i) hi.symm) ?_
  pointwise [cols]

set_option maxHeartbeats 1000000 in
/-- The matrix memory branch's merge gate. -/
theorem packed_gm (w : Vec Ideal S1x1024x5456 .f32) (k : Fin 1024) (l : Fin 1024) (i : Fin 6144) (hi : i.val = 5120 + l.val) :
    packed w (ix2 k i) = w (ix3 0 k ⟨4432 + l.val, by omega⟩) := by
  refine Eq.trans (concatenate_apply_piece (t := S1024x6144) 1 _ _ _ 10 (by simp) S1024x1024 _ rfl rfl 5120 rfl (ix2 k l)
    (off_axis k l i) hi.symm) ?_
  pointwise [cols]

end Cert.Kernel4Ideal.Hand

end
-- ==== Proof.MixWeights.lean ====
/-
  The packed weights as the host leaves them for the kernel of the input projection.
-/
module

public import proofs.«01_k».proof.Proof.Gen.Kernel4Ideal.Frame.Runs
public import proofs.«01_k».proof.Proof.MixPack
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen

variable (m : (ℓ : Loc nD τ sig) → Buf (Elt Ideal) ℓ)

set_option maxHeartbeats 2000000 in
/-- The host's packing of the weight matrix, rounded. -/
theorem entry_weights (c : Dev nD) (j : S1024x6144.Idx) :
    V m c main_v42 j = packed (m ((c : Thread nD τ).loc main_arg3)) j := by
  after_reads_simp
  rfl

end Cert.Kernel4Ideal.Hand

end
-- ==== Proof.MixRef.lean ====
/-
  The reference of the input projection read at an index, a stage at a time: the normalised and modulated row, the
  projection of it onto all columns, and each result as a function of the projection.
-/
module

public import proofs.«01_k».proof.Proof.Gen.Reference4Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference4Ideal.Hand

open Cert.Reference4Ideal Cert.Reference4Ideal.Gen Cert.Reference4Ideal.Read

variable (x0 : Vec Ideal S2x8192x1024 .f32) (x1 : Vec Ideal S2x9216 .f32) (x2 : Vec Ideal S1x1024 .f32)
  (x3 : Vec Ideal S1x1024x5456 .f32) (x6 : Vec Ideal S1x256 .f32) (x7 : Vec Ideal S1x8x256x64 .f32)

/-- The normalised and modulated row. -/
theorem modulated (b : Fin 2) (s : Fin 8192) (k : Fin 1024) :
    val_main_v30 (F := Ideal) x0 x1 x2 (ix3 b s k) =
      x0 (ix3 b s k) * Ideal.rsqrt (Ideal.div (∑ x, x0 (ix3 b s x) * x0 (ix3 b s x)) (Ideal.ofBits FTy.f32 1149239296#32)
          + Ideal.ofBits FTy.f32 897988541#32) * x2 (ix2 0 k)
        * (1 + x1 (ix2 b ⟨4096 + k.val, by omega⟩)) + x1 (ix2 b ⟨3072 + k.val, by omega⟩) := by
  pointwise [val_main_v3, val_main_v4, val_main_v9, val_main_v10, val_main_cst, val_main_v11, val_main_v12, val_main_cst_0,
    val_main_v13, val_main_v14, val_main_cst_1, val_main_v15, val_main_v16, val_main_v17, val_main_v18, val_main_v19,
    val_main_v20, val_main_v21, val_main_v22, val_main_v23, val_main_cst_2, val_main_v24, val_main_v25, val_main_v26,
    val_main_v27, val_main_v28, val_main_v29, val_main_v30]

/-- The projection of the row onto one of the 5456 columns. -/
theorem projected (b : Fin 2) (s : Fin 8192) (l : Fin 5456) :
    val_main_v32 (F := Ideal) x0 x1 x2 x3 (ix3 b s l) =
      ∑ k, val_main_v30 (F := Ideal) x0 x1 x2 (ix3 b s k) * x3 (ix3 0 k l) := by
  pointwise [val_main_v31, val_main_v32]

/-- The matrix memory's values. -/
theorem result_v (r : Fin 16384) (l : Fin 512) :
    val_main_v87 (F := Ideal) x0 x1 x2 x3 (ix2 r l) =
      val_main_v32 (F := Ideal) x0 x1 x2 x3 (ix3 ⟨r.val / 8192, by omega⟩ ⟨r.val % 8192, by omega⟩ ⟨2376 + l.val, by omega⟩) := by
  pointwise [val_main_v40, val_main_v86, val_main_v87]

/-- The matrix memory's output gate. -/
theorem result_o (r : Fin 16384) (l : Fin 512) :
    val_main_v88 (F := Ideal) x0 x1 x2 x3 (ix2 r l) =
      val_main_v32 (F := Ideal) x0 x1 x2 x3 (ix3 ⟨r.val / 8192, by omega⟩ ⟨r.val % 8192, by omega⟩ ⟨2896 + l.val, by omega⟩) := by
  pointwise [val_main_v43, val_main_v88]

/-- The attention branch's merge gate. -/
theorem result_ga (r : Fin 16384) (l : Fin 1024) :
    val_main_v89 (F := Ideal) x0 x1 x2 x3 (ix2 r l) =
      val_main_v32 (F := Ideal) x0 x1 x2 x3 (ix3 ⟨r.val / 8192, by omega⟩ ⟨r.val % 8192, by omega⟩ ⟨3408 + l.val, by omega⟩) := by
  pointwise [val_main_v44, val_main_v89]

/-- The matrix memory branch's merge gate. -/
theorem result_gm (r : Fin 16384) (l : Fin 1024) :
    val_main_v90 (F := Ideal) x0 x1 x2 x3 (ix2 r l) =
      val_main_v32 (F := Ideal) x0 x1 x2 x3 (ix3 ⟨r.val / 8192, by omega⟩ ⟨r.val % 8192, by omega⟩ ⟨4432 + l.val, by omega⟩) := by
  pointwise [val_main_v45, val_main_v90]

/-- The matrix memory's input and forget gates, transposed. -/
theorem result_ift (j : Fin 8) (r : Fin 16384) :
    val_main_v79 (F := Ideal) x0 x1 x2 x3 (ix2 j r) =
      val_main_v32 (F := Ideal) x0 x1 x2 x3 (ix3 ⟨r.val / 8192, by omega⟩ ⟨r.val % 8192, by omega⟩ ⟨2888 + j.val, by omega⟩) := by
  pointwise [val_main_v41, val_main_v42, val_main_v77, val_main_v78, val_main_v79]
  split
  · rfl
  · congr 3; omega

/-- The indexer's weights, scaled and transposed. -/
theorem result_w (j : Fin 8) (r : Fin 16384) :
    val_main_v62 (F := Ideal) x0 x1 x2 x3 (ix2 j r) =
      val_main_v32 (F := Ideal) x0 x1 x2 x3 (ix3 ⟨r.val / 8192, by omega⟩ ⟨r.val % 8192, by omega⟩ ⟨1344 + j.val, by omega⟩)
        * Ideal.ofBits FTy.f32 0x3D3504F3#32 := by
  pointwise [val_main_v37, val_main_cst_5, val_main_v59, val_main_v60, val_main_v61, val_main_v62]

/-- A whole number zero, as the paddings convert it, is zero. -/
theorem converted_zero : (FloatOps.sitofp FTy.f32 (0#32 : BitVec 32) : Ideal .f32) = 0 := by
  show (((0#32 : BitVec 32).toInt : ℝ) : EReal) = 0
  simp

/-- A row of 64 padded to 128 at an index. -/
theorem padded_k (f : Vec Ideal S2x8192x64 .f32) (b : Fin 2) (s : Fin 8192) (l : Fin 128) :
    pad S2x8192x128 ![0, 0, 0] ![0, 0, 64] ![0, 0, 0] f (val_main_call1_v0 (F := Ideal))
        pads_S2x8192x64_S2x8192x128_000_000_0640 h_S_ (ix3 b s l)
      = if h : l.val < 64 then f (ix3 b s ⟨l.val, h⟩) else 0 := by
  pointwise [val_main_c_4, val_main_call1_v0]
  by_cases hl : l.val < 64
  · rw [dif_pos hl, dif_pos hl]
  · rw [dif_neg hl, dif_neg hl]
    exact converted_zero

/-- Eight rows of 64, each padded to 128, at an index. -/
theorem padded_q (f : Vec Ideal S2x8192x8x64 .f32) (b : Fin 2) (s : Fin 8192) (h : Fin 8) (l : Fin 128) :
    pad S2x8192x8x128 ![0, 0, 0, 0] ![0, 0, 0, 64] ![0, 0, 0, 0] f (val_main_call0_v0 (F := Ideal))
        pads_S2x8192x8x64_S2x8192x8x128_000_000_000_0640 h_S_ (ix4 b s h l)
      = if hl : l.val < 64 then f (ix4 b s h ⟨l.val, hl⟩) else 0 := by
  pointwise [val_main_c, val_main_call0_v0]
  by_cases hl : l.val < 64
  · rw [dif_pos hl, dif_pos hl]
  · rw [dif_neg hl, dif_neg hl]
    exact converted_zero

/-- The indexer's keys, padded to 128 lanes. -/
theorem result_k (r : Fin 16384) (l : Fin 128) :
    val_main_v83 (F := Ideal) x0 x1 x2 x3 (ix2 r l) =
      if h : l.val < 64 then
        val_main_v32 (F := Ideal) x0 x1 x2 x3 (ix3 ⟨r.val / 8192, by omega⟩ ⟨r.val % 8192, by omega⟩ ⟨1280 + l.val, by omega⟩)
      else 0 := by
  pointwise [val_main_v82, val_main_v83]
  refine (padded_k _ _ _ _).trans ?_
  pointwise [val_main_v36]

/-- The indexer's queries, padded to 128 lanes. -/
theorem result_q (n : Fin 128) (h : Fin 8) (y l : Fin 128) :
    val_main_v81 (F := Ideal) x0 x1 x2 x3 (ix4 n h y l) =
      if hl : l.val < 64 then
        val_main_v32 (F := Ideal) x0 x1 x2 x3 (ix3 ⟨n.val / 64, by omega⟩
          ⟨n.val % 64 * 128 + y.val, by omega⟩ ⟨768 + (h.val * 64 + l.val), by omega⟩)
      else 0 := by
  pointwise [val_main_v56, val_main_v57, val_main_v81]
  refine (padded_q _ _ _ _ _).trans ?_
  pointwise [val_main_v35, val_main_v54]

/-- The latent keys: the projection normalised with their own gain. -/
theorem result_ckv (r : Fin 16384) (l : Fin 256) :
    val_main_v85 (F := Ideal) x0 x1 x2 x3 x6 (ix2 r l) =
      val_main_v34 (F := Ideal) x0 x1 x2 x3 (ix3 ⟨r.val / 8192, by omega⟩ ⟨r.val % 8192, by omega⟩ l)
        * Ideal.rsqrt (Ideal.div (∑ x, val_main_v34 (F := Ideal) x0 x1 x2 x3 (ix3 ⟨r.val / 8192, by omega⟩ ⟨r.val % 8192, by omega⟩ x)
              * val_main_v34 (F := Ideal) x0 x1 x2 x3 (ix3 ⟨r.val / 8192, by omega⟩ ⟨r.val % 8192, by omega⟩ x))
            (Ideal.ofBits FTy.f32 1132462080#32)
          + Ideal.ofBits FTy.f32 897988541#32) * x6 (ix2 0 l) := by
  pointwise [val_main_v63, val_main_v64, val_main_cst_6, val_main_v65, val_main_v66, val_main_cst_7, val_main_v67, val_main_v68,
    val_main_cst_8, val_main_v69, val_main_v70, val_main_v71, val_main_v72, val_main_v73, val_main_v74, val_main_v75,
    val_main_v76, val_main_v84, val_main_v85]

/-- The latent keys' columns of the projection. -/
theorem latent (b : Fin 2) (s : Fin 8192) (l : Fin 256) :
    val_main_v34 (F := Ideal) x0 x1 x2 x3 (ix3 b s l) =
      val_main_v32 (F := Ideal) x0 x1 x2 x3 (ix3 b s ⟨512 + l.val, by omega⟩) := by
  pointwise [val_main_v34]

/-- The absorbed queries: each head's query against its latent keys, scaled. -/
theorem result_qabs (n : Fin 128) (h : Fin 8) (y : Fin 128) (l : Fin 256) :
    val_main_v80 (F := Ideal) x0 x1 x2 x3 x7 (ix4 n h y l) =
      (∑ d : Fin 64, x7 (ix4 0 h l d) * val_main_v32 (F := Ideal) x0 x1 x2 x3 (ix3 ⟨n.val / 64, by omega⟩
          ⟨n.val % 64 * 128 + y.val, by omega⟩ ⟨h.val * 64 + d.val, by omega⟩))
        * Ideal.ofBits FTy.f32 0x3E38AA3B#32 := by
  pointwise [val_main_v33, val_main_v46, val_main_v47, val_main_v48, val_main_v49, val_main_cst_3, val_main_v50, val_main_v51,
    val_main_v52, val_main_v53, val_main_v80]

end Cert.Reference4Ideal.Hand

end
-- ==== Proof.MixRead.lean ====
/-
  What the input projection's kernel reads at a grid point: its block of the rows, the modulation of the sequence the block
  lies in, and the packed weights, stretch by stretch, as columns of the one weight matrix.
-/
module

public import proofs.«01_k».proof.Proof.Gen.Kernel4Ideal.Frame.Runs
public import proofs.«01_k».proof.Proof.MixWeights
public import proofs.«01_k».proof.Proof.MixRef
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen

variable (m : (ℓ : Loc nD τ sig) → Buf (Elt Ideal) ℓ)

/-- Which block of its array each window is on at a grid point. -/
theorem idx : ∀ t : Fin cfg0.N, win0_0.index t = ![t.val, 0] ∧ win0_1.index t = ![0, 0]
    ∧ win0_2.index t = ![t.val / 16, 0, 0] ∧ win0_3.index t = ![t.val / 16, 0, 0] ∧ win0_4.index t = ![0, 0]
    ∧ win0_5.index t = ![0, 0] ∧ win0_6.index t = ![0, 0, 0] ∧ win0_7.index t = ![0, 0] ∧ win0_8.index t = ![0, 0]
    ∧ win0_9.index t = ![t.val, 0, 0, 0] ∧ win0_10.index t = ![t.val, 0, 0, 0] ∧ win0_11.index t = ![t.val, 0]
    ∧ win0_12.index t = ![t.val, 0] ∧ win0_14.index t = ![0, t.val] ∧ win0_15.index t = ![0, t.val]
    ∧ win0_16.index t = ![t.val, 0] ∧ win0_17.index t = ![t.val, 0] ∧ win0_18.index t = ![t.val, 0]
    ∧ win0_19.index t = ![t.val, 0] ∧ win0_20.index t = ![t.val, 0] :=
  (by decide +kernel : ∀ t : Fin grid0.N, _)

/-- The rows, flattened over the batch. -/
theorem entry_x (c : Dev nD) (r : Fin 16384) (l : Fin 1024) :
    V m c main_v0 (ix2 r l) = m ((c : Thread nD τ).loc main_arg0)
      (ix3 ⟨r.val / 8192, by omega⟩ ⟨r.val % 8192, by omega⟩ l) := by
  after_reads_simp
  pointwise

/-- The normalisation's gain. -/
theorem entry_gain (c : Dev nD) (l : Fin 1024) :
    V m c main_v46 (ix2 0 l) = m ((c : Thread nD τ).loc main_arg2) (ix2 0 l) := by
  after_reads_simp
  pointwise

/-- The modulation's shift. -/
theorem entry_shift (c : Dev nD) (b : Fin 2) (l : Fin 1024) :
    V m c main_v3 (ix3 b 0 l) = m ((c : Thread nD τ).loc main_arg1) (ix2 b ⟨3072 + l.val, by omega⟩) := by
  after_reads_simp
  pointwise

/-- The modulation's scale. -/
theorem entry_scale (c : Dev nD) (b : Fin 2) (l : Fin 1024) :
    V m c main_v5 (ix3 b 0 l) = m ((c : Thread nD τ).loc main_arg1) (ix2 b ⟨4096 + l.val, by omega⟩) := by
  after_reads_simp
  pointwise

/-- The latent keys' gain. -/
theorem entry_kvn (c : Dev nD) (l : Fin 256) :
    V m c main_v47 (ix2 0 l) = m ((c : Thread nD τ).loc main_arg6) (ix2 0 l) := by
  after_reads_simp
  pointwise

/-- The absorbing weights, two heads to a tile: each head's 64 rows meet its own 256 columns, the other quarters are zero. -/
theorem entry_u (c : Dev nD) (g : Fin 4) (p : Fin 128) (q : Fin 512) :
    V m c main_v19 (ix3 g p q) =
      if hp : p.val < 64 then
        if hq : q.val < 256 then m ((c : Thread nD τ).loc main_arg7) (ix4 0 ⟨g.val * 2, by omega⟩ ⟨q.val, hq⟩ ⟨p.val, hp⟩) else (0 : Ideal .f32)
      else
        if hq : q.val < 256 then (0 : Ideal .f32)
        else m ((c : Thread nD τ).loc main_arg7) (ix4 0 ⟨g.val * 2 + 1, by omega⟩ ⟨q.val - 256, by omega⟩ ⟨p.val - 64, by omega⟩) := by
  after_reads_simp
  pointwise
  after_reads_simp
  pointwise

/-- The row of the whole array that row `y` of point `t`'s block is. -/
abbrev rowOf (t : Fin cfg0.N) (y : Fin 512) : Fin 16384 :=
  ⟨t.val * 512 + y.val, by have : t.val < 32 := t.isLt; omega⟩

/-- The block of rows at a grid point. -/
theorem read0 (c : Dev nD) (t : Fin cfg0.N) (y : Fin 512) (l : Fin 1024) :
    iblk m c 0 t (ix2 y l) = m ((c : Thread nD τ).loc main_arg0)
      (ix3 ⟨(rowOf t y).val / 8192, by omega⟩ ⟨(rowOf t y).val % 8192, by omega⟩ l) := by
  have he : ((View.whole main_v0).slice (win0_0.rect t)).emb (ix2 y l) = ix2 (rowOf t y) l := by
    funext a
    match a with
    | ⟨0, _⟩ => exact Fin.ext (by blk_simp [idx t])
    | ⟨1, _⟩ => exact Fin.ext (by blk_simp [idx t])
  blk_simp [iblk]
  rw [he, entry_x]

/-- The gain, resident. -/
theorem read1 (c : Dev nD) (t : Fin cfg0.N) (l : Fin 1024) :
    iblk m c 1 t (ix2 0 l) = m ((c : Thread nD τ).loc main_arg2) (ix2 0 l) := by
  have he : ((View.whole main_v46).slice (win0_1.rect t)).emb (ix2 0 l) = ix2 0 l := by
    funext a
    match a with
    | ⟨0, _⟩ => exact Fin.ext (by blk_simp [idx t])
    | ⟨1, _⟩ => exact Fin.ext (by blk_simp [idx t])
  blk_simp [iblk]
  rw [he, entry_gain]

/-- The shift of the batch row a block lies in. -/
theorem read2 (c : Dev nD) (t : Fin cfg0.N) (y : Fin 512) (l : Fin 1024) :
    iblk m c 2 t (ix3 0 0 l) = m ((c : Thread nD τ).loc main_arg1)
      (ix2 ⟨(rowOf t y).val / 8192, by omega⟩ ⟨3072 + l.val, by omega⟩) := by
  have ht : t.val < 32 := t.isLt
  have he : ((View.whole main_v3).slice (win0_2.rect t)).emb (ix3 0 0 l) = ix3 ⟨(rowOf t y).val / 8192, by omega⟩ 0 l := by
    funext a
    match a with
    | ⟨0, _⟩ =>
      refine Fin.ext ?_
      blk_simp [idx t]
      show t.val / 16 + 0 = (t.val * 512 + y.val) / 8192
      omega
    | ⟨1, _⟩ => exact Fin.ext (by blk_simp [idx t])
    | ⟨2, _⟩ => exact Fin.ext (by blk_simp [idx t])
  blk_simp [iblk]
  rw [he, entry_shift]

/-- The scale of the batch row a block lies in. -/
theorem read3 (c : Dev nD) (t : Fin cfg0.N) (y : Fin 512) (l : Fin 1024) :
    iblk m c 3 t (ix3 0 0 l) = m ((c : Thread nD τ).loc main_arg1)
      (ix2 ⟨(rowOf t y).val / 8192, by omega⟩ ⟨4096 + l.val, by omega⟩) := by
  have ht : t.val < 32 := t.isLt
  have he : ((View.whole main_v5).slice (win0_3.rect t)).emb (ix3 0 0 l) = ix3 ⟨(rowOf t y).val / 8192, by omega⟩ 0 l := by
    funext a
    match a with
    | ⟨0, _⟩ =>
      refine Fin.ext ?_
      blk_simp [idx t]
      show t.val / 16 + 0 = (t.val * 512 + y.val) / 8192
      omega
    | ⟨1, _⟩ => exact Fin.ext (by blk_simp [idx t])
    | ⟨2, _⟩ => exact Fin.ext (by blk_simp [idx t])
  blk_simp [iblk]
  rw [he, entry_scale]

/-- The latent keys' gain, resident. -/
theorem read5 (c : Dev nD) (t : Fin cfg0.N) (l : Fin 256) :
    iblk m c 5 t (ix2 0 l) = m ((c : Thread nD τ).loc main_arg6) (ix2 0 l) := by
  have he : ((View.whole main_v47).slice (win0_5.rect t)).emb (ix2 0 l) = ix2 0 l := by
    funext a
    match a with
    | ⟨0, _⟩ => exact Fin.ext (by blk_simp [idx t])
    | ⟨1, _⟩ => exact Fin.ext (by blk_simp [idx t])
  blk_simp [iblk]
  rw [he, entry_kvn]

/-- The absorbing weights, resident. -/
theorem read6 (c : Dev nD) (t : Fin cfg0.N) (g : Fin 4) (p : Fin 128) (q : Fin 512) :
    iblk m c 6 t (ix3 g p q) = V m c main_v19 (ix3 g p q) := by
  have he : ((View.whole main_v19).slice (win0_6.rect t)).emb (ix3 g p q) = ix3 g p q := by
    funext a
    match a with
    | ⟨0, _⟩ => exact Fin.ext (by blk_simp [idx t])
    | ⟨1, _⟩ => exact Fin.ext (by blk_simp [idx t])
    | ⟨2, _⟩ => exact Fin.ext (by blk_simp [idx t])
  blk_simp [iblk]
  rw [he]

/-- The packed weights as the kernel finds them: every grid point reads the whole of them. -/
theorem weights (c : Dev nD) (t : Fin cfg0.N) (k : Fin 1024) (i : Fin 6144) :
    iblk m c 4 t (ix2 k i) = packed (m ((c : Thread nD τ).loc main_arg3)) (ix2 k i) := by
  have he : ((View.whole main_v42).slice (win0_4.rect t)).emb (ix2 k i) = ix2 k i := by
    funext a
    match a with
    | ⟨0, _⟩ => exact Fin.ext (by blk_simp [idx t])
    | ⟨1, _⟩ => exact Fin.ext (by blk_simp [idx t])
  blk_simp [iblk]
  rw [he, entry_weights]

/-- The reference's normalised and modulated row, at the kernel's arguments. -/
abbrev row (c : Dev nD) (r : Fin 16384) (k : Fin 1024) : EReal :=
  Cert.Reference4Ideal.Read.val_main_v30 (F := Ideal) (m ((c : Thread nD τ).loc main_arg0)) (m ((c : Thread nD τ).loc main_arg1))
    (m ((c : Thread nD τ).loc main_arg2)) (ix3 ⟨r.val / 8192, by omega⟩ ⟨r.val % 8192, by omega⟩ k)

/-- A row of the block is normalised and modulated as the reference's row of the whole array is. -/
theorem modulated (c : Dev nD) (t : Fin cfg0.N) (y : Fin 512) (k : Fin 1024) :
    k0_pay6 (F := Ideal) (k0_pay5 (F := Ideal) (iblk m c 0 t) (iblk m c 1 t) (iblk m c 3 t)) (iblk m c 2 t) (ix2 y k) =
      row m c (rowOf t y) k := by
  unfold row
  rw [Cert.Reference4Ideal.Hand.modulated]
  pointwise [k0_pay6, k0_pay5]
  simp only [read0, read1, read2 m c t y, read3 m c t y]

/-- The reference's projection of a row onto a column is the sum over the packed weights' column that holds it. -/
theorem project (c : Dev nD) (r : Fin 16384) (l : Fin 5456) :
    Cert.Reference4Ideal.Read.val_main_v32 (F := Ideal) (m ((c : Thread nD τ).loc main_arg0)) (m ((c : Thread nD τ).loc main_arg1))
        (m ((c : Thread nD τ).loc main_arg2)) (m ((c : Thread nD τ).loc main_arg3))
        (ix3 ⟨r.val / 8192, by omega⟩ ⟨r.val % 8192, by omega⟩ l)
      = ∑ k, row m c r k * m ((c : Thread nD τ).loc main_arg3) (ix3 0 k l) := by
  rw [Cert.Reference4Ideal.Hand.projected]

end Cert.Kernel4Ideal.Hand

end
-- ==== Proof.MixCols.lean ====
/-
  The input projection's kernel at a grid point: its normalised row against one column of the packed weights is the
  reference's projection onto the column that was packed there, and nothing against a column of the padding.
-/
module

public import proofs.«01_k».proof.Defs
public import proofs.«01_k».proof.Proof.MixRead

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen

variable (m : (ℓ : Loc nD τ sig) → Buf (Elt Ideal) ℓ)

/-- The row against a column of the packed weights that holds a column of the weight matrix. -/
theorem column (c : Dev nD) (t : Fin cfg0.N) (y : Fin 512) (i : Fin 6144) (l : Fin 5456)
    (hw : ∀ k, packed (m ((c : Thread nD τ).loc main_arg3)) (ix2 k i) = m ((c : Thread nD τ).loc main_arg3) (ix3 0 k l)) :
    (∑ k : Fin 1024, k0_pay6 (F := Ideal) (k0_pay5 (iblk m c 0 t) (iblk m c 1 t) (iblk m c 3 t)) (iblk m c 2 t) (ix2 y k)
        * iblk m c 4 t (ix2 k i) : EReal)
      = Cert.Reference4Ideal.Read.val_main_v32 (F := Ideal) (m ((c : Thread nD τ).loc main_arg0))
          (m ((c : Thread nD τ).loc main_arg1)) (m ((c : Thread nD τ).loc main_arg2)) (m ((c : Thread nD τ).loc main_arg3))
          (ix3 ⟨(rowOf t y).val / 8192, by omega⟩ ⟨(rowOf t y).val % 8192, by omega⟩ l) := by
  rw [project]
  refine Finset.sum_congr rfl fun k _ => ?_
  rw [modulated, weights, hw]

/-- The row against a column of the padding. -/
theorem column_zero (c : Dev nD) (t : Fin cfg0.N) (y : Fin 512) (i : Fin 6144)
    (hw : ∀ k, packed (m ((c : Thread nD τ).loc main_arg3)) (ix2 k i) = 0) :
    (∑ k : Fin 1024, k0_pay6 (F := Ideal) (k0_pay5 (iblk m c 0 t) (iblk m c 1 t) (iblk m c 3 t)) (iblk m c 2 t) (ix2 y k)
        * iblk m c 4 t (ix2 k i) : EReal) = 0 := by
  refine Finset.sum_eq_zero fun k _ => ?_
  rw [weights, hw, mul_zero]

end Cert.Kernel4Ideal.Hand

end
-- ==== Proof.MixGates.lean ====
/-
  The input projection at the ideal instance: the matrix memory's values and output gate and the two merge gates.
-/
module

public import proofs.«01_k».proof.Defs
public import proofs.«01_k».proof.Proof.MixCols
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Kernel4Ideal.Value

variable (m : (ℓ : Loc nD τ sig) → Buf (Elt Ideal) ℓ)

/-- The reference's matrix memory's values at the kernel's arguments. -/
abbrev goal_v (c : Dev nD) : S16384x512.Idx → EReal :=
  Cert.Reference4Ideal.Read.val_main_v87 (F := Ideal) (m ((c : Thread nD τ).loc main_arg0)) (m ((c : Thread nD τ).loc main_arg1))
    (m ((c : Thread nD τ).loc main_arg2)) (m ((c : Thread nD τ).loc main_arg3))

theorem place_v (t : Fin cfg0.N) (y : Fin 512) (l : Fin 512) :
    ((View.whole main_v49_8).slice (win0_17.rect t)).emb (ix2 y l) = ix2 (rowOf t y) l := by
  funext a
  match a with
  | ⟨0, _⟩ => exact Fin.ext (by blk_simp [idx t])
  | ⟨1, _⟩ => exact Fin.ext (by blk_simp [idx t])

/-- One entry of the block written. -/
theorem block_v (c : Dev nD) (t : Fin cfg0.N) (y : Fin 512) (l : Fin 512) :
    k0_pay55 (F := Ideal) (k0_pay6 (k0_pay5 (iblk m c 0 t) (iblk m c 1 t) (iblk m c 3 t)) (iblk m c 2 t))
        (View.ld (iblk m c 4 t) (Rect.unit ![0, 3072] ![1024, 512] inb_S1024x6144_S1024x512_0_3072)) (ix2 y l)
      = goal_v m c (ix2 (rowOf t y) l) := by
  unfold goal_v
  rw [Cert.Reference4Ideal.Hand.result_v]
  pointwise [k0_pay55]
  exact column m c t y ⟨3072 + l.val, by omega⟩ _ fun k => packed_v _ k l _ rfl

set_option maxHeartbeats 4000000 in
/-- Matrix memory's values. -/
theorem final_v (c : Dev nD) : (dats m 0 c).arrAt 17 cfg0.N = goal_v m c := by
  refine (dats m 0 c).arrAt_eq_of_covers 17 _ (by decide +kernel) fun t hf y => ?_
  blk_simp
  rw [after0_17]
  by_cases h0 : t.val % 16 = 0
  · rw [outsAt0_A m c t h0]
    frame_out
    idx_vars y
    rw [place_v]
    exact block_v m c t y0 y1
  · rw [outsAt0_B m c t h0]
    frame_out
    idx_vars y
    rw [place_v]
    exact block_v m c t y0 y1

/-- The reference's matrix memory's output gate at the kernel's arguments. -/
abbrev goal_o (c : Dev nD) : S16384x512.Idx → EReal :=
  Cert.Reference4Ideal.Read.val_main_v88 (F := Ideal) (m ((c : Thread nD τ).loc main_arg0)) (m ((c : Thread nD τ).loc main_arg1))
    (m ((c : Thread nD τ).loc main_arg2)) (m ((c : Thread nD τ).loc main_arg3))

theorem place_o (t : Fin cfg0.N) (y : Fin 512) (l : Fin 512) :
    ((View.whole main_v49_9).slice (win0_18.rect t)).emb (ix2 y l) = ix2 (rowOf t y) l := by
  funext a
  match a with
  | ⟨0, _⟩ => exact Fin.ext (by blk_simp [idx t])
  | ⟨1, _⟩ => exact Fin.ext (by blk_simp [idx t])

/-- One entry of the block written. -/
theorem block_o (c : Dev nD) (t : Fin cfg0.N) (y : Fin 512) (l : Fin 512) :
    k0_pay1 (F := Ideal) (k0_pay6 (k0_pay5 (iblk m c 0 t) (iblk m c 1 t) (iblk m c 3 t)) (iblk m c 2 t))
        (View.ld (iblk m c 4 t) (Rect.unit ![0, 3584] ![1024, 512] inb_S1024x6144_S1024x512_0_3584)) (ix2 y l)
      = goal_o m c (ix2 (rowOf t y) l) := by
  unfold goal_o
  rw [Cert.Reference4Ideal.Hand.result_o]
  pointwise [k0_pay1]
  exact column m c t y ⟨3584 + l.val, by omega⟩ _ fun k => packed_o _ k l _ rfl

set_option maxHeartbeats 4000000 in
/-- Matrix memory's output gate. -/
theorem final_o (c : Dev nD) : (dats m 0 c).arrAt 18 cfg0.N = goal_o m c := by
  refine (dats m 0 c).arrAt_eq_of_covers 18 _ (by decide +kernel) fun t hf y => ?_
  blk_simp
  rw [after0_18]
  by_cases h0 : t.val % 16 = 0
  · rw [outsAt0_A m c t h0]
    frame_out
    idx_vars y
    rw [place_o]
    exact block_o m c t y0 y1
  · rw [outsAt0_B m c t h0]
    frame_out
    idx_vars y
    rw [place_o]
    exact block_o m c t y0 y1

/-- The reference's attention branch's merge gate at the kernel's arguments. -/
abbrev goal_ga (c : Dev nD) : S16384x1024.Idx → EReal :=
  Cert.Reference4Ideal.Read.val_main_v89 (F := Ideal) (m ((c : Thread nD τ).loc main_arg0)) (m ((c : Thread nD τ).loc main_arg1))
    (m ((c : Thread nD τ).loc main_arg2)) (m ((c : Thread nD τ).loc main_arg3))

theorem place_ga (t : Fin cfg0.N) (y : Fin 512) (l : Fin 1024) :
    ((View.whole main_v49_10).slice (win0_19.rect t)).emb (ix2 y l) = ix2 (rowOf t y) l := by
  funext a
  match a with
  | ⟨0, _⟩ => exact Fin.ext (by blk_simp [idx t])
  | ⟨1, _⟩ => exact Fin.ext (by blk_simp [idx t])

/-- One entry of the block written. -/
theorem block_ga (c : Dev nD) (t : Fin cfg0.N) (y : Fin 512) (l : Fin 1024) :
    k0_pay2 (F := Ideal) (k0_pay6 (k0_pay5 (iblk m c 0 t) (iblk m c 1 t) (iblk m c 3 t)) (iblk m c 2 t))
        (View.ld (iblk m c 4 t) (Rect.unit ![0, 4096] ![1024, 1024] inb_S1024x6144_S1024x1024_0_4096)) (ix2 y l)
      = goal_ga m c (ix2 (rowOf t y) l) := by
  unfold goal_ga
  rw [Cert.Reference4Ideal.Hand.result_ga]
  pointwise [k0_pay2]
  exact column m c t y ⟨4096 + l.val, by omega⟩ _ fun k => packed_ga _ k l _ rfl

set_option maxHeartbeats 4000000 in
/-- Attention branch's merge gate. -/
theorem final_ga (c : Dev nD) : (dats m 0 c).arrAt 19 cfg0.N = goal_ga m c := by
  refine (dats m 0 c).arrAt_eq_of_covers 19 _ (by decide +kernel) fun t hf y => ?_
  blk_simp
  rw [after0_19]
  by_cases h0 : t.val % 16 = 0
  · rw [outsAt0_A m c t h0]
    frame_out
    idx_vars y
    rw [place_ga]
    exact block_ga m c t y0 y1
  · rw [outsAt0_B m c t h0]
    frame_out
    idx_vars y
    rw [place_ga]
    exact block_ga m c t y0 y1

/-- The reference's matrix memory branch's merge gate at the kernel's arguments. -/
abbrev goal_gm (c : Dev nD) : S16384x1024.Idx → EReal :=
  Cert.Reference4Ideal.Read.val_main_v90 (F := Ideal) (m ((c : Thread nD τ).loc main_arg0)) (m ((c : Thread nD τ).loc main_arg1))
    (m ((c : Thread nD τ).loc main_arg2)) (m ((c : Thread nD τ).loc main_arg3))

theorem place_gm (t : Fin cfg0.N) (y : Fin 512) (l : Fin 1024) :
    ((View.whole main_v49_11).slice (win0_20.rect t)).emb (ix2 y l) = ix2 (rowOf t y) l := by
  funext a
  match a with
  | ⟨0, _⟩ => exact Fin.ext (by blk_simp [idx t])
  | ⟨1, _⟩ => exact Fin.ext (by blk_simp [idx t])

/-- One entry of the block written. -/
theorem block_gm (c : Dev nD) (t : Fin cfg0.N) (y : Fin 512) (l : Fin 1024) :
    k0_pay3 (F := Ideal) (k0_pay6 (k0_pay5 (iblk m c 0 t) (iblk m c 1 t) (iblk m c 3 t)) (iblk m c 2 t))
        (View.ld (iblk m c 4 t) (Rect.unit ![0, 5120] ![1024, 1024] inb_S1024x6144_S1024x1024_0_5120)) (ix2 y l)
      = goal_gm m c (ix2 (rowOf t y) l) := by
  unfold goal_gm
  rw [Cert.Reference4Ideal.Hand.result_gm]
  pointwise [k0_pay3]
  exact column m c t y ⟨5120 + l.val, by omega⟩ _ fun k => packed_gm _ k l _ rfl

set_option maxHeartbeats 4000000 in
/-- Matrix memory branch's merge gate. -/
theorem final_gm (c : Dev nD) : (dats m 0 c).arrAt 20 cfg0.N = goal_gm m c := by
  refine (dats m 0 c).arrAt_eq_of_covers 20 _ (by decide +kernel) fun t hf y => ?_
  blk_simp
  rw [after0_20]
  by_cases h0 : t.val % 16 = 0
  · rw [outsAt0_A m c t h0]
    frame_out
    idx_vars y
    rw [place_gm]
    exact block_gm m c t y0 y1
  · rw [outsAt0_B m c t h0]
    frame_out
    idx_vars y
    rw [place_gm]
    exact block_gm m c t y0 y1

end Cert.Kernel4Ideal.Hand

end
-- ==== Proof.MixSmall.lean ====
/-
  The input projection at the ideal instance: the indexer's keys and weights and the matrix memory's input and forget gates.
-/
module

public import proofs.«01_k».proof.Defs
public import proofs.«01_k».proof.Proof.MixCols
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Kernel4Ideal.Value

variable (m : (ℓ : Loc nD τ sig) → Buf (Elt Ideal) ℓ)

/-- The reference's indexer's keys at the kernel's arguments. -/
abbrev goal_k (c : Dev nD) : S16384x128.Idx → EReal :=
  Cert.Reference4Ideal.Read.val_main_v83 (F := Ideal) (m ((c : Thread nD τ).loc main_arg0)) (m ((c : Thread nD τ).loc main_arg1))
    (m ((c : Thread nD τ).loc main_arg2)) (m ((c : Thread nD τ).loc main_arg3))

theorem place_k (t : Fin cfg0.N) (y : Fin 512) (l : Fin 128) :
    ((View.whole main_v49_2).slice (win0_11.rect t)).emb (ix2 y l) = ix2 (rowOf t y) l := by
  funext a
  match a with
  | ⟨0, _⟩ => exact Fin.ext (by blk_simp [idx t])
  | ⟨1, _⟩ => exact Fin.ext (by blk_simp [idx t])

/-- One entry of the block written. -/
theorem block_k (c : Dev nD) (t : Fin cfg0.N) (y : Fin 512) (l : Fin 128) :
    k0_pay44 (F := Ideal) (k0_pay6 (k0_pay5 (iblk m c 0 t) (iblk m c 1 t) (iblk m c 3 t)) (iblk m c 2 t))
        (View.ld (iblk m c 4 t) (Rect.unit ![0, 1792] ![1024, 128] inb_S1024x6144_S1024x128_0_1792)) (ix2 y l)
      = goal_k m c (ix2 (rowOf t y) l) := by
  unfold goal_k
  rw [Cert.Reference4Ideal.Hand.result_k]
  pointwise [k0_pay44]
  by_cases hl : l.val < 64
  · rw [dif_pos hl]
    exact column m c t y ⟨1792 + l.val, by omega⟩ _ fun k => by rw [packed_ki _ k l _ rfl, dif_pos hl]
  · rw [dif_neg hl]
    exact column_zero m c t y ⟨1792 + l.val, by omega⟩ fun k => by rw [packed_ki _ k l _ rfl, dif_neg hl]

set_option maxHeartbeats 4000000 in
/-- The indexer's keys. -/
theorem final_k (c : Dev nD) : (dats m 0 c).arrAt 11 cfg0.N = goal_k m c := by
  refine (dats m 0 c).arrAt_eq_of_covers 11 _ (by decide +kernel) fun t hf y => ?_
  blk_simp
  rw [after0_11]
  by_cases h0 : t.val % 16 = 0
  · rw [outsAt0_A m c t h0]
    frame_out
    idx_vars y
    rw [place_k]
    exact block_k m c t y0 y1
  · rw [outsAt0_B m c t h0]
    frame_out
    idx_vars y
    rw [place_k]
    exact block_k m c t y0 y1

/-- The reference's indexer's weights at the kernel's arguments. -/
abbrev goal_w (c : Dev nD) : S8x16384.Idx → EReal :=
  Cert.Reference4Ideal.Read.val_main_v62 (F := Ideal) (m ((c : Thread nD τ).loc main_arg0)) (m ((c : Thread nD τ).loc main_arg1))
    (m ((c : Thread nD τ).loc main_arg2)) (m ((c : Thread nD τ).loc main_arg3))

theorem place_w (t : Fin cfg0.N) (j : Fin 8) (y : Fin 512) :
    ((View.whole main_v49_5).slice (win0_14.rect t)).emb (ix2 j y) = ix2 j (rowOf t y) := by
  funext a
  match a with
  | ⟨0, _⟩ => exact Fin.ext (by blk_simp [idx t])
  | ⟨1, _⟩ => exact Fin.ext (by blk_simp [idx t])

/-- One entry of the block written. -/
theorem block_w (c : Dev nD) (t : Fin cfg0.N) (j : Fin 8) (y : Fin 512) :
    k0_pay46 (F := Ideal) (k0_pay6 (k0_pay5 (iblk m c 0 t) (iblk m c 1 t) (iblk m c 3 t)) (iblk m c 2 t))
        (View.ld (iblk m c 4 t) (Rect.unit ![0, 1920] ![1024, 128] inb_S1024x6144_S1024x128_0_1920)) (ix2 j y)
      = goal_w m c (ix2 j (rowOf t y)) := by
  unfold goal_w
  rw [Cert.Reference4Ideal.Hand.result_w]
  pointwise [k0_pay46, k0_pay45]
  refine congrArg (· * _) (column m c t y ⟨1920 + j.val, by omega⟩ _ fun k => ?_)
  rw [packed_sm _ k ⟨j.val, by omega⟩ _ rfl, dif_pos (by show j.val < 16; omega)]
  exact narrow_w _ k j

set_option maxHeartbeats 4000000 in
/-- The indexer's weights. -/
theorem final_w (c : Dev nD) : (dats m 0 c).arrAt 14 cfg0.N = goal_w m c := by
  refine (dats m 0 c).arrAt_eq_of_covers 14 _ (by decide +kernel) fun t hf y => ?_
  blk_simp
  rw [after0_14]
  by_cases h0 : t.val % 16 = 0
  · rw [outsAt0_A m c t h0]
    frame_out
    idx_vars y
    rw [place_w]
    exact block_w m c t y0 y1
  · rw [outsAt0_B m c t h0]
    frame_out
    idx_vars y
    rw [place_w]
    exact block_w m c t y0 y1

/-- The reference's matrix memory's input and forget gates at the kernel's arguments. -/
abbrev goal_ift (c : Dev nD) : S8x16384.Idx → EReal :=
  Cert.Reference4Ideal.Read.val_main_v79 (F := Ideal) (m ((c : Thread nD τ).loc main_arg0)) (m ((c : Thread nD τ).loc main_arg1))
    (m ((c : Thread nD τ).loc main_arg2)) (m ((c : Thread nD τ).loc main_arg3))

theorem place_ift (t : Fin cfg0.N) (j : Fin 8) (y : Fin 512) :
    ((View.whole main_v49_6).slice (win0_15.rect t)).emb (ix2 j y) = ix2 j (rowOf t y) := by
  funext a
  match a with
  | ⟨0, _⟩ => exact Fin.ext (by blk_simp [idx t])
  | ⟨1, _⟩ => exact Fin.ext (by blk_simp [idx t])

/-- One entry of the block written. -/
theorem block_ift (c : Dev nD) (t : Fin cfg0.N) (j : Fin 8) (y : Fin 512) :
    k0_pay47 (F := Ideal) (k0_pay45 (k0_pay6 (k0_pay5 (iblk m c 0 t) (iblk m c 1 t) (iblk m c 3 t)) (iblk m c 2 t))
        (View.ld (iblk m c 4 t) (Rect.unit ![0, 1920] ![1024, 128] inb_S1024x6144_S1024x128_0_1920))) (ix2 j y)
      = goal_ift m c (ix2 j (rowOf t y)) := by
  unfold goal_ift
  rw [Cert.Reference4Ideal.Hand.result_ift]
  pointwise [k0_pay47, k0_pay45]
  refine column m c t y ⟨1920 + (8 + j.val), by omega⟩ _ fun k => ?_
  rw [packed_sm _ k ⟨8 + j.val, by omega⟩ _ rfl, dif_pos (by show 8 + j.val < 16; omega)]
  exact narrow_if _ k j

set_option maxHeartbeats 4000000 in
/-- The matrix memory's input and forget gates. -/
theorem final_ift (c : Dev nD) : (dats m 0 c).arrAt 15 cfg0.N = goal_ift m c := by
  refine (dats m 0 c).arrAt_eq_of_covers 15 _ (by decide +kernel) fun t hf y => ?_
  blk_simp
  rw [after0_15]
  by_cases h0 : t.val % 16 = 0
  · rw [outsAt0_A m c t h0]
    frame_out
    idx_vars y
    rw [place_ift]
    exact block_ift m c t y0 y1
  · rw [outsAt0_B m c t h0]
    frame_out
    idx_vars y
    rw [place_ift]
    exact block_ift m c t y0 y1

end Cert.Kernel4Ideal.Hand

end
-- ==== Proof.MixLatent.lean ====
/-
  The input projection at the ideal instance: the latent keys.
-/
module

public import proofs.«01_k».proof.Defs
public import proofs.«01_k».proof.Proof.MixCols
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Kernel4Ideal.Value

variable (m : (ℓ : Loc nD τ sig) → Buf (Elt Ideal) ℓ)

/-- The reference's latent keys at the kernel's arguments. -/
abbrev goal_ckv (c : Dev nD) : S16384x256.Idx → EReal :=
  Cert.Reference4Ideal.Read.val_main_v85 (F := Ideal) (m ((c : Thread nD τ).loc main_arg0)) (m ((c : Thread nD τ).loc main_arg1))
    (m ((c : Thread nD τ).loc main_arg2)) (m ((c : Thread nD τ).loc main_arg3)) (m ((c : Thread nD τ).loc main_arg6))

theorem place_ckv (t : Fin cfg0.N) (y : Fin 512) (l : Fin 256) :
    ((View.whole main_v49_3).slice (win0_12.rect t)).emb (ix2 y l) = ix2 (rowOf t y) l := by
  funext a
  match a with
  | ⟨0, _⟩ => exact Fin.ext (by blk_simp [idx t])
  | ⟨1, _⟩ => exact Fin.ext (by blk_simp [idx t])

/-- One entry of the projection onto the latent keys' columns. -/
theorem latent_column (c : Dev nD) (t : Fin cfg0.N) (y : Fin 512) (l : Fin 256) :
    k0_pay22 (F := Ideal) (k0_pay6 (k0_pay5 (iblk m c 0 t) (iblk m c 1 t) (iblk m c 3 t)) (iblk m c 2 t))
        (View.ld (iblk m c 4 t) (Rect.unit ![0, 512] ![1024, 256] inb_S1024x6144_S1024x256_0_512)) (ix2 y l)
      = Cert.Reference4Ideal.Read.val_main_v34 (F := Ideal) (m ((c : Thread nD τ).loc main_arg0)) (m ((c : Thread nD τ).loc main_arg1))
    (m ((c : Thread nD τ).loc main_arg2)) (m ((c : Thread nD τ).loc main_arg3))
          (ix3 ⟨(rowOf t y).val / 8192, by omega⟩ ⟨(rowOf t y).val % 8192, by omega⟩ l) := by
  rw [Cert.Reference4Ideal.Hand.latent]
  pointwise [k0_pay22]
  exact column m c t y ⟨512 + l.val, by omega⟩ _ fun k => packed_ckv _ k l _ rfl

/-- One entry of the block written. -/
theorem block_ckv (c : Dev nD) (t : Fin cfg0.N) (y : Fin 512) (l : Fin 256) :
    k0_pay26 (F := Ideal)
        (k0_pay22 (k0_pay6 (k0_pay5 (iblk m c 0 t) (iblk m c 1 t) (iblk m c 3 t)) (iblk m c 2 t))
          (View.ld (iblk m c 4 t) (Rect.unit ![0, 512] ![1024, 256] inb_S1024x6144_S1024x256_0_512)))
        (k0_pay23 (iblk m c 5 t))
        (k0_pay24 (k0_pay6 (k0_pay5 (iblk m c 0 t) (iblk m c 1 t) (iblk m c 3 t)) (iblk m c 2 t))
          (View.ld (iblk m c 4 t) (Rect.unit ![0, 512] ![1024, 256] inb_S1024x6144_S1024x256_0_512))) (ix2 y l)
      = goal_ckv m c (ix2 (rowOf t y) l) := by
  unfold goal_ckv
  rw [Cert.Reference4Ideal.Hand.result_ckv]
  simp only [← latent_column m c t y, ← read5 m c t]
  pointwise [k0_pay26, k0_pay25, k0_pay24, k0_pay23]

set_option maxHeartbeats 4000000 in
/-- The latent keys. -/
theorem final_ckv (c : Dev nD) : (dats m 0 c).arrAt 12 cfg0.N = goal_ckv m c := by
  refine (dats m 0 c).arrAt_eq_of_covers 12 _ (by decide +kernel) fun t hf y => ?_
  blk_simp
  rw [after0_12]
  by_cases h0 : t.val % 16 = 0
  · rw [outsAt0_A m c t h0]
    frame_out
    idx_vars y
    rw [place_ckv]
    exact block_ckv m c t y0 y1
  · rw [outsAt0_B m c t h0]
    frame_out
    idx_vars y
    rw [place_ckv]
    exact block_ckv m c t y0 y1

end Cert.Kernel4Ideal.Hand

end
-- ==== Proof.MixTransposed.lean ====
/-
  The input projection at the ideal instance: the latent keys' second copy, 256 positions at a time and transposed, over a
  row of ones and fifteen of zeros. Its upper 256 rows are the latent keys of `MixLatent`.
-/
module

public import proofs.«01_k».proof.Proof.MixLatent

@[expose] public section

set_option maxRecDepth 16384

noncomputable section

open Idealize.ShloMosaic Idealize.ShloMosaic.TcCoe Idealize.SL.Sem
open Idealize.ShloMosaic.Pipeline (Dat)

namespace Cert.Reference4Ideal.Hand

open Cert.Reference4Ideal Cert.Reference4Ideal.Gen Cert.Reference4Ideal.Read

/-- An array of latent keys read in blocks of 256 positions, over ones and zeros: the same entry by block and by position. -/
theorem three_parts (f : S2x8192x256.Idx → Ideal .f32) (n : Fin 64) (i : Fin 272) (y : Fin 256) :
    (if h : i.val < 257 then
        if h' : i.val < 256 then f (ix3 ⟨n.val / 32, by omega⟩ ⟨n.val % 32 * 256 + y.val, by omega⟩ ⟨i.val, h'⟩) else (1 : Ideal .f32)
      else (0 : Ideal .f32)) =
      if h : i.val < 256 then f (ix3 ⟨(n.val * 256 + y.val) / 8192, by omega⟩ ⟨(n.val * 256 + y.val) % 8192, by omega⟩ ⟨i.val, h⟩)
      else if i.val = 256 then (1 : Ideal .f32) else (0 : Ideal .f32) := by
  by_cases h : i.val < 256
  · rw [dif_pos (show i.val < 257 by omega), dif_pos h, dif_pos h]
    congr 2
    · exact Fin.ext (by dsimp only; omega)
    · exact Fin.ext (by dsimp only; omega)
  · rw [dif_neg h]
    by_cases h' : i.val = 256
    · rw [dif_pos (show i.val < 257 by omega), dif_neg h, if_pos h']
    · rw [dif_neg (show ¬ i.val < 257 by omega), if_neg h', dif_neg h]

/-- The transposed copy at an index: the latent keys, then ones, then zeros. -/
theorem result_ckvt (x0 : Vec Ideal S2x8192x1024 .f32) (x1 : Vec Ideal S2x9216 .f32) (x2 : Vec Ideal S1x1024 .f32)
    (x3 : Vec Ideal S1x1024x5456 .f32) (x6 : Vec Ideal S1x256 .f32) (n : Fin 64) (i : Fin 272) (y : Fin 256) :
    val_main_v95 (F := Ideal) x0 x1 x2 x3 x6 (ix3 n i y) =
      if h : i.val < 256 then val_main_v85 (F := Ideal) x0 x1 x2 x3 x6 (ix2 ⟨n.val * 256 + y.val, by omega⟩ ⟨i.val, h⟩)
      else if i.val = 256 then (1 : Ideal .f32) else (0 : Ideal .f32) := by
  pointwise [val_main_v84, val_main_v85, val_main_v91, val_main_v92, val_main_cst_9, val_main_call2_v0, val_main_v93, val_main_c_10,
    val_main_call3_v0, val_main_v94, val_main_v95]
  have hone : (id (constant (F := Ideal) S_ FTy.f32 1065353216#32) (Shape.Idx.first h_S_) : Ideal .f32) = 1 := by
    rw [id_eq]
    pointwise
  rw [hone, converted_zero]
  exact three_parts (val_main_v76 (F := Ideal) x0 x1 x2 x3 x6) n i y

end Cert.Reference4Ideal.Hand

namespace Cert.Kernel4Ideal.Hand

open Cert.Kernel4Ideal Cert.Kernel4Ideal.Gen Cert.Kernel4Ideal.Value

/-- The first 256 positions' latent keys as they are stored, transposed. -/
theorem stored_t0 (a : Vec Ideal S512x256 .f32) (g : Vec Ideal S1x256 .f32) (v : Vec Ideal S512x256 .f32) (n : Fin 1) (i y : Fin 256) :
    k0_pay29 (F := Ideal) a g v (ix3 n i y) = k0_pay26 (F := Ideal) a g v (ix2 ⟨y.val, by omega⟩ i) := by
  pointwise [k0_pay29, k0_pay27, k0_pay26]

/-- The other 256 positions' latent keys as they are stored, transposed. -/
theorem stored_t1 (a : Vec Ideal S512x256 .f32) (g : Vec Ideal S1x256 .f32) (v : Vec Ideal S512x256 .f32) (n : Fin 1) (i y : Fin 256) :
    k0_pay31 (F := Ideal) a g v (ix3 n i y) = k0_pay26 (F := Ideal) a g v (ix2 ⟨256 + y.val, by omega⟩ i) := by
  pointwise [k0_pay31, k0_pay27, k0_pay26]

/-- A choice by whether a row's number is zero, as the kernel makes it on words. -/
theorem first_of_sixteen : ∀ i : Fin 16, Scalar.select (IntOp.cmpi CmpIPredicate.eq (BitVec.ofNat 32 i.val) 0#32) (1 : Ideal .f32) (0 : Ideal .f32)
    = if i.val = 0 then (1 : Ideal .f32) else (0 : Ideal .f32) := fun i => by
  have hw : ∀ i : Fin 16, IntOp.cmpi CmpIPredicate.eq (BitVec.ofNat 32 i.val) 0#32 = if i.val = 0 then 1#1 else 0#1 := by decide
  rw [hw]
  by_cases h : i.val = 0
  · rw [if_pos h, if_pos h]
    rfl
  · rw [if_neg h, if_neg h]
    rfl

/-- The sixteen rows below the first 256 positions: ones, then zeros. -/
theorem stored_f0 (n : Fin 1) (i : Fin 16) (y : Fin 256) :
    k0_pay30 (F := Ideal) (ix3 n i y) = if i.val = 0 then (1 : Ideal .f32) else (0 : Ideal .f32) := by
  pointwise [k0_pay30, k0_pay28]
  exact first_of_sixteen i

/-- The sixteen rows below the other 256 positions. -/
theorem stored_f1 (n : Fin 1) (i : Fin 16) (y : Fin 256) :
    k0_pay32 (F := Ideal) (ix3 n i y) = if i.val = 0 then (1 : Ideal .f32) else (0 : Ideal .f32) := by
  pointwise [k0_pay32, k0_pay28]
  exact first_of_sixteen i

variable (m : (ℓ : Loc nD τ sig) → Buf (Elt Ideal) ℓ)

/-- The reference's transposed latent keys at the kernel's arguments. -/
abbrev goal_ckvt (c : Dev nD) : S64x272x256.Idx → EReal :=
  Cert.Reference4Ideal.Read.val_main_v95 (F := Ideal) (m ((c : Thread nD τ).loc main_arg0)) (m ((c : Thread nD τ).loc main_arg1))
    (m ((c : Thread nD τ).loc main_arg2)) (m ((c : Thread nD τ).loc main_arg3)) (m ((c : Thread nD τ).loc main_arg6))

/-- Which block of its array the transposed copy's window is on at a grid point. -/
theorem idx_ckvt : ∀ t : Fin cfg0.N, win0_13.index t = ![t.val, 0, 0] :=
  (by decide +kernel : ∀ t : Fin grid0.N, _)

theorem place_ckvt (t : Fin cfg0.N) (n : Fin 2) (i : Fin 272) (y : Fin 256) :
    ((View.whole main_v49_4).slice (win0_13.rect t)).emb (ix3 n i y)
      = ix3 ⟨t.val * 2 + n.val, by have : t.val < 32 := t.isLt; omega⟩ i y := by
  funext a
  match a with
  | ⟨0, _⟩ => exact Fin.ext (by blk_simp [idx_ckvt t])
  | ⟨1, _⟩ => exact Fin.ext (by blk_simp [idx_ckvt t])
  | ⟨2, _⟩ => exact Fin.ext (by blk_simp [idx_ckvt t])

/-- A latent key of the block is the copy's entry in its place. -/
theorem block_ckvt (c : Dev nD) (t : Fin cfg0.N) (n : Fin 2) (i : Fin 272) (y : Fin 256) (r : Fin 512) (l : Fin 256)
    (hr : r.val = n.val * 256 + y.val) (hl : l.val = i.val) :
    k0_pay26 (F := Ideal)
        (k0_pay22 (k0_pay6 (k0_pay5 (iblk m c 0 t) (iblk m c 1 t) (iblk m c 3 t)) (iblk m c 2 t))
          (View.ld (iblk m c 4 t) (Rect.unit ![0, 512] ![1024, 256] inb_S1024x6144_S1024x256_0_512)))
        (k0_pay23 (iblk m c 5 t))
        (k0_pay24 (k0_pay6 (k0_pay5 (iblk m c 0 t) (iblk m c 1 t) (iblk m c 3 t)) (iblk m c 2 t))
          (View.ld (iblk m c 4 t) (Rect.unit ![0, 512] ![1024, 256] inb_S1024x6144_S1024x256_0_512))) (ix2 r l)
      = goal_ckvt m c (ix3 ⟨t.val * 2 + n.val, by have : t.val < 32 := t.isLt; omega⟩ i y) := by
  rw [block_ckv m c t r l]
  unfold goal_ckvt goal_ckv
  rw [Cert.Reference4Ideal.Hand.result_ckvt, dif_pos (by omega)]
  congr 2
  · refine Fin.ext ?_
    show t.val * 512 + r.val = (t.val * 2 + n.val) * 256 + y.val
    omega
  · exact Fin.ext hl

/-- A row below the latent keys is the copy's. -/
theorem foot_ckvt (c : Dev nD) (t : Fin cfg0.N) (n : Fin 64) (i : Fin 272) (y : Fin 256) (j : Fin 16) (hj : i.val = 256 + j.val) :
    (if j.val = 0 then (1 : Ideal .f32) else (0 : Ideal .f32)) = goal_ckvt m c (ix3 n i y) := by
  unfold goal_ckvt
  rw [Cert.Reference4Ideal.Hand.result_ckvt, dif_neg (by omega)]
  by_cases h : j.val = 0
  · rw [if_pos h, if_pos (by omega)]
  · rw [if_neg h, if_neg (by omega)]

set_option maxHeartbeats 4000000 in
/-- The transposed latent keys. -/
theorem final_ckvt (c : Dev nD) : (dats m 0 c).arrAt 13 cfg0.N = goal_ckvt m c := by
  refine (dats m 0 c).arrAt_eq_of_covers 13 _ (by decide +kernel) fun t hf y => ?_
  blk_simp
  rw [after0_13]
  by_cases h0 : t.val % 16 = 0
  · rw [outsAt0_A m c t h0]
    frame_out
    idx_vars y
    rw [place_ckvt]
    canon_tiles x e using View.cover_of_tiledBy _ ![1, 16, 256] (by sl_kernel_rfl) _
    all_goals
      idx_vars x
      first
        | rw [stored_t0]; refine block_ckvt m c t y0 y1 y2 _ _ ?_ ?_
        | rw [stored_t1]; refine block_ckvt m c t y0 y1 y2 _ _ ?_ ?_
        | rw [stored_f0]; refine foot_ckvt m c t _ y1 y2 _ ?_
        | rw [stored_f1]; refine foot_ckvt m c t _ y1 y2 _ ?_
      all_goals (try dsimp only) <;> omega
  · rw [outsAt0_B m c t h0]
    frame_out
    idx_vars y
    rw [place_ckvt]
    canon_tiles x e using View.cover_of_tiledBy _ ![1, 16, 256] (by sl_kernel_rfl) _
    all_goals
      idx_vars x
      first
        | rw [stored_t0]; refine block_ckvt m c t y0 y1 y2 _ _ ?_ ?_
        | rw [stored_t1]; refine block_ckvt m c t y0 y1 y2 _ _ ?_ ?_
        | rw [stored_f0]; refine foot_ckvt m c t _ y1 y2 _ ?_
        | rw [stored_f1]; refine foot_ckvt m c t _ y1 y2 _ ?_
      all_goals (try dsimp only) <;> omega

end Cert.Kernel4Ideal.Hand

end
-- ==== Proof.MixQueries.lean ====
/-
  The input projection at the ideal instance: the indexer's queries.
-/
module

public import proofs.«01_k».proof.Defs
public import proofs.«01_k».proof.Proof.MixCols
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Kernel4Ideal.Value

variable (m : (ℓ : Loc nD τ sig) → Buf (Elt Ideal) ℓ)

/-- The reference's indexer's queries at the kernel's arguments. -/
abbrev goal_qi (c : Dev nD) : S128x8x128x128.Idx → EReal :=
  Cert.Reference4Ideal.Read.val_main_v81 (F := Ideal) (m ((c : Thread nD τ).loc main_arg0)) (m ((c : Thread nD τ).loc main_arg1))
    (m ((c : Thread nD τ).loc main_arg2)) (m ((c : Thread nD τ).loc main_arg3))

theorem place_qi (t : Fin cfg0.N) (n : Fin 4) (h : Fin 8) (y l : Fin 128) :
    ((View.whole main_v49_1).slice (win0_10.rect t)).emb (ix4 n h y l) = ix4 ⟨t.val * 4 + n.val, by have : t.val < 32 := t.isLt; omega⟩ h y l := by
  funext a
  match a with
  | ⟨0, _⟩ => exact Fin.ext (by blk_simp [idx t])
  | ⟨1, _⟩ => exact Fin.ext (by blk_simp [idx t])
  | ⟨2, _⟩ => exact Fin.ext (by blk_simp [idx t])
  | ⟨3, _⟩ => exact Fin.ext (by blk_simp [idx t])

/-- The first head's query as it is stored. -/
theorem stored_qi0 (h : Vec Ideal S512x1024 .bf16) (W : Vec Ideal S1024x1024 .bf16) (n : Fin 4) (y l : Fin 128) :
    k0_pay35 (F := Ideal) h (k0_pay33 W) (constant (F := Ideal) S512x1024 .f32 0x00000000#32) (ix4 n 0 y l)
      = ∑ k : Fin 1024, h (ix2 ⟨n.val * 128 + y.val, by omega⟩ k) * W (ix2 k ⟨l.val, by omega⟩) := by
  pointwise [k0_pay35, k0_pay34, k0_pay33]

/-- The second head's query as it is stored. -/
theorem stored_qi1 (h : Vec Ideal S512x1024 .bf16) (W : Vec Ideal S1024x1024 .bf16) (n : Fin 4) (y l : Fin 128) :
    k0_pay36 (F := Ideal) h (k0_pay33 W) (constant (F := Ideal) S512x1024 .f32 0x00000000#32) (ix4 n 0 y l)
      = ∑ k : Fin 1024, h (ix2 ⟨n.val * 128 + y.val, by omega⟩ k) * W (ix2 k ⟨128 + l.val, by omega⟩) := by
  pointwise [k0_pay36, k0_pay34, k0_pay33]

/-- The third head's query as it is stored. -/
theorem stored_qi2 (h : Vec Ideal S512x1024 .bf16) (W : Vec Ideal S1024x1024 .bf16) (n : Fin 4) (y l : Fin 128) :
    k0_pay37 (F := Ideal) h (k0_pay33 W) (constant (F := Ideal) S512x1024 .f32 0x00000000#32) (ix4 n 0 y l)
      = ∑ k : Fin 1024, h (ix2 ⟨n.val * 128 + y.val, by omega⟩ k) * W (ix2 k ⟨256 + l.val, by omega⟩) := by
  pointwise [k0_pay37, k0_pay34, k0_pay33]

/-- The fourth head's query as it is stored. -/
theorem stored_qi3 (h : Vec Ideal S512x1024 .bf16) (W : Vec Ideal S1024x1024 .bf16) (n : Fin 4) (y l : Fin 128) :
    k0_pay38 (F := Ideal) h (k0_pay33 W) (constant (F := Ideal) S512x1024 .f32 0x00000000#32) (ix4 n 0 y l)
      = ∑ k : Fin 1024, h (ix2 ⟨n.val * 128 + y.val, by omega⟩ k) * W (ix2 k ⟨384 + l.val, by omega⟩) := by
  pointwise [k0_pay38, k0_pay34, k0_pay33]

/-- The fifth head's query as it is stored. -/
theorem stored_qi4 (h : Vec Ideal S512x1024 .bf16) (W : Vec Ideal S1024x1024 .bf16) (n : Fin 4) (y l : Fin 128) :
    k0_pay39 (F := Ideal) h (k0_pay33 W) (constant (F := Ideal) S512x1024 .f32 0x00000000#32) (ix4 n 0 y l)
      = ∑ k : Fin 1024, h (ix2 ⟨n.val * 128 + y.val, by omega⟩ k) * W (ix2 k ⟨512 + l.val, by omega⟩) := by
  pointwise [k0_pay39, k0_pay34, k0_pay33]

/-- The sixth head's query as it is stored. -/
theorem stored_qi5 (h : Vec Ideal S512x1024 .bf16) (W : Vec Ideal S1024x1024 .bf16) (n : Fin 4) (y l : Fin 128) :
    k0_pay41 (F := Ideal) (k0_pay40 h (k0_pay33 W) (constant (F := Ideal) S512x1024 .f32 0x00000000#32)) (ix4 n 0 y l)
      = ∑ k : Fin 1024, h (ix2 ⟨n.val * 128 + y.val, by omega⟩ k) * W (ix2 k ⟨640 + l.val, by omega⟩) := by
  pointwise [k0_pay41, k0_pay40, k0_pay34, k0_pay33]

/-- The seventh head's query as it is stored. -/
theorem stored_qi6 (h : Vec Ideal S512x1024 .bf16) (W : Vec Ideal S1024x1024 .bf16) (n : Fin 4) (y l : Fin 128) :
    k0_pay42 (F := Ideal) (k0_pay34 h (k0_pay33 W) (constant (F := Ideal) S512x1024 .f32 0x00000000#32)) (ix4 n 0 y l)
      = ∑ k : Fin 1024, h (ix2 ⟨n.val * 128 + y.val, by omega⟩ k) * W (ix2 k ⟨768 + l.val, by omega⟩) := by
  pointwise [k0_pay42, k0_pay34, k0_pay33]

/-- The eighth head's query as it is stored. -/
theorem stored_qi7 (h : Vec Ideal S512x1024 .bf16) (W : Vec Ideal S1024x1024 .bf16) (n : Fin 4) (y l : Fin 128) :
    k0_pay43 (F := Ideal) (k0_pay34 h (k0_pay33 W) (constant (F := Ideal) S512x1024 .f32 0x00000000#32)) (ix4 n 0 y l)
      = ∑ k : Fin 1024, h (ix2 ⟨n.val * 128 + y.val, by omega⟩ k) * W (ix2 k ⟨896 + l.val, by omega⟩) := by
  pointwise [k0_pay43, k0_pay34, k0_pay33]

/-- The packed weights' stretch of the indexer's query columns. -/
theorem stretch_qi (c : Dev nD) (t : Fin cfg0.N) (k : Fin 1024) (j : Fin 1024) :
    View.ld (iblk m c 4 t) (Rect.unit ![0, 768] ![1024, 1024] inb_S1024x6144_S1024x1024_0_768) (ix2 k j)
      = iblk m c 4 t (ix2 k ⟨768 + j.val, by omega⟩) := by
  pointwise

/-- The row against one of the indexer's query columns, at any head. -/
theorem block_qi (c : Dev nD) (t : Fin cfg0.N) (n : Fin 4) (h : Fin 8) (y l : Fin 128) (r : Fin 512) (hr : r.val = n.val * 128 + y.val)
    (i : Fin 6144) (hi : i.val = 768 + (h.val * 128 + l.val)) :
    (∑ k : Fin 1024, k0_pay6 (F := Ideal) (k0_pay5 (iblk m c 0 t) (iblk m c 1 t) (iblk m c 3 t)) (iblk m c 2 t) (ix2 r k)
        * iblk m c 4 t (ix2 k i) : EReal)
      = goal_qi m c (ix4 ⟨t.val * 4 + n.val, by have : t.val < 32 := t.isLt; omega⟩ h y l) := by
  unfold goal_qi
  rw [Cert.Reference4Ideal.Hand.result_q]
  by_cases hl : l.val < 64
  · rw [dif_pos hl]
    refine (column m c t r i ⟨768 + (h.val * 64 + l.val), by omega⟩ fun k => ?_).trans ?_
    · rw [packed_qi _ k ⟨h.val * 128 + l.val, by omega⟩ _ hi, wide_apply, dif_pos hl]
    · congr 2
      · refine Fin.ext ?_
        show (t.val * 512 + r.val) / 8192 = (t.val * 4 + n.val) / 64
        omega
      · refine Fin.ext ?_
        show (t.val * 512 + r.val) % 8192 = (t.val * 4 + n.val) % 64 * 128 + y.val
        omega
  · rw [dif_neg hl]
    exact column_zero m c t r i fun k => by
      rw [packed_qi _ k ⟨h.val * 128 + l.val, by omega⟩ _ hi, wide_apply, dif_neg hl]

set_option maxHeartbeats 4000000 in
/-- The indexer's queries. -/
theorem final_qi (c : Dev nD) : (dats m 0 c).arrAt 10 cfg0.N = goal_qi m c := by
  refine (dats m 0 c).arrAt_eq_of_covers 10 _ (by decide +kernel) fun t hf y => ?_
  blk_simp
  rw [after0_10]
  by_cases h0 : t.val % 16 = 0
  · rw [outsAt0_A m c t h0]
    frame_out
    idx_vars y
    rw [place_qi]
    canon_tiles x e
    all_goals
      idx_vars x
      obtain rfl : x1 = 0 := Subsingleton.elim _ _
      first
        | rw [stored_qi0] | rw [stored_qi1] | rw [stored_qi2] | rw [stored_qi3]
        | rw [stored_qi4] | rw [stored_qi5] | rw [stored_qi6] | rw [stored_qi7]
      simp only [stretch_qi]
      refine block_qi m c t y0 y1 y2 y3 _ ?_ _ ?_ <;> dsimp only <;> omega
  · rw [outsAt0_B m c t h0]
    frame_out
    idx_vars y
    rw [place_qi]
    canon_tiles x e
    all_goals
      idx_vars x
      obtain rfl : x1 = 0 := Subsingleton.elim _ _
      first
        | rw [stored_qi0] | rw [stored_qi1] | rw [stored_qi2] | rw [stored_qi3]
        | rw [stored_qi4] | rw [stored_qi5] | rw [stored_qi6] | rw [stored_qi7]
      simp only [stretch_qi]
      refine block_qi m c t y0 y1 y2 y3 _ ?_ _ ?_ <;> dsimp only <;> omega

end Cert.Kernel4Ideal.Hand

end
-- ==== Proof.MixAbsorbed.lean ====
/-
  The input projection at the ideal instance: the absorbed queries.
-/
module

public import proofs.«01_k».proof.Defs
public import proofs.«01_k».proof.Proof.MixCols
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Kernel4Ideal.Value

variable (m : (ℓ : Loc nD τ sig) → Buf (Elt Ideal) ℓ)

/-- The reference's absorbed queries at the kernel's arguments. -/
abbrev goal_qa (c : Dev nD) : S128x8x128x256.Idx → EReal :=
  Cert.Reference4Ideal.Read.val_main_v80 (F := Ideal) (m ((c : Thread nD τ).loc main_arg0)) (m ((c : Thread nD τ).loc main_arg1))
    (m ((c : Thread nD τ).loc main_arg2)) (m ((c : Thread nD τ).loc main_arg3)) (m ((c : Thread nD τ).loc main_arg7))

theorem place_qa (t : Fin cfg0.N) (n : Fin 4) (h : Fin 8) (y : Fin 128) (l : Fin 256) :
    ((View.whole main_v49_0).slice (win0_9.rect t)).emb (ix4 n h y l) = ix4 ⟨t.val * 4 + n.val, by have : t.val < 32 := t.isLt; omega⟩ h y l := by
  funext a
  match a with
  | ⟨0, _⟩ => exact Fin.ext (by blk_simp [idx t])
  | ⟨1, _⟩ => exact Fin.ext (by blk_simp [idx t])
  | ⟨2, _⟩ => exact Fin.ext (by blk_simp [idx t])
  | ⟨3, _⟩ => exact Fin.ext (by blk_simp [idx t])

/-- The first head's absorbed query as it is stored. -/
theorem stored_qa0 (h : Vec Ideal S512x1024 .bf16) (W : Vec Ideal S1024x512 .bf16) (U : Vec Ideal S1x128x512 .bf16)
    (n : Fin 4) (y : Fin 128) (l : Fin 256) :
    k0_pay9 (F := Ideal) h W U (ix4 n 0 y l)
      = (∑ p : Fin 128, (∑ k : Fin 1024, h (ix2 ⟨n.val * 128 + y.val, by omega⟩ k) * W (ix2 k ⟨p.val, by omega⟩))
          * U (ix3 0 p ⟨l.val, by omega⟩)) * Ideal.ofBits FTy.f32 0x3E38AA3B#32 := by
  pointwise [k0_pay9, k0_pay8, k0_pay7]

/-- The second head's absorbed query as it is stored. -/
theorem stored_qa1 (h : Vec Ideal S512x1024 .bf16) (W : Vec Ideal S1024x512 .bf16) (U : Vec Ideal S1x128x512 .bf16)
    (n : Fin 4) (y : Fin 128) (l : Fin 256) :
    k0_pay10 (F := Ideal) h W U (ix4 n 0 y l)
      = (∑ p : Fin 128, (∑ k : Fin 1024, h (ix2 ⟨n.val * 128 + y.val, by omega⟩ k) * W (ix2 k ⟨p.val, by omega⟩))
          * U (ix3 0 p ⟨256 + l.val, by omega⟩)) * Ideal.ofBits FTy.f32 0x3E38AA3B#32 := by
  pointwise [k0_pay10, k0_pay8, k0_pay7]

/-- The third head's absorbed query as it is stored. -/
theorem stored_qa2 (h : Vec Ideal S512x1024 .bf16) (W : Vec Ideal S1024x512 .bf16) (U : Vec Ideal S1x128x512 .bf16)
    (n : Fin 4) (y : Fin 128) (l : Fin 256) :
    k0_pay14 (F := Ideal) (k0_pay11 h W) (k0_pay12 U) (ix4 n 0 y l)
      = (∑ p : Fin 128, (∑ k : Fin 1024, h (ix2 ⟨n.val * 128 + y.val, by omega⟩ k) * W (ix2 k ⟨128 + p.val, by omega⟩))
          * U (ix3 0 p ⟨l.val, by omega⟩)) * Ideal.ofBits FTy.f32 0x3E38AA3B#32 := by
  pointwise [k0_pay14, k0_pay13, k0_pay12, k0_pay11, k0_pay7]

/-- The fourth head's absorbed query as it is stored. -/
theorem stored_qa3 (h : Vec Ideal S512x1024 .bf16) (W : Vec Ideal S1024x512 .bf16) (U : Vec Ideal S1x128x512 .bf16)
    (n : Fin 4) (y : Fin 128) (l : Fin 256) :
    k0_pay15 (F := Ideal) (k0_pay11 h W) (k0_pay12 U) (ix4 n 0 y l)
      = (∑ p : Fin 128, (∑ k : Fin 1024, h (ix2 ⟨n.val * 128 + y.val, by omega⟩ k) * W (ix2 k ⟨128 + p.val, by omega⟩))
          * U (ix3 0 p ⟨256 + l.val, by omega⟩)) * Ideal.ofBits FTy.f32 0x3E38AA3B#32 := by
  pointwise [k0_pay15, k0_pay13, k0_pay12, k0_pay11, k0_pay7]

/-- The fifth head's absorbed query as it is stored. -/
theorem stored_qa4 (h : Vec Ideal S512x1024 .bf16) (W : Vec Ideal S1024x512 .bf16) (U : Vec Ideal S1x128x512 .bf16)
    (n : Fin 4) (y : Fin 128) (l : Fin 256) :
    k0_pay17 (F := Ideal) (k0_pay7 h W) U (ix4 n 0 y l)
      = (∑ p : Fin 128, (∑ k : Fin 1024, h (ix2 ⟨n.val * 128 + y.val, by omega⟩ k) * W (ix2 k ⟨256 + p.val, by omega⟩))
          * U (ix3 0 p ⟨l.val, by omega⟩)) * Ideal.ofBits FTy.f32 0x3E38AA3B#32 := by
  pointwise [k0_pay17, k0_pay16, k0_pay7]

/-- The sixth head's absorbed query as it is stored. -/
theorem stored_qa5 (h : Vec Ideal S512x1024 .bf16) (W : Vec Ideal S1024x512 .bf16) (U : Vec Ideal S1x128x512 .bf16)
    (n : Fin 4) (y : Fin 128) (l : Fin 256) :
    k0_pay18 (F := Ideal) (k0_pay7 h W) U (ix4 n 0 y l)
      = (∑ p : Fin 128, (∑ k : Fin 1024, h (ix2 ⟨n.val * 128 + y.val, by omega⟩ k) * W (ix2 k ⟨256 + p.val, by omega⟩))
          * U (ix3 0 p ⟨256 + l.val, by omega⟩)) * Ideal.ofBits FTy.f32 0x3E38AA3B#32 := by
  pointwise [k0_pay18, k0_pay16, k0_pay7]

/-- The seventh head's absorbed query as it is stored. -/
theorem stored_qa6 (h : Vec Ideal S512x1024 .bf16) (W : Vec Ideal S1024x512 .bf16) (U : Vec Ideal S1x128x512 .bf16)
    (n : Fin 4) (y : Fin 128) (l : Fin 256) :
    k0_pay20 (F := Ideal) (k0_pay7 h W) U (ix4 n 0 y l)
      = (∑ p : Fin 128, (∑ k : Fin 1024, h (ix2 ⟨n.val * 128 + y.val, by omega⟩ k) * W (ix2 k ⟨384 + p.val, by omega⟩))
          * U (ix3 0 p ⟨l.val, by omega⟩)) * Ideal.ofBits FTy.f32 0x3E38AA3B#32 := by
  pointwise [k0_pay20, k0_pay19, k0_pay7]

/-- The eighth head's absorbed query as it is stored. -/
theorem stored_qa7 (h : Vec Ideal S512x1024 .bf16) (W : Vec Ideal S1024x512 .bf16) (U : Vec Ideal S1x128x512 .bf16)
    (n : Fin 4) (y : Fin 128) (l : Fin 256) :
    k0_pay21 (F := Ideal) (k0_pay7 h W) U (ix4 n 0 y l)
      = (∑ p : Fin 128, (∑ k : Fin 1024, h (ix2 ⟨n.val * 128 + y.val, by omega⟩ k) * W (ix2 k ⟨384 + p.val, by omega⟩))
          * U (ix3 0 p ⟨256 + l.val, by omega⟩)) * Ideal.ofBits FTy.f32 0x3E38AA3B#32 := by
  pointwise [k0_pay21, k0_pay19, k0_pay7]

/-- The packed weights' stretch of the query columns. -/
theorem stretch_qa (c : Dev nD) (t : Fin cfg0.N) (k : Fin 1024) (j : Fin 512) :
    View.ld (iblk m c 4 t) (Rect.unit ![0, 0] ![1024, 512] inb_S1024x6144_S1024x512_0_0) (ix2 k j)
      = iblk m c 4 t (ix2 k ⟨j.val, by omega⟩) := by
  pointwise

/-- The first pair's tile of the absorbing weights. -/
theorem tile_qa0 (c : Dev nD) (t : Fin cfg0.N) (p : Fin 128) (q : Fin 512) :
    View.ld (iblk m c 6 t) (Rect.unit ![0, 0, 0] ![1, 128, 512] inb_S4x128x512_S1x128x512_0_0_0) (ix3 0 p q)
      = iblk m c 6 t (ix3 0 p q) := by
  pointwise

/-- The second pair's tile of the absorbing weights. -/
theorem tile_qa1 (c : Dev nD) (t : Fin cfg0.N) (p : Fin 128) (q : Fin 512) :
    View.ld (iblk m c 6 t) (Rect.unit ![1, 0, 0] ![1, 128, 512] inb_S4x128x512_S1x128x512_1_0_0) (ix3 0 p q)
      = iblk m c 6 t (ix3 1 p q) := by
  pointwise

/-- The third pair's tile of the absorbing weights. -/
theorem tile_qa2 (c : Dev nD) (t : Fin cfg0.N) (p : Fin 128) (q : Fin 512) :
    View.ld (iblk m c 6 t) (Rect.unit ![2, 0, 0] ![1, 128, 512] inb_S4x128x512_S1x128x512_2_0_0) (ix3 0 p q)
      = iblk m c 6 t (ix3 2 p q) := by
  pointwise

/-- The fourth pair's tile of the absorbing weights. -/
theorem tile_qa3 (c : Dev nD) (t : Fin cfg0.N) (p : Fin 128) (q : Fin 512) :
    View.ld (iblk m c 6 t) (Rect.unit ![3, 0, 0] ![1, 128, 512] inb_S4x128x512_S1x128x512_3_0_0) (ix3 0 p q)
      = iblk m c 6 t (ix3 3 p q) := by
  pointwise

/-- A sum over a pair of heads' 128 rows, a head at a time. -/
theorem sum_halves (f : Fin 128 → EReal) :
    ∑ p, f p = ∑ d : Fin 64, f ⟨d.val, by omega⟩ + ∑ d : Fin 64, f ⟨64 + d.val, by omega⟩ :=
  Fin.sum_univ_add (a := 64) (b := 64) f

/-- The row against one column of a head's query. -/
theorem head_column (c : Dev nD) (t : Fin cfg0.N) (n : Fin 4) (h : Fin 8) (y : Fin 128) (d : Fin 64) (r : Fin 512)
    (hr : r.val = n.val * 128 + y.val) (i : Fin 6144) (hi : i.val = h.val * 64 + d.val) :
    (∑ k : Fin 1024, k0_pay6 (F := Ideal) (k0_pay5 (iblk m c 0 t) (iblk m c 1 t) (iblk m c 3 t)) (iblk m c 2 t) (ix2 r k)
        * iblk m c 4 t (ix2 k i) : EReal)
      = Cert.Reference4Ideal.Read.val_main_v32 (F := Ideal) (m ((c : Thread nD τ).loc main_arg0)) (m ((c : Thread nD τ).loc main_arg1))
    (m ((c : Thread nD τ).loc main_arg2)) (m ((c : Thread nD τ).loc main_arg3))
          (ix3 ⟨(t.val * 4 + n.val) / 64, by have : t.val < 32 := t.isLt; omega⟩
            ⟨(t.val * 4 + n.val) % 64 * 128 + y.val, by omega⟩ ⟨h.val * 64 + d.val, by omega⟩) := by
  refine (column m c t r i ⟨h.val * 64 + d.val, by omega⟩ fun k =>
    packed_qa _ k ⟨h.val * 64 + d.val, by omega⟩ i (by rw [hi]; exact (Nat.zero_add _).symm)).trans ?_
  congr 2
  · refine Fin.ext ?_
    show (t.val * 512 + r.val) / 8192 = (t.val * 4 + n.val) / 64
    omega
  · refine Fin.ext ?_
    show (t.val * 512 + r.val) % 8192 = (t.val * 4 + n.val) % 64 * 128 + y.val
    omega

/-- The absorbed query of the first head of a pair: the second head's rows meet zeros. -/
theorem block_first (c : Dev nD) (t : Fin cfg0.N) (n : Fin 4) (h : Fin 8) (y : Fin 128) (l : Fin 256) (r : Fin 512)
    (hr : r.val = n.val * 128 + y.val) (g : Fin 4) (hg : h.val = g.val * 2) (q : Fin 512) (hq : q.val = l.val)
    (i : Fin 128 → Fin 6144) (hi : ∀ p, (i p).val = g.val * 128 + p.val) :
    ((∑ p : Fin 128,
        (∑ k : Fin 1024, k0_pay6 (F := Ideal) (k0_pay5 (iblk m c 0 t) (iblk m c 1 t) (iblk m c 3 t)) (iblk m c 2 t) (ix2 r k)
          * iblk m c 4 t (ix2 k (i p)))
        * iblk m c 6 t (ix3 g p q)) * Ideal.ofBits FTy.f32 0x3E38AA3B#32 : EReal)
      = goal_qa m c (ix4 ⟨t.val * 4 + n.val, by have : t.val < 32 := t.isLt; omega⟩ h y l) := by
  unfold goal_qa
  rw [Cert.Reference4Ideal.Hand.result_qabs, sum_halves]
  refine congrArg (· * _) ((congrArg₂ (· + ·) (Finset.sum_congr rfl fun d _ => ?_)
    (Finset.sum_eq_zero fun d _ => ?_)).trans (add_zero _))
  · rw [head_column m c t n h y d r hr _ (by rw [hi]; show _ + d.val = _; omega), read6, entry_u,
      dif_pos (by show d.val < 64; omega), dif_pos (by omega), mul_comm]
    congr 2
    have hh : (⟨g.val * 2, by omega⟩ : Fin 8) = h := Fin.ext hg.symm
    have hl : (⟨q.val, by omega⟩ : Fin 256) = l := Fin.ext hq
    rw [hh, hl]
  · rw [read6, entry_u, dif_neg (by show ¬ 64 + d.val < 64; omega), dif_pos (by omega), mul_zero]

/-- The absorbed query of the second head of a pair: the first head's rows meet zeros. -/
theorem block_second (c : Dev nD) (t : Fin cfg0.N) (n : Fin 4) (h : Fin 8) (y : Fin 128) (l : Fin 256) (r : Fin 512)
    (hr : r.val = n.val * 128 + y.val) (g : Fin 4) (hg : h.val = g.val * 2 + 1) (q : Fin 512) (hq : q.val = 256 + l.val)
    (i : Fin 128 → Fin 6144) (hi : ∀ p, (i p).val = g.val * 128 + p.val) :
    ((∑ p : Fin 128,
        (∑ k : Fin 1024, k0_pay6 (F := Ideal) (k0_pay5 (iblk m c 0 t) (iblk m c 1 t) (iblk m c 3 t)) (iblk m c 2 t) (ix2 r k)
          * iblk m c 4 t (ix2 k (i p)))
        * iblk m c 6 t (ix3 g p q)) * Ideal.ofBits FTy.f32 0x3E38AA3B#32 : EReal)
      = goal_qa m c (ix4 ⟨t.val * 4 + n.val, by have : t.val < 32 := t.isLt; omega⟩ h y l) := by
  unfold goal_qa
  rw [Cert.Reference4Ideal.Hand.result_qabs, sum_halves]
  refine congrArg (· * _) ((congrArg₂ (· + ·) (Finset.sum_eq_zero fun d _ => ?_)
    (Finset.sum_congr rfl fun d _ => ?_)).trans (zero_add _))
  · rw [read6, entry_u, dif_pos (by show d.val < 64; omega), dif_neg (by omega), mul_zero]
  · rw [head_column m c t n h y d r hr _ (by rw [hi]; show _ + (64 + d.val) = _; omega), read6, entry_u,
      dif_neg (by show ¬ 64 + d.val < 64; omega), dif_neg (by omega), mul_comm]
    congr 2
    have hh : (⟨g.val * 2 + 1, by omega⟩ : Fin 8) = h := Fin.ext hg.symm
    have hl : (⟨q.val - 256, by omega⟩ : Fin 256) = l := Fin.ext (by show q.val - 256 = l.val; omega)
    have hd : (⟨64 + d.val - 64, by omega⟩ : Fin 64) = d := Fin.ext (by show 64 + d.val - 64 = d.val; omega)
    rw [hh, hl, hd]

set_option maxHeartbeats 4000000 in
/-- The absorbed queries. -/
theorem final_qa (c : Dev nD) : (dats m 0 c).arrAt 9 cfg0.N = goal_qa m c := by
  refine (dats m 0 c).arrAt_eq_of_covers 9 _ (by decide +kernel) fun t hf y => ?_
  blk_simp
  rw [after0_9]
  by_cases h0 : t.val % 16 = 0
  · rw [outsAt0_A m c t h0]
    frame_out
    idx_vars y
    rw [place_qa]
    canon_tiles x e
    all_goals
      idx_vars x
      obtain rfl : x1 = 0 := Subsingleton.elim _ _
      first
        | rw [stored_qa0] | rw [stored_qa1] | rw [stored_qa2] | rw [stored_qa3]
        | rw [stored_qa4] | rw [stored_qa5] | rw [stored_qa6] | rw [stored_qa7]
      simp only [stretch_qa, tile_qa0, tile_qa1, tile_qa2, tile_qa3]
      first
        | refine block_first m c t y0 y1 y2 y3 _ ?_ _ ?_ _ ?_ _ fun p => ?_ <;> (try dsimp only) <;> omega
        | refine block_second m c t y0 y1 y2 y3 _ ?_ _ ?_ _ ?_ _ fun p => ?_ <;> (try dsimp only) <;> omega
  · rw [outsAt0_B m c t h0]
    frame_out
    idx_vars y
    rw [place_qa]
    canon_tiles x e
    all_goals
      idx_vars x
      obtain rfl : x1 = 0 := Subsingleton.elim _ _
      first
        | rw [stored_qa0] | rw [stored_qa1] | rw [stored_qa2] | rw [stored_qa3]
        | rw [stored_qa4] | rw [stored_qa5] | rw [stored_qa6] | rw [stored_qa7]
      simp only [stretch_qa, tile_qa0, tile_qa1, tile_qa2, tile_qa3]
      first
        | refine block_first m c t y0 y1 y2 y3 _ ?_ _ ?_ _ ?_ _ fun p => ?_ <;> (try dsimp only) <;> omega
        | refine block_second m c t y0 y1 y2 y3 _ ?_ _ ?_ _ ?_ _ fun p => ?_ <;> (try dsimp only) <;> omega

end Cert.Kernel4Ideal.Hand

end
-- ==== Proof.MixClaim.lean ====
/-
  The input projection's value claim: run side by side, the kernel and the plain projection end with the same eleven results.
-/
module

public import proofs.«01_k».proof.Proof.MixGates
public import proofs.«01_k».proof.Proof.MixSmall
public import proofs.«01_k».proof.Proof.MixLatent
public import proofs.«01_k».proof.Proof.MixTransposed
public import proofs.«01_k».proof.Proof.MixQueries
public import proofs.«01_k».proof.Proof.MixAbsorbed
public import proofs.«01_k».proof.Proof.Gen.Reference4Ideal.Run

@[expose] public section

noncomputable section

open Idealize.ShloMosaic Idealize.ShloMosaic.TcCoe Idealize.SL.Sem

namespace Cert.Proof

open Cert.Kernel4Ideal.Hand Cert.Reference4Ideal.Read

set_option maxHeartbeats 4000000 in
theorem mix_algebraic : Cert.algebraic_Kernel4Ideal_Reference4Ideal := by
  pair_intro
  · run_from Cert.Kernel4Ideal.Value.run_blocks m g
  · run_from Cert.Reference4Ideal.Value.run m' g'
    · exact (val_main_v80_eq (F := Ideal) _ _ _ _ _).trans (final_qa m c).symm
    · exact (val_main_v81_eq (F := Ideal) _ _ _ _).trans (final_qi m c).symm
    · exact (val_main_v83_eq (F := Ideal) _ _ _ _).trans (final_k m c).symm
    · rw [final_ckv m c, val_main_v85_eq m' c]
      unfold goal_ckv
      obtain ⟨a0, a1, a2, a3, -, -, a6, -⟩ := hagree c
      rw [a0, a1, a2, a3, a6]
    · rw [final_ckvt m c, val_main_v95_eq m' c]
      unfold goal_ckvt
      obtain ⟨a0, a1, a2, a3, -, -, a6, -⟩ := hagree c
      rw [a0, a1, a2, a3, a6]
    · exact (val_main_v62_eq (F := Ideal) _ _ _ _).trans (final_w m c).symm
    · exact (val_main_v79_eq (F := Ideal) _ _ _ _).trans (final_ift m c).symm
    · exact (val_main_v87_eq (F := Ideal) _ _ _ _).trans (final_v m c).symm
    · exact (val_main_v88_eq (F := Ideal) _ _ _ _).trans (final_o m c).symm
    · exact (val_main_v89_eq (F := Ideal) _ _ _ _).trans (final_ga m c).symm
    · exact (val_main_v90_eq (F := Ideal) _ _ _ _).trans (final_gm m c).symm

end Cert.Proof

end
-- ==== Proof.Modulation.lean ====
/-
  The modulation at the ideal instance: the kernel's nine tiles of 1024 columns are the plain product's columns. The host
  code sets the two rows of the condition above six rows of zeros by a scatter, the reference by a padding (`rows_set`,
  `rows_padded`).
-/
module

public import proofs.«01_k».proof.Defs
public import proofs.«01_k».proof.Proof.Gen.Kernel5Ideal.Value
public import proofs.«01_k».proof.Proof.Gen.Reference5Ideal.Read
public import proofs.«01_k».proof.Proof.Gen.Reference5Ideal.Run
public import Idealize.ShloMosaic.Lib.Routing.OpsPair
public import Idealize.ShloMosaic.Lib.Routing.OpsSet
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference5Ideal.Hand

open Cert.Reference5Ideal Cert.Reference5Ideal.Gen Cert.Reference5Ideal.Read

/-- A whole number zero, as the padding converts it, is zero. -/
theorem converted_zero : (FloatOps.sitofp FTy.f32 (0#32 : BitVec 32) : Ideal .f32) = 0 := by
  show (((0#32 : BitVec 32).toInt : ℝ) : EReal) = 0
  simp

/-- The condition above six rows of zeros, at an index. -/
theorem rows_padded (x0 : Vec Ideal S2x1024 .f32) (b : Fin 8) (k : Fin 1024) :
    val_main_v0 (F := Ideal) x0 (ix2 b k) = if h : b.val < 2 then x0 (ix2 ⟨b.val, h⟩ k) else (0 : Ideal .f32) := by
  pointwise [val_main_v0, val_main_call0_v0, val_main_c]
  rw [converted_zero]

/-- The plain product at an index. -/
theorem result (x0 : Vec Ideal S2x1024 .f32) (x1 : Vec Ideal S1x1024x9216 .f32) (x2 : Vec Ideal S1x9216 .f32)
    (b : Fin 8) (l : Fin 9216) :
    val_main_v7 (F := Ideal) x0 x1 x2 (ix2 b l) =
      (∑ k, val_main_v0 (F := Ideal) x0 (ix2 b k)
          * Ideal.div 1 (1 + Ideal.exp (0 - val_main_v0 (F := Ideal) x0 (ix2 b k))) * x1 (ix3 0 k l)) + x2 (ix2 0 l) := by
  pointwise [val_main_call1_v0, val_main_call1_v1, val_main_call1_cst, val_main_call1_v2, val_main_call1_v3,
    val_main_call1_cst_0, val_main_call1_v4, val_main_call1_v5, val_main_v1, val_main_v2, val_main_v3, val_main_v4,
    val_main_v5, val_main_v6, val_main_v7]
  simp only [zero_sub]

end Cert.Reference5Ideal.Hand

namespace Cert.Kernel5Ideal.Hand

open Cert.Kernel5Ideal Cert.Kernel5Ideal.Gen Cert.Kernel5Ideal.Value

/-- An entry of two rows set at row zero of eight lands on its own row and column. -/
theorem lands (idx : IVec S1 32) (hidx : ∀ i, idx i = 0#32) (b : Fin 2) (k : Fin 1024) (r : Fin 8) (l : Fin 1024) :
    scatter_S8x1024_S1_S2x1024_01_n_0_0.resultIdx? (ix2 b k) idx = some (ix2 r l) ↔ b.val = r.val ∧ k = l := by
  have hstart0 : scatter_S8x1024_S1_S2x1024_01_n_0_0.start (ix2 b k) idx 0 = 0 := by
    unfold ScatterDims.start
    rw [dif_pos (by decide), hidx]
    rfl
  have hstart1 : scatter_S8x1024_S1_S2x1024_01_n_0_0.start (ix2 b k) idx 1 = 0 := by
    unfold ScatterDims.start
    rw [dif_neg (by decide)]
  have hwin0 : scatter_S8x1024_S1_S2x1024_01_n_0_0.window (ix2 b k) 0 = b.val := rfl
  have hwin1 : scatter_S8x1024_S1_S2x1024_01_n_0_0.window (ix2 b k) 1 = k.val := rfl
  refine (Routing.resultIdx?_ix2 (R := 8) (C := 1024) scatter_S8x1024_S1_S2x1024_01_n_0_0 (ix2 b k) idx r l).trans ?_
  show scatter_S8x1024_S1_S2x1024_01_n_0_0.start (ix2 b k) idx 0
        + (scatter_S8x1024_S1_S2x1024_01_n_0_0.window (ix2 b k) 0 : Int) = (r.val : Int)
      ∧ scatter_S8x1024_S1_S2x1024_01_n_0_0.start (ix2 b k) idx 1
        + (scatter_S8x1024_S1_S2x1024_01_n_0_0.window (ix2 b k) 1 : Int) = (l.val : Int) ↔ _
  rw [Fin.ext_iff (a := k), hstart0, hstart1, hwin0, hwin1]
  omega

/-- Two rows set at row zero of eight, at an index. -/
theorem rows_set (x : Vec Ideal S8x1024 .f32) (idx : IVec S1 32) (hidx : ∀ i, idx i = 0#32) (u : Vec Ideal S2x1024 .f32)
    (b : Fin 8) (k : Fin 1024) :
    Host.scatter scatter_S8x1024_S1_S2x1024_01_n_0_0 (fun _ b => b) x idx u (ix2 b k)
      = if h : b.val < 2 then u (ix2 ⟨b.val, h⟩ k) else x (ix2 b k) := by
  by_cases h : b.val < 2
  · rw [dif_pos h]
    refine Routing.scatter_set_hit _ x idx u _ _ (fun j hj => ?_) (ix2 ⟨b.val, h⟩ k) ((lands idx hidx _ k b k).2 ⟨rfl, rfl⟩)
    idx_vars j
    obtain ⟨e0, e1⟩ := (lands idx hidx _ _ b k).1 hj
    rw [e1]
    exact congrArg (fun y => u (ix2 y k)) (Fin.ext e0)
  · rw [dif_neg h]
    refine Routing.scatter_set_miss _ x idx u _ fun j hj => h ?_
    idx_vars j
    obtain ⟨e0, -⟩ := (lands idx hidx _ _ b k).1 hj
    rw [← e0]
    exact j0.isLt

variable (m : (ℓ : Loc nD τ sig) → Buf (Elt Ideal) ℓ)

/-- Which block of its array each window is on at a grid point. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The reference's result at the kernel's arguments. -/
abbrev goal (c : Dev nD) : S8x9216.Idx → EReal :=
  Cert.Reference5Ideal.Read.val_main_v7 (F := Ideal) (m ((c : Thread nD τ).loc main_arg0)) (m ((c : Thread nD τ).loc main_arg1))
    (m ((c : Thread nD τ).loc main_arg2))

/-- The column of the whole array that column `l` of point `t`'s block is. -/
abbrev colOf (t : Fin cfg0.N) (l : Fin 1024) : Fin 9216 :=
  ⟨t.val * 1024 + l.val, by have : t.val < 9 := t.isLt; omega⟩

/-- The condition as the kernel finds it: two rows above six of zeros. -/
theorem entry_c (c : Dev nD) (b : Fin 8) (k : Fin 1024) :
    V m c main_v4 (ix2 b k) = Cert.Reference5Ideal.Read.val_main_v0 (F := Ideal) (m ((c : Thread nD τ).loc main_arg0)) (ix2 b k) := by
  rw [Cert.Reference5Ideal.Hand.rows_padded]
  after_reads_simp
  refine (rows_set _ _ (fun i => rfl) _ b k).trans ?_
  pointwise

/-- The condition, resident in every point's block. -/
theorem read0 (c : Dev nD) (t : Fin cfg0.N) (b : Fin 8) (k : Fin 1024) :
    iblk m c 0 t (ix2 b k) = Cert.Reference5Ideal.Read.val_main_v0 (F := Ideal) (m ((c : Thread nD τ).loc main_arg0)) (ix2 b k) := by
  have he : ((View.whole main_v4).slice (win0_0.rect t)).emb (ix2 b k) = ix2 b k := by
    funext a
    match a with
    | ⟨0, _⟩ => exact Fin.ext (by blk_simp [idx t])
    | ⟨1, _⟩ => exact Fin.ext (by blk_simp [idx t])
  blk_simp [iblk]
  rw [he, entry_c]

/-- The weights' tile at a grid point. -/
theorem read1 (c : Dev nD) (t : Fin cfg0.N) (k l : Fin 1024) :
    iblk m c 1 t (ix2 k l) = m ((c : Thread nD τ).loc main_arg1) (ix3 0 k (colOf t l)) := by
  have ht : t.val < 9 := t.isLt
  blk_ext! [iblk, V, idx t]

/-- The bias's tile at a grid point. -/
theorem read2 (c : Dev nD) (t : Fin cfg0.N) (l : Fin 1024) :
    iblk m c 2 t (ix2 0 l) = m ((c : Thread nD τ).loc main_arg2) (ix2 0 (colOf t l)) := by
  have ht : t.val < 9 := t.isLt
  blk_ext! [iblk, V, idx t]

/-- Where an element of point `t`'s output block lies in the whole array. -/
theorem place (t : Fin cfg0.N) (b : Fin 8) (l : Fin 1024) :
    ((View.whole main_v6).slice (win0_3.rect t)).emb (ix2 b l) = ix2 b (colOf t l) := by
  funext a
  match a with
  | ⟨0, _⟩ => exact Fin.ext (by blk_simp [idx t])
  | ⟨1, _⟩ => exact Fin.ext (by blk_simp [idx t])

/-- The result array after the run is the reference's. -/
theorem final (c : Dev nD) : (dats m 0 c).arrAt 3 cfg0.N = goal m c := by
  refine (dats m 0 c).arrAt_eq_of_covers 3 _ (by decide +kernel) fun t hf y => ?_
  blk_simp
  rw [after0_3]
  frame_out
  idx_vars y
  rw [place]
  unfold goal
  rw [Cert.Reference5Ideal.Hand.result]
  pointwise [k0_pay1]
  simp only [read0, read1, read2]

end Cert.Kernel5Ideal.Hand

namespace Cert.Proof

/-- The modulation's value claim: run side by side, the kernel and the plain product end with one result. -/
theorem modulation_algebraic : Cert.algebraic_Kernel5Ideal_Reference5Ideal := by
  pair_intro
  · run_from Cert.Kernel5Ideal.Value.run_blocks m g
  · run_from Cert.Reference5Ideal.Value.run m' g'
    exact (Cert.Reference5Ideal.Read.val_main_v7_eq (F := Ideal) _ _ _).trans (Cert.Kernel5Ideal.Hand.final m c).symm

end Cert.Proof

end
-- ==== Proof.Memory.lean ====
/-
  The matrix memory's call: its frame, at any float values. At each of the 32 points the body loads from its six staged
  inputs, stores into its staged output and keeps its two scratch buffers, one half of each per batch; at the first point it
  clears them. `safe_mlstm` takes it through its text from what owns those, and the frame of both programs follows, their text
  being the same. Nothing is said of what is left in the output or in the scratch.
-/
module

public import proofs.«01_k».proof.Proof.Safe
public import proofs.«01_k».proof.Proof.Gen.Kernel6Ideal.Frame
public import proofs.«01_k».proof.Kernel6Ideal

@[expose] public section

-- the body is some fourteen hundred operations of straight-line text, gone through in one proof
set_option maxRecDepth 100000
set_option maxHeartbeats 0

noncomputable section

namespace Cert.Kernel6Ideal.Hand

open Cert.Hand Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The body runs to its end from any resource that owns its operands, and hands it back. -/
theorem safe_mlstm [Facts] {c : Dev nD} {R : Res nD τ sig (Elt F)} (i : grid0.Coords)
    (arg1 : Memref sig .tc .vmem S2x256x1024 .bf16) (harg1 : arg1.IsWhole)
    (arg2 : Memref sig .tc .vmem S2x256x512 .bf16) (harg2 : arg2.IsWhole)
    (arg3 : Memref sig .tc .vmem S2x256x512 .f32) (harg3 : arg3.IsWhole)
    (arg4 : Memref sig .tc .vmem S2x8x256 .f32) (harg4 : arg4.IsWhole)
    (arg5 : Memref sig .tc .vmem S8x256 .f32) (harg5 : arg5.IsWhole)
    (arg6 : Memref sig .tc .vmem S1x512 .f32) (harg6 : arg6.IsWhole)
    (arg7 : Memref sig .tc .vmem S2x256x512 .bf16) (harg7 : arg7.IsWhole)
    (arg8 : Memref sig .tc .vmem S2x4x128x256 .f32) (harg8 : arg8.IsWhole)
    (arg9 : Memref sig .tc .vmem S2x8x1 .f32) (harg9 : arg9.IsWhole)
    (h1 : Reads c R arg1)
    (h2 : Reads c R arg2)
    (h3 : Reads c R arg3)
    (h4 : Reads c R arg4)
    (h5 : Reads c R arg5)
    (h6 : Reads c R arg6)
    (w7 : Writes c R arg7)
    (w8 : Writes c R arg8)
    (w9 : Writes c R arg9) :
    Safe (defs₀ (F := F)) c R (cc0_mlstm i arg1 harg1 arg2 harg2 arg3 harg3 arg4 harg4 arg5 harg5 arg6 harg6 arg7 harg7 arg8 harg8 arg9 harg9) := by
  have h7 := w7.reads
  have h8 := w8.reads
  have h9 := w9.reads
  unfold cc0_mlstm
  repeat' (first
    | with_reducible exact Safe.load (by assumption)
    | with_reducible exact Safe.store (by assumption)
    | with_reducible exact Safe.load (.squeeze (.slice (by assumption)))
    | with_reducible exact Safe.store (.squeeze (.slice (by assumption)))
    | with_reducible exact Safe.load (.squeeze (.slice (.squeeze (.slice (by assumption)))))
    | with_reducible exact Safe.store (.squeeze (.slice (.squeeze (.slice (by assumption)))))
    | with_reducible exact Safe.pure _
    | with_reducible refine Safe.bind ?_ fun _ => ?_
    | with_reducible refine Safe.dite (fun _ => ?_) (fun _ => ?_)
    | with_reducible refine Safe.ite ?_ ?_
    | refine Safe.bind ?_ fun _ => ?_
    | exact Safe.pure _
    | refine Safe.dite (fun _ => ?_) (fun _ => ?_))

variable (m : (ℓ : Loc nD τ sig) → Buf (Elt F) ℓ) (ρ : Dev nD → PrngReg)

/-- The output's window is forgotten: nothing here reads what the body leaves in it. -/
def forgets0 : Fin 7 → Bool := fun w => w.val == 6

/-- Each input's buffer holds its block before and after every point; the output's is not named; between the points the
    scratch and the generator register are at some contents; nothing is owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`. -/
def bodyPre (c : Dev nD) (t : Fin cfg0.N) : Res nD τ sig (Elt F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare d))

/-- What it runs with and returns: the same, each input's contents named. -/
def held (c : Dev nD) (t : Fin cfg0.N) : Res nD τ sig (Elt F) :=
  iprop(Pipeline.ΦA spec0 c ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ (∃ d, owns (c : Thread nD τ) (win0_6.stage (cfg0.slots t 6)) fullShare d))

theorem bodyPre_held (c : Dev nD) (t : Fin cfg0.N) : bodyPre m c t ⊢ held m c t := by
  unfold bodyPre held
  rw [show (dats m 0 c).Φ t.castSucc = Pipeline.ΦA spec0 c from rfl]
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl)]
  iintro ⟨HP, HO, ⟨%d0, H0⟩, ⟨%d1, H1⟩, ⟨%d2, H2⟩, ⟨%d3, H3⟩, ⟨%d4, H4⟩, ⟨%d5, H5⟩, H6⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body at the point. -/
theorem sound_body (c : Dev nD) (t : Fin cfg0.N) :
    bodyPre m c t ⊢ wp frame (wpE (defs₀ (F := F)) Variants.none (c : Thread nD τ) none) Set.univ (bodyAt0 t) (fun _ => held m c t) := by
  refine (bodyPre_held m c t).trans ?_
  have key : Safe (defs₀ (F := F)) c (held m c t) (bodyAt0 t) := by
    unfold bodyAt0 held
    rw [Pipeline.ΦA, scopedRest0_eq]
    refine safe_mlstm _ _ _ _ _ _ _ _ _ _ _ _ _ _ _ _ _ _ _
      (.right (.right (.left .owned)))
      (.right (.right (.right (.left .owned))))
      (.right (.right (.right (.right (.left .owned)))))
      (.right (.right (.right (.right (.right (.left .owned))))))
      (.right (.right (.right (.right (.right (.right (.left .owned)))))))
      (.right (.right (.right (.right (.right (.right (.right (.left .owned))))))))
      (.right (.right (.right (.right (.right (.right (.right (.right (.owned)))))))))
      (.left (.left (.left .whole)))
      (.left (.left (.right .whole)))
  exact key

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this statement, which unifies only
-- when unification may unfold plain definitions in a metavariable's type
set_option backward.isDefEq.respectTransparency.types false in
/-- Every weakly fair execution ends with every staged input and every array no window stages as the region found it, and
    every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments are as they were launched, and every counter is at zero. -/
theorem run_args :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel6Ideal.Hand

end
-- ==== Proof.MemoryClaim.lean ====
/-
  The matrix memory's two frames: of the call at the ideal instance, and of the call as it is, whose text is the same.
-/
module

public import proofs.«01_k».proof.Proof.Memory
public import proofs.«01_k».proof.Proof.Gen.Kernel6
public import proofs.«01_k».proof.Defs

@[expose] public section

-- the two programs' bodies are compared window by window
set_option maxRecDepth 100000
set_option maxHeartbeats 1000000

noncomputable section

open Idealize.ShloMosaic Idealize.ShloMosaic.TcCoe Idealize.SL.Sem

namespace Cert.Proof

attribute [local instance] Cert.Kernel6.Gen.facts Cert.Kernel6Ideal.Gen.facts

/-- The two programs' body tables hold the same body. -/
theorem memory_body : Cert.Kernel6.defs₀ (F := Bits) = Cert.Kernel6Ideal.defs₀ (F := Bits) := by
  unfold Cert.Kernel6.defs₀ Cert.Kernel6Ideal.defs₀
  congr 1
  funext l a
  match l, a with
  | 0, a => rfl

theorem memory_defs : Cert.Kernel6.defs (F := Bits) = Cert.Kernel6Ideal.defs (F := Bits) := by
  unfold Cert.Kernel6.defs Cert.Kernel6Ideal.defs
  rw [memory_body]
  rfl

/-- The frame at the ideal instance. -/
theorem frame_kernel6_ideal : Cert.quiescent_Kernel6Ideal := fun m ρ _ => Cert.Kernel6Ideal.Hand.run_args m ρ

/-- The frame of the call as it is, from the same run over float words. -/
theorem frame_kernel6 : Cert.quiescent_Kernel6 := fun m ρ _ => by
  rw [memory_defs]
  exact Cert.Kernel6Ideal.Hand.run_args (F := Bits) m ρ

end Cert.Proof

end
-- ==== Proof.Frames.lean ====
/-
  The frames of the two plain feed-forwards, of the plain input projection and of the plain modulation, from their runs.
-/
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Lib.Claim
public import Idealize.ShloMosaic.Lib.Quiescent

@[expose] public section

open Idealize.ShloMosaic Idealize.ShloMosaic.TcCoe Idealize.SL.Sem

namespace Cert.Proof

theorem frame_reference2 : Cert.quiescent_Reference2Ideal := fun m ρ _ =>
  θ_run_mono (Cert.Reference2Ideal.Value.run (F := Ideal) m ρ) fun _ h => ⟨fun c => (h c).2, sem_eq_zero_of_no_sems (by decide) _⟩

theorem frame_reference3 : Cert.quiescent_Reference3Ideal := fun m ρ _ =>
  θ_run_mono (Cert.Reference3Ideal.Value.run (F := Ideal) m ρ) fun _ h => ⟨fun c => (h c).2, sem_eq_zero_of_no_sems (by decide) _⟩

theorem frame_reference4 : Cert.quiescent_Reference4Ideal := fun m ρ _ =>
  θ_run_mono (Cert.Reference4Ideal.Value.run (F := Ideal) m ρ) fun _ h =>
    ⟨fun c => (h c).2.2.2.2.2.2.2.2.2.2.2, sem_eq_zero_of_no_sems (by decide) _⟩

theorem frame_reference5 : Cert.quiescent_Reference5Ideal := fun m ρ _ =>
  θ_run_mono (Cert.Reference5Ideal.Value.run (F := Ideal) m ρ) fun _ h => ⟨fun c => (h c).2, sem_eq_zero_of_no_sems (by decide) _⟩

end Cert.Proof

end
-- ==== Proof.lean ====
/-
  The claim about the layer's seven calls: the frames of the attention call (`Attention`), of the matrix memory (`MemoryClaim`)
  and of the bias tables, and for the two feed-forward calls, the input projection and the modulation the frames, the unchanged
  text at the ideal instance and the value against the plain computation (`FeedClaim`, `FinalClaim`, `MixClaim`, `Modulation`).
-/
module

public import proofs.«01_k».proof.Defs
public import proofs.«01_k».proof.Proof.Attention
public import proofs.«01_k».proof.Proof.FeedClaim
public import proofs.«01_k».proof.Proof.FinalClaim
public import proofs.«01_k».proof.Proof.MixClaim
public import proofs.«01_k».proof.Proof.Modulation
public import proofs.«01_k».proof.Proof.MemoryClaim
public import proofs.«01_k».proof.Proof.Frames
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame

@[expose] public section

namespace Cert.Proof

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts,
    Cert.Kernel7.Gen.facts, Cert.Kernel7Ideal.Gen.facts,
    Cert.Kernel.Hand.frame_kernel,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    frame_kernel6, frame_kernel6_ideal,
    fun m ρ _ => Cert.Kernel7.Gen.frame m ρ, fun m ρ _ => Cert.Kernel7Ideal.Gen.frame m ρ,
    trivial, final_algebraic, trivial, feed_algebraic, trivial, mix_algebraic, trivial, modulation_algebraic, trivial, trivial⟩

end Cert.Proof

end
